-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v9_0)) (v1 : (c : Dev Cert.InprojIdeal.nD) → Buf (Elt Ideal) ((c.tc : Thread Cert.InprojIdeal.nD Cert.InprojIdeal.τ).loc Cert.InprojIdeal.main_v9_1)) (v2 : (c : Dev Cert.InprojIdeal.nD) → Buf (Elt Ideal) ((c.tc : Thread Cert.InprojIdeal.nD Cert.InprojIdeal.τ).loc Cert.InprojIdeal.main_v9_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9_0) = v0 c
          ∧ r.2.mem ((c.tc : Thread Cert.InprojIdeal.nD Cert.InprojIdeal.τ).loc Cert.InprojIdeal.main_v9_1) = v1 c
          ∧ r.2.mem ((c.tc : Thread Cert.InprojIdeal.nD Cert.InprojIdeal.τ).loc Cert.InprojIdeal.main_v9_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v78) = v0 c
          ∧ r.2.mem ((c.tc : Thread Cert.InprojRefIdeal.nD Cert.InprojRefIdeal.τ).loc Cert.InprojRefIdeal.main_v79) = v1 c
          ∧ r.2.mem ((c.tc : Thread Cert.InprojRefIdeal.nD Cert.InprojRefIdeal.τ).loc Cert.InprojRefIdeal.main_v81) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)) →
    ∃ (v0 : (c : Dev Cert.OutprojIdeal.nD) → Buf (Elt Ideal) ((c.tc : Thread Cert.OutprojIdeal.nD Cert.OutprojIdeal.τ).loc Cert.OutprojIdeal.main_v0_0)) (v1 : (c : Dev Cert.OutprojIdeal.nD) → Buf (Elt Ideal) ((c.tc : Thread Cert.OutprojIdeal.nD Cert.OutprojIdeal.τ).loc Cert.OutprojIdeal.main_v0_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0_0) = v0 c
          ∧ r.2.mem ((c.tc : Thread Cert.OutprojIdeal.nD Cert.OutprojIdeal.τ).loc Cert.OutprojIdeal.main_v0_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v51) = v0 c
          ∧ r.2.mem ((c.tc : Thread Cert.OutprojRefIdeal.nD Cert.OutprojRefIdeal.τ).loc Cert.OutprojRefIdeal.main_v53) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
-- ==== Pre_finite.lean ====
abbrev S16384x3584 : Shape := ⟨2, ![16384, 3584]⟩
abbrev S64x16x256 : Shape := ⟨3, ![64, 16, 256]⟩
abbrev S1x512 : Shape := ⟨2, ![1, 512]⟩
abbrev S_ : Shape := ⟨0, ![]⟩

class Facts : Prop where
  bitsLt_bf16_f32 : FTy.bits .bf16 < FTy.bits .f32
  bcast_S_S16384x3584 : S_.BroadcastsInDim S16384x3584 (![] : Fin 0 → Fin S16384x3584.rank)
  bcast_S_S64x16x256 : S_.BroadcastsInDim S64x16x256 (![] : Fin 0 → Fin S64x16x256.rank)

variable [Facts]

def fn {F : FTy → Type} [FloatOps F] (main_arg0 : FVec F S16384x3584 .bf16) (main_arg1 : FVec F S64x16x256 .f32) (main_arg2 : FVec F S1x512 .f32) : IVec S16384x3584 1 × IVec S64x16x256 1 :=
  let main_v0 : FVec F S16384x3584 .f32 := (extf .f32 · bitsLt_bf16_f32) main_arg0
  let main_v1 : FVec F S16384x3584 .f32 := Host.absf main_v0
  let main_cst : FVec F S_ .f32 := constant S_ .f32 0x7F800000#32
  let main_v2 : FVec F S16384x3584 .f32 := broadcastInDim S16384x3584 ![] bcast_S_S16384x3584 main_cst
  let main_v3 : IVec S16384x3584 1 := cmpf .olt main_v1 main_v2
  let main_v4 : FVec F S64x16x256 .f32 := Host.absf main_arg1
  let main_cst_0 : FVec F S_ .f32 := constant S_ .f32 0x7F800000#32
  let main_v5 : FVec F S64x16x256 .f32 := broadcastInDim S64x16x256 ![] bcast_S_S64x16x256 main_cst_0
  let main_v6 : IVec S64x16x256 1 := cmpf .olt main_v4 main_v5
  (main_v3, main_v6)
-- ==== Kernel.lean ====
abbrev S16384x3584 : Shape := ⟨2, ![16384, 3584]⟩
abbrev S64x16x256 : Shape := ⟨3, ![64, 16, 256]⟩
abbrev S1x512 : Shape := ⟨2, ![1, 512]⟩
abbrev S256x256 : Shape := ⟨2, ![256, 256]⟩
abbrev S_ : Shape := ⟨0, ![]⟩
abbrev S8x2048x3584 : Shape := ⟨3, ![8, 2048, 3584]⟩
abbrev S8x8x16x256 : Shape := ⟨4, ![8, 8, 16, 256]⟩
abbrev S256x1024 : Shape := ⟨2, ![256, 1024]⟩
abbrev S8x2048x512 : Shape := ⟨3, ![8, 2048, 512]⟩
abbrev S4x512x1024 : Shape := ⟨3, ![4, 512, 1024]⟩
abbrev S4x2x16x256 : Shape := ⟨4, ![4, 2, 16, 256]⟩
abbrev S4x512x512 : Shape := ⟨3, ![4, 512, 512]⟩
abbrev S16x128x256 : Shape := ⟨3, ![16, 128, 256]⟩
abbrev S8x256x128 : Shape := ⟨3, ![8, 256, 128]⟩
abbrev S8x8x256 : Shape := ⟨3, ![8, 8, 256]⟩
abbrev S4x8x128 : Shape := ⟨3, ![4, 8, 128]⟩
abbrev S256x128 : Shape := ⟨2, ![256, 128]⟩
abbrev S96x256 : Shape := ⟨2, ![96, 256]⟩
abbrev S1x1x8x256 : Shape := ⟨4, ![1, 1, 8, 256]⟩
abbrev S8x256 : Shape := ⟨2, ![8, 256]⟩
abbrev S64x256 : Shape := ⟨2, ![64, 256]⟩
abbrev S1x8x128 : Shape := ⟨3, ![1, 8, 128]⟩
abbrev S8x128 : Shape := ⟨2, ![8, 128]⟩
abbrev S8x1 : Shape := ⟨2, ![8, 1]⟩
abbrev S1x8x256 : Shape := ⟨3, ![1, 8, 256]⟩
abbrev S128x256 : Shape := ⟨2, ![128, 256]⟩
abbrev S1x256x128 : Shape := ⟨3, ![1, 256, 128]⟩
abbrev S1x128x256 : Shape := ⟨3, ![1, 128, 256]⟩
abbrev S1x256 : Shape := ⟨2, ![1, 256]⟩
abbrev S256x1 : Shape := ⟨2, ![256, 1]⟩
abbrev S256 : Shape := ⟨1, ![256]⟩
abbrev S1x128 : Shape := ⟨2, ![1, 128]⟩

abbrev nBuf : Space → Nat
  | .hbm => 95
  | .vmem => 16
  | .smem => 0
  | _ => 0

abbrev bufTy : (tb : Table) → Fin (tcTables nBuf tb) → BufTy
  | .hbm, ⟨0, _⟩ => ⟨S16384x3584, .bf16⟩
  | .hbm, ⟨1, _⟩ => ⟨S64x16x256, .f32⟩
  | .hbm, ⟨2, _⟩ => ⟨S1x512, .f32⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S_, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S8x2048x3584, .bf16⟩
  | .hbm, ⟨12, _⟩ => ⟨S8x8x16x256, .f32⟩
  | .hbm, ⟨13, _⟩ => ⟨S256x1024, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S256x1024, .i32⟩
  | .hbm, ⟨21, _⟩ => ⟨S256x1024, .i32⟩
  | .hbm, ⟨22, _⟩ => ⟨S_, .i32⟩
  | .hbm, ⟨23, _⟩ => ⟨S256x1024, .i32⟩
  | .hbm, ⟨24, _⟩ => ⟨S256x1024, .i1⟩
  | .hbm, ⟨25, _⟩ => ⟨S_, .i32⟩
  | .hbm, ⟨26, _⟩ => ⟨S256x1024, .i32⟩
  | .hbm, ⟨27, _⟩ => ⟨S256x1024, .i1⟩
  | .hbm, ⟨28, _⟩ => ⟨S_, .i32⟩
  | .hbm, ⟨29, _⟩ => ⟨S_, .i1⟩
  | .hbm, ⟨30, _⟩ => ⟨S256x1024, .i1⟩
  | .hbm, ⟨31, _⟩ => ⟨S256x1024, .i1⟩
  | .hbm, ⟨32, _⟩ => ⟨S256x1024, .i1⟩
  | .hbm, ⟨33, _⟩ => ⟨S256x1024, .i32⟩
  | .hbm, ⟨34, _⟩ => ⟨S256x1024, .i32⟩
  | .hbm, ⟨35, _⟩ => ⟨S256x1024, .i32⟩
  | .hbm, ⟨36, _⟩ => ⟨S256x1024, .i32⟩
  | .hbm, ⟨37, _⟩ => ⟨S_, .i32⟩
  | .hbm, ⟨38, _⟩ => ⟨S_, .i32⟩
  | .hbm, ⟨39, _⟩ => ⟨S256x1024, .i32⟩
  | .hbm, ⟨40, _⟩ => ⟨S256x1024, .i32⟩
  | .hbm, ⟨41, _⟩ => ⟨S256x1024, .i32⟩
  | .hbm, ⟨42, _⟩ => ⟨S_, .i32⟩
  | .hbm, ⟨43, _⟩ => ⟨S256x1024, .i32⟩
  | .hbm, ⟨44, _⟩ => ⟨S256x1024, .i1⟩
  | .hbm, ⟨45, _⟩ => ⟨S256x1024, .i32⟩
  | .hbm, ⟨46, _⟩ => ⟨S256x1024, .i32⟩
  | .hbm, ⟨47, _⟩ => ⟨S_, .i32⟩
  | .hbm, ⟨48, _⟩ => ⟨S256x1024, .i32⟩
  | .hbm, ⟨49, _⟩ => ⟨S256x1024, .i1⟩
  | .hbm, ⟨50, _⟩ => ⟨S256x1024, .i1⟩
  | .hbm, ⟨51, _⟩ => ⟨S_, .i32⟩
  | .hbm, ⟨52, _⟩ => ⟨S256x1024, .i32⟩
  | .hbm, ⟨53, _⟩ => ⟨S256x1024, .i32⟩
  | .hbm, ⟨54, _⟩ => ⟨S256x1024, .i32⟩
  | .hbm, ⟨55, _⟩ => ⟨S_, .i32⟩
  | .hbm, ⟨56, _⟩ => ⟨S256x1024, .i32⟩
  | .hbm, ⟨57, _⟩ => ⟨S256x1024, .i1⟩
  | .hbm, ⟨58, _⟩ => ⟨S_, .i32⟩
  | .hbm, ⟨59, _⟩ => ⟨S_, .i32⟩
  | .hbm, ⟨60, _⟩ => ⟨S256x1024, .i32⟩
  | .hbm, ⟨61, _⟩ => ⟨S256x1024, .i32⟩
  | .hbm, ⟨62, _⟩ => ⟨S256x1024, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S256x1024, .i32⟩
  | .hbm, ⟨70, _⟩ => ⟨S256x1024, .i32⟩
  | .hbm, ⟨71, _⟩ => ⟨S_, .i32⟩
  | .hbm, ⟨72, _⟩ => ⟨S256x1024, .i32⟩
  | .hbm, ⟨73, _⟩ => ⟨S256x1024, .i1⟩
  | .hbm, ⟨74, _⟩ => ⟨S_, .i32⟩
  | .hbm, ⟨75, _⟩ => ⟨S256x1024, .i32⟩
  | .hbm, ⟨76, _⟩ => ⟨S256x1024, .i1⟩
  | .hbm, ⟨77, _⟩ => ⟨S_, .i32⟩
  | .hbm, ⟨78, _⟩ => ⟨S_, .i1⟩
  | .hbm, ⟨79, _⟩ => ⟨S256x1024, .i1⟩
  | .hbm, ⟨80, _⟩ => ⟨S256x1024, .i1⟩
  | .hbm, ⟨81, _⟩ => ⟨S256x1024, .i1⟩
  | .hbm, ⟨82, _⟩ => ⟨S256x1024, .i32⟩
  | .hbm, ⟨83, _⟩ => ⟨S256x1024, .i32⟩
  | .hbm, ⟨84, _⟩ => ⟨S256x1024, .i32⟩
  | .hbm, ⟨85, _⟩ => ⟨S256x1024, .i32⟩
  | .hbm, ⟨86, _⟩ => ⟨S256x1024, .i32⟩
  | .hbm, ⟨87, _⟩ => ⟨S256x1024, .i1⟩
  | .hbm, ⟨88, _⟩ => ⟨S_, .f32⟩
  | .hbm, ⟨89, _⟩ => ⟨S_, .f32⟩
  | .hbm, ⟨90, _⟩ => ⟨S256x1024, .f32⟩
  | .hbm, ⟨91, _⟩ => ⟨S256x1024, .f32⟩
  | .hbm, ⟨92, _⟩ => ⟨S256x1024, .f32⟩
  | .hbm, ⟨93, _⟩ => ⟨S256x1024, .bf16⟩
  | .hbm, ⟨94, _⟩ => ⟨S8x2048x512, .bf16⟩
  | .local _ .vmem, ⟨0, _⟩ => ⟨S4x512x1024, .bf16⟩
  | .local _ .vmem, ⟨1, _⟩ => ⟨S4x512x1024, .bf16⟩
  | .local _ .vmem, ⟨2, _⟩ => ⟨S4x512x1024, .bf16⟩
  | .local _ .vmem, ⟨3, _⟩ => ⟨S4x512x1024, .bf16⟩
  | .local _ .vmem, ⟨4, _⟩ => ⟨S4x2x16x256, .f32⟩
  | .local _ .vmem, ⟨5, _⟩ => ⟨S4x2x16x256, .f32⟩
  | .local _ .vmem, ⟨6, _⟩ => ⟨S256x256, .f32⟩
  | .local _ .vmem, ⟨7, _⟩ => ⟨S1x512, .f32⟩
  | .local _ .vmem, ⟨8, _⟩ => ⟨S256x1024, .bf16⟩
  | .local _ .vmem, ⟨9, _⟩ => ⟨S4x512x512, .bf16⟩
  | .local _ .vmem, ⟨10, _⟩ => ⟨S4x512x512, .bf16⟩
  | .local _ .vmem, ⟨11, _⟩ => ⟨S16x128x256, .f32⟩
  | .local _ .vmem, ⟨12, _⟩ => ⟨S8x256x128, .f32⟩
  | .local _ .vmem, ⟨13, _⟩ => ⟨S8x8x256, .f32⟩
  | .local _ .vmem, ⟨14, _⟩ => ⟨S8x8x256, .f32⟩
  | .local _ .vmem, ⟨15, _⟩ => ⟨S4x8x128, .f32⟩
  | _, _ => ⟨S16384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call1_v0 : Ref sig .tc := ⟨.hbm, 15, rfl⟩
abbrev main_call1_c : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_c_1 : Ref sig .tc := ⟨.hbm, 22, rfl⟩
abbrev main_call1_v5 : Ref sig .tc := ⟨.hbm, 23, rfl⟩
abbrev main_call1_v6 : Ref sig .tc := ⟨.hbm, 24, rfl⟩
abbrev main_call1_c_2 : Ref sig .tc := ⟨.hbm, 25, rfl⟩
abbrev main_call1_v7 : Ref sig .tc := ⟨.hbm, 26, rfl⟩
abbrev main_call1_v8 : Ref sig .tc := ⟨.hbm, 27, rfl⟩
abbrev main_call1_c_3 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_v7 : Ref sig .tc := ⟨.hbm, 35, rfl⟩
abbrev main_v8 : Ref sig .tc := ⟨.hbm, 36, rfl⟩
abbrev main_c_1 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_c : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_0 : Ref sig .tc := ⟨.hbm, 51, rfl⟩
abbrev main_call2_v12 : Ref sig .tc := ⟨.hbm, 52, rfl⟩
abbrev main_call2_v13 : Ref sig .tc := ⟨.hbm, 53, rfl⟩
abbrev main_v9 : Ref sig .tc := ⟨.hbm, 54, rfl⟩
abbrev main_c_2 : Ref sig .tc := ⟨.hbm, 55, rfl⟩
abbrev main_v10 : Ref sig .tc := ⟨.hbm, 56, rfl⟩
abbrev main_v11 : Ref sig .tc := ⟨.hbm, 57, rfl⟩
abbrev main_c_3 : Ref sig .tc := ⟨.hbm, 58, rfl⟩
abbrev main_c_4 : Ref sig .tc := ⟨.hbm, 59, rfl⟩
abbrev main_call3_v0 : Ref sig .tc := ⟨.hbm, 60, rfl⟩
abbrev main_call3_v1 : Ref sig .tc := ⟨.hbm, 61, rfl⟩
abbrev main_v12 : Ref sig .tc := ⟨.hbm, 62, rfl⟩
abbrev main_c_5 : Ref sig .tc := ⟨.hbm, 63, rfl⟩
abbrev main_call4_v0 : Ref sig .tc := ⟨.hbm, 64, rfl⟩
abbrev main_call4_c : Ref sig .tc := ⟨.hbm, 65, rfl⟩
abbrev main_call4_v1 : Ref sig .tc := ⟨.hbm, 66, rfl⟩
abbrev main_call4_c_0 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_c_1 : Ref sig .tc := ⟨.hbm, 71, rfl⟩
abbrev main_call4_v5 : Ref sig .tc := ⟨.hbm, 72, rfl⟩
abbrev main_call4_v6 : Ref sig .tc := ⟨.hbm, 73, rfl⟩
abbrev main_call4_c_2 : Ref sig .tc := ⟨.hbm, 74, rfl⟩
abbrev main_call4_v7 : Ref sig .tc := ⟨.hbm, 75, rfl⟩
abbrev main_call4_v8 : Ref sig .tc := ⟨.hbm, 76, rfl⟩
abbrev main_call4_c_3 : Ref sig .tc := ⟨.hbm, 77, rfl⟩
abbrev main_call4_v9 : Ref sig .tc := ⟨.hbm, 78, rfl⟩
abbrev main_call4_v10 : Ref sig .tc := ⟨.hbm, 79, rfl⟩
abbrev main_call4_v11 : Ref sig .tc := ⟨.hbm, 80, rfl⟩
abbrev main_call4_v12 : Ref sig .tc := ⟨.hbm, 81, rfl⟩
abbrev main_call4_v13 : Ref sig .tc := ⟨.hbm, 82, rfl⟩
abbrev main_call4_v14 : Ref sig .tc := ⟨.hbm, 83, rfl⟩
abbrev main_v13 : Ref sig .tc := ⟨.hbm, 84, rfl⟩
abbrev main_v14 : Ref sig .tc := ⟨.hbm, 85, rfl⟩
abbrev main_v15 : Ref sig .tc := ⟨.hbm, 86, rfl⟩
abbrev main_v16 : Ref sig .tc := ⟨.hbm, 87, rfl⟩
abbrev main_cst_6 : Ref sig .tc := ⟨.hbm, 88, rfl⟩
abbrev main_cst_7 : Ref sig .tc := ⟨.hbm, 89, rfl⟩
abbrev main_call5_v0 : Ref sig .tc := ⟨.hbm, 90, rfl⟩
abbrev main_call5_v1 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 4], ![false, false]⟩

def k0_mult1 : BitVec 32 :=
  let c0_i32_188 : BitVec 32 := 0#32
  let c256_i32 : BitVec 32 := 256#32
  let v421 : BitVec 32 := Scalar.muli c0_i32_188 c256_i32
  v421
def k0_off1 (c0_i32_189 : BitVec 32) (c0_i32_188 : BitVec 32) : Fin 3 → Nat :=
  let v423 : BitVec 32 := Scalar.addi c0_i32_189 c0_i32_188
  let v424 : Index := Scalar.indexCast v423
  let c0_190 : Index := 0#32
  let c0_191 : Index := 0#32
  ![v424.toNat, 0, 0]
def k0_off2 (c0_i32_200 : BitVec 32) (c0_i32_188 : BitVec 32) : Fin 3 → Nat :=
  let v439 : BitVec 32 := Scalar.addi c0_i32_200 c0_i32_188
  let v440 : Index := Scalar.indexCast v439
  let c0_201 : Index := 0#32
  let c0_202 : Index := 0#32
  ![v440.toNat, 0, 0]
def k0_off3 (c0_i32_188 : BitVec 32) : Fin 3 → Nat :=
  let c0_224 : Index := 0#32
  let c256_i32 : BitVec 32 := 256#32
  let v421 : BitVec 32 := Scalar.muli c0_i32_188 c256_i32
  let v422 : BitVec 32 := v421
  let v471 : Index := Scalar.indexCast v422
  let c0_225 : Index := 0#32
  ![0, v471.toNat, 0]
def k0_off4 (c0_i32_188 : BitVec 32) : Fin 3 → Nat :=
  let c0_226 : Index := 0#32
  let c256_i32 : BitVec 32 := 256#32
  let v421 : BitVec 32 := Scalar.muli c0_i32_188 c256_i32
  let v422 : BitVec 32 := v421
  let v474 : Index := Scalar.indexCast v422
  let c128 : Index := 128#32
  ![0, v474.toNat, 128]
def k0_off5 (c0_i32_188 : BitVec 32) : Fin 3 → Nat :=
  let c0_227 : Index := 0#32
  let c256_i32 : BitVec 32 := 256#32
  let v421 : BitVec 32 := Scalar.muli c0_i32_188 c256_i32
  let v422 : BitVec 32 := v421
  let v477 : Index := Scalar.indexCast v422
  let c256 : Index := 256#32
  ![0, v477.toNat, 256]
def k0_off6 (c0_i32_188 : BitVec 32) : Fin 3 → Nat :=
  let c0_228 : Index := 0#32
  let c256_i32 : BitVec 32 := 256#32
  let v421 : BitVec 32 := Scalar.muli c0_i32_188 c256_i32
  let v422 : BitVec 32 := v421
  let v480 : Index := Scalar.indexCast v422
  let c384 : Index := 384#32
  ![0, v480.toNat, 384]
def k0_off7 (c0_i32_188 : BitVec 32) : Fin 3 → Nat :=
  let c1_229 : Index := 1#32
  let c256_i32 : BitVec 32 := 256#32
  let v421 : BitVec 32 := Scalar.muli c0_i32_188 c256_i32
  let v422 : BitVec 32 := v421
  let v483 : Index := Scalar.indexCast v422
  let c0_230 : Index := 0#32
  ![1, v483.toNat, 0]
def k0_off8 (c0_i32_188 : BitVec 32) : Fin 3 → Nat :=
  let c1_231 : Index := 1#32
  let c256_i32 : BitVec 32 := 256#32
  let v421 : BitVec 32 := Scalar.muli c0_i32_188 c256_i32
  let v422 : BitVec 32 := v421
  let v486 : Index := Scalar.indexCast v422
  let c128_232 : Index := 128#32
  ![1, v486.toNat, 128]
def k0_off9 (c0_i32_188 : BitVec 32) : Fin 3 → Nat :=
  let c1_233 : Index := 1#32
  let c256_i32 : BitVec 32 := 256#32
  let v421 : BitVec 32 := Scalar.muli c0_i32_188 c256_i32
  let v422 : BitVec 32 := v421
  let v489 : Index := Scalar.indexCast v422
  let c256_234 : Index := 256#32
  ![1, v489.toNat, 256]
def k0_off10 (c0_i32_188 : BitVec 32) : Fin 3 → Nat :=
  let c1_235 : Index := 1#32
  let c256_i32 : BitVec 32 := 256#32
  let v421 : BitVec 32 := Scalar.muli c0_i32_188 c256_i32
  let v422 : BitVec 32 := v421
  let v492 : Index := Scalar.indexCast v422
  let c384_236 : Index := 384#32
  ![1, v492.toNat, 384]
def k0_off11 (c0_i32_188 : BitVec 32) : Fin 3 → Nat :=
  let c2_237 : Index := 2#32
  let c256_i32 : BitVec 32 := 256#32
  let v421 : BitVec 32 := Scalar.muli c0_i32_188 c256_i32
  let v422 : BitVec 32 := v421
  let v495 : Index := Scalar.indexCast v422
  let c0_238 : Index := 0#32
  ![2, v495.toNat, 0]
def k0_off12 (c0_i32_188 : BitVec 32) : Fin 3 → Nat :=
  let c2_239 : Index := 2#32
  let c256_i32 : BitVec 32 := 256#32
  let v421 : BitVec 32 := Scalar.muli c0_i32_188 c256_i32
  let v422 : BitVec 32 := v421
  let v498 : Index := Scalar.indexCast v422
  let c128_240 : Index := 128#32
  ![2, v498.toNat, 128]
def k0_off13 (c0_i32_188 : BitVec 32) : Fin 3 → Nat :=
  let c2_241 : Index := 2#32
  let c256_i32 : BitVec 32 := 256#32
  let v421 : BitVec 32 := Scalar.muli c0_i32_188 c256_i32
  let v422 : BitVec 32 := v421
  let v501 : Index := Scalar.indexCast v422
  let c256_242 : Index := 256#32
  ![2, v501.toNat, 256]
def k0_off14 (c0_i32_188 : BitVec 32) : Fin 3 → Nat :=
  let c2_243 : Index := 2#32
  let c256_i32 : BitVec 32 := 256#32
  let v421 : BitVec 32 := Scalar.muli c0_i32_188 c256_i32
  let v422 : BitVec 32 := v421
  let v504 : Index := Scalar.indexCast v422
  let c384_244 : Index := 384#32
  ![2, v504.toNat, 384]
def k0_off15 (c0_i32_188 : BitVec 32) : Fin 3 → Nat :=
  let c3_245 : Index := 3#32
  let c256_i32 : BitVec 32 := 256#32
  let v421 : BitVec 32 := Scalar.muli c0_i32_188 c256_i32
  let v422 : BitVec 32 := v421
  let v507 : Index := Scalar.indexCast v422
  let c0_246 : Index := 0#32
  ![3, v507.toNat, 0]
def k0_off16 (c0_i32_188 : BitVec 32) : Fin 3 → Nat :=
  let c3_247 : Index := 3#32
  let c256_i32 : BitVec 32 := 256#32
  let v421 : BitVec 32 := Scalar.muli c0_i32_188 c256_i32
  let v422 : BitVec 32 := v421
  let v510 : Index := Scalar.indexCast v422
  let c128_248 : Index := 128#32
  ![3, v510.toNat, 128]
def k0_off17 (c0_i32_188 : BitVec 32) : Fin 3 → Nat :=
  let c3_249 : Index := 3#32
  let c256_i32 : BitVec 32 := 256#32
  let v421 : BitVec 32 := Scalar.muli c0_i32_188 c256_i32
  let v422 : BitVec 32 := v421
  let v513 : Index := Scalar.indexCast v422
  let c256_250 : Index := 256#32
  ![3, v513.toNat, 256]
def k0_off18 (c0_i32_188 : BitVec 32) : Fin 3 → Nat :=
  let c3_251 : Index := 3#32
  let c256_i32 : BitVec 32 := 256#32
  let v421 : BitVec 32 := Scalar.muli c0_i32_188 c256_i32
  let v422 : BitVec 32 := v421
  let v516 : Index := Scalar.indexCast v422
  let c384_252 : Index := 384#32
  ![3, v516.toNat, 384]
def k0_off19 (c0_i32_188 : BitVec 32) : Fin 3 → Nat :=
  let c0_253 : Index := 0#32
  let c256_i32 : BitVec 32 := 256#32
  let v421 : BitVec 32 := Scalar.muli c0_i32_188 c256_i32
  let v422 : BitVec 32 := v421
  let v519 : Index := Scalar.indexCast v422
  let c512 : Index := 512#32
  ![0, v519.toNat, 512]
def k0_off20 (c0_i32_188 : BitVec 32) : Fin 3 → Nat :=
  let c0_254 : Index := 0#32
  let c256_i32 : BitVec 32 := 256#32
  let v421 : BitVec 32 := Scalar.muli c0_i32_188 c256_i32
  let v422 : BitVec 32 := v421
  let v522 : Index := Scalar.indexCast v422
  let c640 : Index := 640#32
  ![0, v522.toNat, 640]
def k0_off21 (c0_i32_188 : BitVec 32) : Fin 3 → Nat :=
  let c0_255 : Index := 0#32
  let c256_i32 : BitVec 32 := 256#32
  let v421 : BitVec 32 := Scalar.muli c0_i32_188 c256_i32
  let v422 : BitVec 32 := v421
  let v525 : Index := Scalar.indexCast v422
  let c768 : Index := 768#32
  ![0, v525.toNat, 768]
def k0_off22 (c0_i32_188 : BitVec 32) : Fin 3 → Nat :=
  let c0_256 : Index := 0#32
  let c256_i32 : BitVec 32 := 256#32
  let v421 : BitVec 32 := Scalar.muli c0_i32_188 c256_i32
  let v422 : BitVec 32 := v421
  let v528 : Index := Scalar.indexCast v422
  let c896 : Index := 896#32
  ![0, v528.toNat, 896]
def k0_off23 (c0_i32_188 : BitVec 32) : Fin 3 → Nat :=
  let c1_257 : Index := 1#32
  let c256_i32 : BitVec 32 := 256#32
  let v421 : BitVec 32 := Scalar.muli c0_i32_188 c256_i32
  let v422 : BitVec 32 := v421
  let v531 : Index := Scalar.indexCast v422
  let c512_258 : Index := 512#32
  ![1, v531.toNat, 512]
def k0_off24 (c0_i32_188 : BitVec 32) : Fin 3 → Nat :=
  let c1_259 : Index := 1#32
  let c256_i32 : BitVec 32 := 256#32
  let v421 : BitVec 32 := Scalar.muli c0_i32_188 c256_i32
  let v422 : BitVec 32 := v421
  let v534 : Index := Scalar.indexCast v422
  let c640_260 : Index := 640#32
  ![1, v534.toNat, 640]
def k0_off25 (c0_i32_188 : BitVec 32) : Fin 3 → Nat :=
  let c1_261 : Index := 1#32
  let c256_i32 : BitVec 32 := 256#32
  let v421 : BitVec 32 := Scalar.muli c0_i32_188 c256_i32
  let v422 : BitVec 32 := v421
  let v537 : Index := Scalar.indexCast v422
  let c768_262 : Index := 768#32
  ![1, v537.toNat, 768]
def k0_off26 (c0_i32_188 : BitVec 32) : Fin 3 → Nat :=
  let c1_263 : Index := 1#32
  let c256_i32 : BitVec 32 := 256#32
  let v421 : BitVec 32 := Scalar.muli c0_i32_188 c256_i32
  let v422 : BitVec 32 := v421
  let v540 : Index := Scalar.indexCast v422
  let c896_264 : Index := 896#32
  ![1, v540.toNat, 896]
def k0_off27 (c0_i32_188 : BitVec 32) : Fin 3 → Nat :=
  let c2_265 : Index := 2#32
  let c256_i32 : BitVec 32 := 256#32
  let v421 : BitVec 32 := Scalar.muli c0_i32_188 c256_i32
  let v422 : BitVec 32 := v421
  let v543 : Index := Scalar.indexCast v422
  let c512_266 : Index := 512#32
  ![2, v543.toNat, 512]
def k0_off28 (c0_i32_188 : BitVec 32) : Fin 3 → Nat :=
  let c2_267 : Index := 2#32
  let c256_i32 : BitVec 32 := 256#32
  let v421 : BitVec 32 := Scalar.muli c0_i32_188 c256_i32
  let v422 : BitVec 32 := v421
  let v546 : Index := Scalar.indexCast v422
  let c640_268 : Index := 640#32
  ![2, v546.toNat, 640]
def k0_off29 (c0_i32_188 : BitVec 32) : Fin 3 → Nat :=
  let c2_269 : Index := 2#32
  let c256_i32 : BitVec 32 := 256#32
  let v421 : BitVec 32 := Scalar.muli c0_i32_188 c256_i32
  let v422 : BitVec 32 := v421
  let v549 : Index := Scalar.indexCast v422
  let c768_270 : Index := 768#32
  ![2, v549.toNat, 768]
def k0_off30 (c0_i32_188 : BitVec 32) : Fin 3 → Nat :=
  let c2_271 : Index := 2#32
  let c256_i32 : BitVec 32 := 256#32
  let v421 : BitVec 32 := Scalar.muli c0_i32_188 c256_i32
  let v422 : BitVec 32 := v421
  let v552 : Index := Scalar.indexCast v422
  let c896_272 : Index := 896#32
  ![2, v552.toNat, 896]
def k0_off31 (c0_i32_188 : BitVec 32) : Fin 3 → Nat :=
  let c3_273 : Index := 3#32
  let c256_i32 : BitVec 32 := 256#32
  let v421 : BitVec 32 := Scalar.muli c0_i32_188 c256_i32
  let v422 : BitVec 32 := v421
  let v555 : Index := Scalar.indexCast v422
  let c512_274 : Index := 512#32
  ![3, v555.toNat, 512]
def k0_off32 (c0_i32_188 : BitVec 32) : Fin 3 → Nat :=
  let c3_275 : Index := 3#32
  let c256_i32 : BitVec 32 := 256#32
  let v421 : BitVec 32 := Scalar.muli c0_i32_188 c256_i32
  let v422 : BitVec 32 := v421
  let v558 : Index := Scalar.indexCast v422
  let c640_276 : Index := 640#32
  ![3, v558.toNat, 640]
def k0_off33 (c0_i32_188 : BitVec 32) : Fin 3 → Nat :=
  let c3_277 : Index := 3#32
  let c256_i32 : BitVec 32 := 256#32
  let v421 : BitVec 32 := Scalar.muli c0_i32_188 c256_i32
  let v422 : BitVec 32 := v421
  let v561 : Index := Scalar.indexCast v422
  let c768_278 : Index := 768#32
  ![3, v561.toNat, 768]
def k0_off34 (c0_i32_188 : BitVec 32) : Fin 3 → Nat :=
  let c3_279 : Index := 3#32
  let c256_i32 : BitVec 32 := 256#32
  let v421 : BitVec 32 := Scalar.muli c0_i32_188 c256_i32
  let v422 : BitVec 32 := v421
  let v564 : Index := Scalar.indexCast v422
  let c896_280 : Index := 896#32
  ![3, v564.toNat, 896]
def k0_off35 (c0_i32_188 : BitVec 32) : Fin 3 → Nat :=
  let c0_463 : Index := 0#32
  let c256_i32 : BitVec 32 := 256#32
  let v421 : BitVec 32 := Scalar.muli c0_i32_188 c256_i32
  let v422 : BitVec 32 := v421
  let v1066 : Index := Scalar.indexCast v422
  let c0_464 : Index := 0#32
  ![0, v1066.toNat, 0]
def k0_off36 (c0_i32_188 : BitVec 32) : Fin 3 → Nat :=
  let c0_478 : Index := 0#32
  let c256_i32 : BitVec 32 := 256#32
  let v421 : BitVec 32 := Scalar.muli c0_i32_188 c256_i32
  let v422 : BitVec 32 := v421
  let v1113 : Index := Scalar.indexCast v422
  let c128_479 : Index := 128#32
  ![0, v1113.toNat, 128]
def k0_off37 (c0_i32_188 : BitVec 32) : Fin 3 → Nat :=
  let c0_493 : Index := 0#32
  let c256_i32 : BitVec 32 := 256#32
  let v421 : BitVec 32 := Scalar.muli c0_i32_188 c256_i32
  let v422 : BitVec 32 := v421
  let v1160 : Index := Scalar.indexCast v422
  let c256_494 : Index := 256#32
  ![0, v1160.toNat, 256]
def k0_off38 (c0_i32_188 : BitVec 32) : Fin 3 → Nat :=
  let c0_508 : Index := 0#32
  let c256_i32 : BitVec 32 := 256#32
  let v421 : BitVec 32 := Scalar.muli c0_i32_188 c256_i32
  let v422 : BitVec 32 := v421
  let v1207 : Index := Scalar.indexCast v422
  let c384_509 : Index := 384#32
  ![0, v1207.toNat, 384]
def k0_off39 (c0_i32_188 : BitVec 32) : Fin 3 → Nat :=
  let c1_523 : Index := 1#32
  let c256_i32 : BitVec 32 := 256#32
  let v421 : BitVec 32 := Scalar.muli c0_i32_188 c256_i32
  let v422 : BitVec 32 := v421
  let v1254 : Index := Scalar.indexCast v422
  let c0_524 : Index := 0#32
  ![1, v1254.toNat, 0]
def k0_off40 (c0_i32_188 : BitVec 32) : Fin 3 → Nat :=
  let c1_538 : Index := 1#32
  let c256_i32 : BitVec 32 := 256#32
  let v421 : BitVec 32 := Scalar.muli c0_i32_188 c256_i32
  let v422 : BitVec 32 := v421
  let v1301 : Index := Scalar.indexCast v422
  let c128_539 : Index := 128#32
  ![1, v1301.toNat, 128]
def k0_off41 (c0_i32_188 : BitVec 32) : Fin 3 → Nat :=
  let c1_553 : Index := 1#32
  let c256_i32 : BitVec 32 := 256#32
  let v421 : BitVec 32 := Scalar.muli c0_i32_188 c256_i32
  let v422 : BitVec 32 := v421
  let v1348 : Index := Scalar.indexCast v422
  let c256_554 : Index := 256#32
  ![1, v1348.toNat, 256]
def k0_off42 (c0_i32_188 : BitVec 32) : Fin 3 → Nat :=
  let c1_568 : Index := 1#32
  let c256_i32 : BitVec 32 := 256#32
  let v421 : BitVec 32 := Scalar.muli c0_i32_188 c256_i32
  let v422 : BitVec 32 := v421
  let v1395 : Index := Scalar.indexCast v422
  let c384_569 : Index := 384#32
  ![1, v1395.toNat, 384]
def k0_off43 (c0_i32_188 : BitVec 32) : Fin 3 → Nat :=
  let c2_583 : Index := 2#32
  let c256_i32 : BitVec 32 := 256#32
  let v421 : BitVec 32 := Scalar.muli c0_i32_188 c256_i32
  let v422 : BitVec 32 := v421
  let v1442 : Index := Scalar.indexCast v422
  let c0_584 : Index := 0#32
  ![2, v1442.toNat, 0]
def k0_off44 (c0_i32_188 : BitVec 32) : Fin 3 → Nat :=
  let c2_598 : Index := 2#32
  let c256_i32 : BitVec 32 := 256#32
  let v421 : BitVec 32 := Scalar.muli c0_i32_188 c256_i32
  let v422 : BitVec 32 := v421
  let v1489 : Index := Scalar.indexCast v422
  let c128_599 : Index := 128#32
  ![2, v1489.toNat, 128]
def k0_off45 (c0_i32_188 : BitVec 32) : Fin 3 → Nat :=
  let c2_613 : Index := 2#32
  let c256_i32 : BitVec 32 := 256#32
  let v421 : BitVec 32 := Scalar.muli c0_i32_188 c256_i32
  let v422 : BitVec 32 := v421
  let v1536 : Index := Scalar.indexCast v422
  let c256_614 : Index := 256#32
  ![2, v1536.toNat, 256]
def k0_off46 (c0_i32_188 : BitVec 32) : Fin 3 → Nat :=
  let c2_628 : Index := 2#32
  let c256_i32 : BitVec 32 := 256#32
  let v421 : BitVec 32 := Scalar.muli c0_i32_188 c256_i32
  let v422 : BitVec 32 := v421
  let v1583 : Index := Scalar.indexCast v422
  let c384_629 : Index := 384#32
  ![2, v1583.toNat, 384]
def k0_off47 (c0_i32_188 : BitVec 32) : Fin 3 → Nat :=
  let c3_643 : Index := 3#32
  let c256_i32 : BitVec 32 := 256#32
  let v421 : BitVec 32 := Scalar.muli c0_i32_188 c256_i32
  let v422 : BitVec 32 := v421
  let v1630 : Index := Scalar.indexCast v422
  let c0_644 : Index := 0#32
  ![3, v1630.toNat, 0]
def k0_off48 (c0_i32_188 : BitVec 32) : Fin 3 → Nat :=
  let c3_658 : Index := 3#32
  let c256_i32 : BitVec 32 := 256#32
  let v421 : BitVec 32 := Scalar.muli c0_i32_188 c256_i32
  let v422 : BitVec 32 := v421
  let v1677 : Index := Scalar.indexCast v422
  let c128_659 : Index := 128#32
  ![3, v1677.toNat, 128]
def k0_off49 (c0_i32_188 : BitVec 32) : Fin 3 → Nat :=
  let c3_673 : Index := 3#32
  let c256_i32 : BitVec 32 := 256#32
  let v421 : BitVec 32 := Scalar.muli c0_i32_188 c256_i32
  let v422 : BitVec 32 := v421
  let v1724 : Index := Scalar.indexCast v422
  let c256_674 : Index := 256#32
  ![3, v1724.toNat, 256]
def k0_off50 (c0_i32_188 : BitVec 32) : Fin 3 → Nat :=
  let c3_688 : Index := 3#32
  let c256_i32 : BitVec 32 := 256#32
  let v421 : BitVec 32 := Scalar.muli c0_i32_188 c256_i32
  let v422 : BitVec 32 := v421
  let v1771 : Index := Scalar.indexCast v422
  let c384_689 : Index := 384#32
  ![3, v1771.toNat, 384]
def k0_mult2 : BitVec 32 :=
  let c1_i32_690 : BitVec 32 := 1#32
  let c256_i32_691 : BitVec 32 := 256#32
  let v1775 : BitVec 32 := Scalar.muli c1_i32_690 c256_i32_691
  v1775
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x2x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x3584 : Shape := ⟨2, ![16384, 3584]⟩
abbrev S64x16x256 : Shape := ⟨3, ![64, 16, 256]⟩
abbrev S1x512 : Shape := ⟨2, ![1, 512]⟩
abbrev S8x2048x3584 : Shape := ⟨3, ![8, 2048, 3584]⟩
abbrev S8x2048x512 : Shape := ⟨3, ![8, 2048, 512]⟩
abbrev S8x2048x4x128 : Shape := ⟨4, ![8, 2048, 4, 128]⟩
abbrev S8x8x16x256 : Shape := ⟨4, ![8, 8, 16, 256]⟩
abbrev S8x16x8x256 : Shape := ⟨4, ![8, 16, 8, 256]⟩
abbrev S8x16x2048 : Shape := ⟨3, ![8, 16, 2048]⟩
abbrev S8x4x2048 : Shape := ⟨3, ![8, 4, 2048]⟩
abbrev S_ : Shape := ⟨0, ![]⟩
abbrev S2048x2048 : Shape := ⟨2, ![2048, 2048]⟩
abbrev S8x4x2048x1 : Shape := ⟨4, ![8, 4, 2048, 1]⟩
abbrev S8x4x1x2048 : Shape := ⟨4, ![8, 4, 1, 2048]⟩
abbrev S8x4x2048x2048 : Shape := ⟨4, ![8, 4, 2048, 2048]⟩
abbrev S8x4x2048x128 : Shape := ⟨4, ![8, 4, 2048, 128]⟩
abbrev S8x2048x4 : Shape := ⟨3, ![8, 2048, 4]⟩
abbrev S8x2048x4x1 : Shape := ⟨4, ![8, 2048, 4, 1]⟩
abbrev S1x1x512 : Shape := ⟨3, ![1, 1, 512]⟩

abbrev nBuf : Space → Nat
  | .hbm => 95
  | .vmem => 0
  | .smem => 0
  | _ => 0

abbrev bufTy : (tb : Table) → Fin (tcTables nBuf tb) → BufTy
  | .hbm, ⟨0, _⟩ => ⟨S16384x3584, .bf16⟩
  | .hbm, ⟨1, _⟩ => ⟨S64x16x256, .f32⟩
  | .hbm, ⟨2, _⟩ => ⟨S1x512, .f32⟩
  | .hbm, ⟨3, _⟩ => ⟨S8x2048x3584, .bf16⟩
  | .hbm, ⟨4, _⟩ => ⟨S8x2048x512, .bf16⟩
  | .hbm, ⟨5, _⟩ => ⟨S8x2048x4x128, .bf16⟩
  | .hbm, ⟨6, _⟩ => ⟨S8x2048x4x128, .f32⟩
  | .hbm, ⟨7, _⟩ => ⟨S8x2048x512, .bf16⟩
  | .hbm, ⟨8, _⟩ => ⟨S8x2048x4x128, .bf16⟩
  | .hbm, ⟨9, _⟩ => ⟨S8x2048x4x128, .f32⟩
  | .hbm, ⟨10, _⟩ => ⟨S8x2048x512, .bf16⟩
  | .hbm, ⟨11, _⟩ => ⟨S8x2048x4x128, .bf16⟩
  | .hbm, ⟨12, _⟩ => ⟨S8x2048x4x128, .f32⟩
  | .hbm, ⟨13, _⟩ => ⟨S8x2048x512, .bf16⟩
  | .hbm, ⟨14, _⟩ => ⟨S8x2048x4x128, .bf16⟩
  | .hbm, ⟨15, _⟩ => ⟨S8x2048x4x128, .f32⟩
  | .hbm, ⟨16, _⟩ => ⟨S8x8x16x256, .f32⟩
  | .hbm, ⟨17, _⟩ => ⟨S8x16x8x256, .f32⟩
  | .hbm, ⟨18, _⟩ => ⟨S8x16x2048, .f32⟩
  | .hbm, ⟨19, _⟩ => ⟨S8x4x2048, .f32⟩
  | .hbm, ⟨20, _⟩ => ⟨S8x4x2048, .f32⟩
  | .hbm, ⟨21, _⟩ => ⟨S_, .f32⟩
  | .hbm, ⟨22, _⟩ => ⟨S_, .f32⟩
  | .hbm, ⟨23, _⟩ => ⟨S8x4x2048, .f32⟩
  | .hbm, ⟨24, _⟩ => ⟨S_, .i1⟩
  | .hbm, ⟨25, _⟩ => ⟨S2048x2048, .i1⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S_, .i1⟩
  | .hbm, ⟨33, _⟩ => ⟨S2048x2048, .i1⟩
  | .hbm, ⟨34, _⟩ => ⟨S2048x2048, .i1⟩
  | .hbm, ⟨35, _⟩ => ⟨S8x4x2048x1, .f32⟩
  | .hbm, ⟨36, _⟩ => ⟨S8x4x1x2048, .f32⟩
  | .hbm, ⟨37, _⟩ => ⟨S8x4x2048x2048, .f32⟩
  | .hbm, ⟨38, _⟩ => ⟨S8x4x2048x2048, .f32⟩
  | .hbm, ⟨39, _⟩ => ⟨S8x4x2048x2048, .f32⟩
  | .hbm, ⟨40, _⟩ => ⟨S8x4x1x2048, .f32⟩
  | .hbm, ⟨41, _⟩ => ⟨S8x4x2048x2048, .f32⟩
  | .hbm, ⟨42, _⟩ => ⟨S8x4x2048x2048, .f32⟩
  | .hbm, ⟨43, _⟩ => ⟨S_, .f32⟩
  | .hbm, ⟨44, _⟩ => ⟨S_, .f32⟩
  | .hbm, ⟨45, _⟩ => ⟨S8x4x2048x2048, .i1⟩
  | .hbm, ⟨46, _⟩ => ⟨S8x4x2048x2048, .f32⟩
  | .hbm, ⟨47, _⟩ => ⟨S8x4x2048x2048, .f32⟩
  | .hbm, ⟨48, _⟩ => ⟨S_, .f32⟩
  | .hbm, ⟨49, _⟩ => ⟨S8x4x2048, .f32⟩
  | .hbm, ⟨50, _⟩ => ⟨S8x4x2048, .f32⟩
  | .hbm, ⟨51, _⟩ => ⟨S8x4x2048x2048, .f32⟩
  | .hbm, ⟨52, _⟩ => ⟨S8x4x2048x1, .f32⟩
  | .hbm, ⟨53, _⟩ => ⟨S8x4x2048x2048, .f32⟩
  | .hbm, ⟨54, _⟩ => ⟨S8x4x2048x2048, .f32⟩
  | .hbm, ⟨55, _⟩ => ⟨S8x4x2048x2048, .f32⟩
  | .hbm, ⟨56, _⟩ => ⟨S8x4x2048x2048, .f32⟩
  | .hbm, ⟨57, _⟩ => ⟨S8x4x2048x128, .f32⟩
  | .hbm, ⟨58, _⟩ => ⟨S_, .f32⟩
  | .hbm, ⟨59, _⟩ => ⟨S8x4x2048, .f32⟩
  | .hbm, ⟨60, _⟩ => ⟨S8x4x2048, .f32⟩
  | .hbm, ⟨61, _⟩ => ⟨S8x4x2048, .f32⟩
  | .hbm, ⟨62, _⟩ => ⟨S8x4x2048, .f32⟩
  | .hbm, ⟨63, _⟩ => ⟨S8x4x2048, .f32⟩
  | .hbm, ⟨64, _⟩ => ⟨S8x4x2048x1, .f32⟩
  | .hbm, ⟨65, _⟩ => ⟨S8x4x2048x128, .f32⟩
  | .hbm, ⟨66, _⟩ => ⟨S8x4x2048x128, .f32⟩
  | .hbm, ⟨67, _⟩ => ⟨S8x2048x4x128, .f32⟩
  | .hbm, ⟨68, _⟩ => ⟨S8x2048x4x128, .f32⟩
  | .hbm, ⟨69, _⟩ => ⟨S8x2048x4x128, .f32⟩
  | .hbm, ⟨70, _⟩ => ⟨S_, .f32⟩
  | .hbm, ⟨71, _⟩ => ⟨S8x2048x4x128, .f32⟩
  | .hbm, ⟨72, _⟩ => ⟨S8x2048x4x128, .f32⟩
  | .hbm, ⟨73, _⟩ => ⟨S_, .f32⟩
  | .hbm, ⟨74, _⟩ => ⟨S8x2048x4x128, .f32⟩
  | .hbm, ⟨75, _⟩ => ⟨S8x2048x4x128, .f32⟩
  | .hbm, ⟨76, _⟩ => ⟨S8x2048x4x128, .f32⟩
  | .hbm, ⟨77, _⟩ => ⟨S8x2048x4x128, .f32⟩
  | .hbm, ⟨78, _⟩ => ⟨S_, .f32⟩
  | .hbm, ⟨79, _⟩ => ⟨S8x2048x4, .f32⟩
  | .hbm, ⟨80, _⟩ => ⟨S8x2048x4x1, .f32⟩
  | .hbm, ⟨81, _⟩ => ⟨S_, .f32⟩
  | .hbm, ⟨82, _⟩ => ⟨S8x2048x4x1, .f32⟩
  | .hbm, ⟨83, _⟩ => ⟨S8x2048x4x1, .f32⟩
  | .hbm, ⟨84, _⟩ => ⟨S_, .f32⟩
  | .hbm, ⟨85, _⟩ => ⟨S8x2048x4x1, .f32⟩
  | .hbm, ⟨86, _⟩ => ⟨S8x2048x4x1, .f32⟩
  | .hbm, ⟨87, _⟩ => ⟨S8x2048x4x1, .f32⟩
  | .hbm, ⟨88, _⟩ => ⟨S8x2048x4x128, .f32⟩
  | .hbm, ⟨89, _⟩ => ⟨S8x2048x4x128, .f32⟩
  | .hbm, ⟨90, _⟩ => ⟨S8x2048x512, .f32⟩
  | .hbm, ⟨91, _⟩ => ⟨S1x1x512, .f32⟩
  | .hbm, ⟨92, _⟩ => ⟨S8x2048x512, .f32⟩
  | .hbm, ⟨93, _⟩ => ⟨S8x2048x512, .f32⟩
  | .hbm, ⟨94, _⟩ => ⟨S8x2048x512, .bf16⟩
  | _, _ => ⟨S16384x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_call0_cst : Ref sig .tc := ⟨.hbm, 21, rfl⟩
abbrev main_call0_call0_v0 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_0 : Ref sig .tc := ⟨.hbm, 32, rfl⟩
abbrev main_call1_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v29 : Ref sig .tc := ⟨.hbm, 47, rfl⟩
abbrev main_cst_0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_2 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_4 : Ref sig .tc := ⟨.hbm, 78, rfl⟩
abbrev main_v56 : Ref sig .tc := ⟨.hbm, 79, rfl⟩
abbrev main_v57 : Ref sig .tc := ⟨.hbm, 80, rfl⟩
abbrev main_cst_5 : Ref sig .tc := ⟨.hbm, 81, rfl⟩
abbrev main_v58 : Ref sig .tc := ⟨.hbm, 82, rfl⟩
abbrev main_v59 : Ref sig .tc := ⟨.hbm, 83, rfl⟩
abbrev main_cst_6 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Inproj.lean ====
abbrev S16384x1024 : Shape := ⟨2, ![16384, 1024]⟩
abbrev S8x6x1024 : Shape := ⟨3, ![8, 6, 1024]⟩
abbrev S1x1024x3608 : Shape := ⟨3, ![1, 1024, 3608]⟩
abbrev S4x1024 : Shape := ⟨2, ![4, 1024]⟩
abbrev S1024 : Shape := ⟨1, ![1024]⟩
abbrev S4 : Shape := ⟨1, ![4]⟩
abbrev S16x256 : Shape := ⟨2, ![16, 256]⟩
abbrev S256 : Shape := ⟨1, ![256]⟩
abbrev S_ : Shape := ⟨0, ![]⟩
abbrev S128x256 : Shape := ⟨2, ![128, 256]⟩
abbrev S8 : Shape := ⟨1, ![8]⟩
abbrev S16 : Shape := ⟨1, ![16]⟩
abbrev S16x1 : Shape := ⟨2, ![16, 1]⟩
abbrev S1x3608x1024 : Shape := ⟨3, ![1, 3608, 1024]⟩
abbrev S1x1024 : Shape := ⟨2, ![1, 1024]⟩
abbrev S1x256 : Shape := ⟨2, ![1, 256]⟩
abbrev S16384x3584 : Shape := ⟨2, ![16384, 3584]⟩
abbrev S16384x256 : Shape := ⟨2, ![16384, 256]⟩
abbrev S64x16x256 : Shape := ⟨3, ![64, 16, 256]⟩
abbrev S512x1024 : Shape := ⟨2, ![512, 1024]⟩
abbrev S1x6x1024 : Shape := ⟨3, ![1, 6, 1024]⟩
abbrev S512x3584 : Shape := ⟨2, ![512, 3584]⟩
abbrev S512x256 : Shape := ⟨2, ![512, 256]⟩
abbrev S2x16x256 : Shape := ⟨3, ![2, 16, 256]⟩
abbrev S520x1024 : Shape := ⟨2, ![520, 1024]⟩
abbrev S1024x3712 : Shape := ⟨2, ![1024, 3712]⟩
abbrev S1x256x1024 : Shape := ⟨3, ![1, 256, 1024]⟩
abbrev S256x1024 : Shape := ⟨2, ![256, 1024]⟩
abbrev S1024x256 : Shape := ⟨2, ![1024, 256]⟩
abbrev S1x8x1024 : Shape := ⟨3, ![1, 8, 1024]⟩
abbrev S8x1024 : Shape := ⟨2, ![8, 1024]⟩
abbrev S1x16x1024 : Shape := ⟨3, ![1, 16, 1024]⟩
abbrev S16x1024 : Shape := ⟨2, ![16, 1024]⟩
abbrev S96x1024 : Shape := ⟨2, ![96, 1024]⟩
abbrev S128x1024 : Shape := ⟨2, ![128, 1024]⟩
abbrev S1024x128 : Shape := ⟨2, ![1024, 128]⟩
abbrev S6x1024 : Shape := ⟨2, ![6, 1024]⟩
abbrev S1024x1024 : Shape := ⟨2, ![1024, 1024]⟩
abbrev S512x512 : Shape := ⟨2, ![512, 512]⟩
abbrev S512x128 : Shape := ⟨2, ![512, 128]⟩
abbrev S128x512 : Shape := ⟨2, ![128, 512]⟩
abbrev S8x512 : Shape := ⟨2, ![8, 512]⟩
abbrev S8x1 : Shape := ⟨2, ![8, 1]⟩
abbrev S8x256 : Shape := ⟨2, ![8, 256]⟩
abbrev S1x8x256 : Shape := ⟨3, ![1, 8, 256]⟩
abbrev S1024x1280 : Shape := ⟨2, ![1024, 1280]⟩
abbrev S512x1280 : Shape := ⟨2, ![512, 1280]⟩

abbrev nBuf : Space → Nat
  | .hbm => 27
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1x1024x3608, .f32⟩
  | .hbm, ⟨3, _⟩ => ⟨S4x1024, .f32⟩
  | .hbm, ⟨4, _⟩ => ⟨S1024, .f32⟩
  | .hbm, ⟨5, _⟩ => ⟨S4, .f32⟩
  | .hbm, ⟨6, _⟩ => ⟨S4, .f32⟩
  | .hbm, ⟨7, _⟩ => ⟨S16x256, .f32⟩
  | .hbm, ⟨8, _⟩ => ⟨S256, .f32⟩
  | .hbm, ⟨9, _⟩ => ⟨S_, .i32⟩
  | .hbm, ⟨10, _⟩ => ⟨S_, .f32⟩
  | .hbm, ⟨11, _⟩ => ⟨S128x256, .f32⟩
  | .hbm, ⟨12, _⟩ => ⟨S128x256, .bf16⟩
  | .hbm, ⟨13, _⟩ => ⟨S_, .i32⟩
  | .hbm, ⟨14, _⟩ => ⟨S_, .f32⟩
  | .hbm, ⟨15, _⟩ => ⟨S8, .f32⟩
  | .hbm, ⟨16, _⟩ => ⟨S_, .i32⟩
  | .hbm, ⟨17, _⟩ => ⟨S_, .f32⟩
  | .hbm, ⟨18, _⟩ => ⟨S8, .f32⟩
  | .hbm, ⟨19, _⟩ => ⟨S16, .f32⟩
  | .hbm, ⟨20, _⟩ => ⟨S16x1, .f32⟩
  | .hbm, ⟨21, _⟩ => ⟨S1x3608x1024, .f32⟩
  | .hbm, ⟨22, _⟩ => ⟨S1x1024, .f32⟩
  | .hbm, ⟨23, _⟩ => ⟨S1x256, .f32⟩
  | .hbm, ⟨24, _⟩ => ⟨S16384x3584, .bf16⟩
  | .hbm, ⟨25, _⟩ => ⟨S16384x256, .f32⟩
  | .hbm, ⟨26, _⟩ => ⟨S64x16x256, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x3608x1024, .f32⟩
  | .local _ .vmem, ⟨5, _⟩ => ⟨S4x1024, .f32⟩
  | .local _ .vmem, ⟨6, _⟩ => ⟨S1x1024, .f32⟩
  | .local _ .vmem, ⟨7, _⟩ => ⟨S128x256, .bf16⟩
  | .local _ .vmem, ⟨8, _⟩ => ⟨S1x256, .f32⟩
  | .local _ .vmem, ⟨9, _⟩ => ⟨S16x1, .f32⟩
  | .local _ .vmem, ⟨10, _⟩ => ⟨S512x3584, .bf16⟩
  | .local _ .vmem, ⟨11, _⟩ => ⟨S512x3584, .bf16⟩
  | .local _ .vmem, ⟨12, _⟩ => ⟨S512x256, .f32⟩
  | .local _ .vmem, ⟨13, _⟩ => ⟨S512x256, .f32⟩
  | .local _ .vmem, ⟨14, _⟩ => ⟨S2x16x256, .f32⟩
  | .local _ .vmem, ⟨15, _⟩ => ⟨S2x16x256, .f32⟩
  | .local _ .vmem, ⟨16, _⟩ => ⟨S520x1024, .f32⟩
  | .local _ .vmem, ⟨17, _⟩ => ⟨S1024x3712, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_c_1 : Ref sig .tc := ⟨.hbm, 16, rfl⟩
abbrev main_call2_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3608x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojRefIdeal.lean ====
abbrev S16384x1024 : Shape := ⟨2, ![16384, 1024]⟩
abbrev S8x6x1024 : Shape := ⟨3, ![8, 6, 1024]⟩
abbrev S1x1024x3608 : Shape := ⟨3, ![1, 1024, 3608]⟩
abbrev S4x1024 : Shape := ⟨2, ![4, 1024]⟩
abbrev S1024 : Shape := ⟨1, ![1024]⟩
abbrev S4 : Shape := ⟨1, ![4]⟩
abbrev S16x256 : Shape := ⟨2, ![16, 256]⟩
abbrev S256 : Shape := ⟨1, ![256]⟩
abbrev S8x2048x1024 : Shape := ⟨3, ![8, 2048, 1024]⟩
abbrev S8x1x1024 : Shape := ⟨3, ![8, 1, 1024]⟩
abbrev S8x1024 : Shape := ⟨2, ![8, 1024]⟩
abbrev S_ : Shape := ⟨0, ![]⟩
abbrev S1024x3608 : Shape := ⟨2, ![1024, 3608]⟩
abbrev S8x2048x3608 : Shape := ⟨3, ![8, 2048, 3608]⟩
abbrev S8x2051x1024 : Shape := ⟨3, ![8, 2051, 1024]⟩
abbrev S1x1024 : Shape := ⟨2, ![1, 1024]⟩
abbrev S1x1x1024 : Shape := ⟨3, ![1, 1, 1024]⟩
abbrev S8x2048x4 : Shape := ⟨3, ![8, 2048, 4]⟩
abbrev S1x1x4 : Shape := ⟨3, ![1, 1, 4]⟩
abbrev S8x2048x256 : Shape := ⟨3, ![8, 2048, 256]⟩
abbrev S8x2048x1280 : Shape := ⟨3, ![8, 2048, 1280]⟩
abbrev S8x2048x16 : Shape := ⟨3, ![8, 2048, 16]⟩
abbrev S8x2048x512 : Shape := ⟨3, ![8, 2048, 512]⟩
abbrev S8x2048x3584 : Shape := ⟨3, ![8, 2048, 3584]⟩
abbrev S1x1x256 : Shape := ⟨3, ![1, 1, 256]⟩
abbrev S16384x3584 : Shape := ⟨2, ![16384, 3584]⟩
abbrev S16384x256 : Shape := ⟨2, ![16384, 256]⟩
abbrev S64x256x16 : Shape := ⟨3, ![64, 256, 16]⟩
abbrev S64x16x256 : Shape := ⟨3, ![64, 16, 256]⟩

abbrev nBuf : Space → Nat
  | .hbm => 151
  | .vmem => 0
  | .smem => 0
  | _ => 0

abbrev hbmTy0_0 (i : Nat) : BufTy := match i % 128 with
  | 0 => ⟨S16384x1024, .f32⟩
  | 1 => ⟨S8x6x1024, .f32⟩
  | 2 => ⟨S1x1024x3608, .f32⟩
  | 3 => ⟨S4x1024, .f32⟩
  | 4 => ⟨S1024, .f32⟩
  | 5 => ⟨S4, .f32⟩
  | 6 => ⟨S4, .f32⟩
  | 7 => ⟨S16x256, .f32⟩
  | 8 => ⟨S256, .f32⟩
  | 9 => ⟨S8x2048x1024, .f32⟩
  | 10 => ⟨S8x1x1024, .f32⟩
  | 11 => ⟨S8x1024, .f32⟩
  | 12 => ⟨S8x1x1024, .f32⟩
  | 13 => ⟨S_, .f32⟩
  | 14 => ⟨S8x1x1024, .f32⟩
  | 15 => ⟨S8x1x1024, .f32⟩
  | 16 => ⟨S8x2048x1024, .f32⟩
  | 17 => ⟨S8x2048x1024, .f32⟩
  | 18 => ⟨S8x1x1024, .f32⟩
  | 19 => ⟨S8x1024, .f32⟩
  | 20 => ⟨S8x1x1024, .f32⟩
  | 21 => ⟨S8x2048x1024, .f32⟩
  | 22 => ⟨S8x2048x1024, .f32⟩
  | 23 => ⟨S1024x3608, .f32⟩
  | 24 => ⟨S8x2048x3608, .f32⟩
  | 25 => ⟨S8x2048x1024, .f32⟩
  | 26 => ⟨S_, .i32⟩
  | 27 => ⟨S_, .f32⟩
  | 28 => ⟨S8x2051x1024, .f32⟩
  | 29 => ⟨S1x1024, .f32⟩
  | 30 => ⟨S1024, .f32⟩
  | 31 => ⟨S8x2048x1024, .f32⟩
  | 32 => ⟨S1x1x1024, .f32⟩
  | 33 => ⟨S8x2048x1024, .f32⟩
  | 34 => ⟨S8x2048x1024, .f32⟩
  | 35 => ⟨S1x1024, .f32⟩
  | 36 => ⟨S1024, .f32⟩
  | 37 => ⟨S8x2048x1024, .f32⟩
  | 38 => ⟨S1x1x1024, .f32⟩
  | 39 => ⟨S8x2048x1024, .f32⟩
  | 40 => ⟨S8x2048x1024, .f32⟩
  | 41 => ⟨S8x2048x1024, .f32⟩
  | 42 => ⟨S1x1024, .f32⟩
  | 43 => ⟨S1024, .f32⟩
  | 44 => ⟨S8x2048x1024, .f32⟩
  | 45 => ⟨S1x1x1024, .f32⟩
  | 46 => ⟨S8x2048x1024, .f32⟩
  | 47 => ⟨S8x2048x1024, .f32⟩
  | 48 => ⟨S8x2048x1024, .f32⟩
  | 49 => ⟨S1x1024, .f32⟩
  | 50 => ⟨S1024, .f32⟩
  | 51 => ⟨S1x1x1024, .f32⟩
  | 52 => ⟨S8x2048x1024, .f32⟩
  | 53 => ⟨S8x2048x1024, .f32⟩
  | 54 => ⟨S8x2048x1024, .f32⟩
  | 55 => ⟨S1x1x1024, .f32⟩
  | 56 => ⟨S8x2048x1024, .f32⟩
  | 57 => ⟨S8x2048x1024, .f32⟩
  | 58 => ⟨S8x2048x1024, .f32⟩
  | 59 => ⟨S8x2048x1024, .f32⟩
  | 60 => ⟨S_, .f32⟩
  | 61 => ⟨S8x2048x1024, .f32⟩
  | 62 => ⟨S8x2048x1024, .f32⟩
  | 63 => ⟨S_, .f32⟩
  | 64 => ⟨S8x2048x1024, .f32⟩
  | 65 => ⟨S8x2048x1024, .f32⟩
  | 66 => ⟨S8x2048x1024, .f32⟩
  | 67 => ⟨S8x2048x4, .f32⟩
  | 68 => ⟨S1x1x4, .f32⟩
  | 69 => ⟨S8x2048x4, .f32⟩
  | 70 => ⟨S8x2048x4, .f32⟩
  | 71 => ⟨S8x2048x4, .f32⟩
  | 72 => ⟨S1x1x4, .f32⟩
  | 73 => ⟨S8x2048x4, .f32⟩
  | 74 => ⟨S8x2048x4, .f32⟩
  | 75 => ⟨S8x2048x4, .f32⟩
  | 76 => ⟨S_, .f32⟩
  | 77 => ⟨S8x2048x4, .f32⟩
  | 78 => ⟨S8x2048x4, .f32⟩
  | 79 => ⟨S8x2048x4, .f32⟩
  | 80 => ⟨S8x2048x4, .f32⟩
  | 81 => ⟨S8x2048x4, .i1⟩
  | 82 => ⟨S8x2048x4, .f32⟩
  | 83 => ⟨S8x2048x4, .f32⟩
  | 84 => ⟨S8x2048x4, .f32⟩
  | 85 => ⟨S8x2048x4, .f32⟩
  | 86 => ⟨S8x2048x4, .f32⟩
  | 87 => ⟨S8x2048x4, .f32⟩
  | 88 => ⟨S8x2048x4, .f32⟩
  | 89 => ⟨S8x2048x4, .f32⟩
  | 90 => ⟨S8x2048x4, .f32⟩
  | 91 => ⟨S8x2048x256, .f32⟩
  | 92 => ⟨S8x2048x1280, .f32⟩
  | 93 => ⟨S8x2048x16, .f32⟩
  | 94 => ⟨S8x2048x512, .f32⟩
  | 95 => ⟨S8x2048x512, .f32⟩
  | 96 => ⟨S_, .f32⟩
  | 97 => ⟨S8x2048x512, .f32⟩
  | 98 => ⟨S8x2048x512, .f32⟩
  | 99 => ⟨S8x2048x1024, .f32⟩
  | 100 => ⟨S_, .f32⟩
  | 101 => ⟨S8x2048x256, .f32⟩
  | 102 => ⟨S8x2048x256, .f32⟩
  | 103 => ⟨S8x2048x3584, .f32⟩
  | 104 => ⟨S8x2048x3584, .bf16⟩
  | 105 => ⟨S8x2048x256, .f32⟩
  | 106 => ⟨S1x1x256, .f32⟩
  | 107 => ⟨S8x2048x256, .f32⟩
  | 108 => ⟨S8x2048x256, .f32⟩
  | 109 => ⟨S8x2048x256, .f32⟩
  | 110 => ⟨S_, .f32⟩
  | 111 => ⟨S8x2048x256, .f32⟩
  | 112 => ⟨S8x2048x256, .f32⟩
  | 113 => ⟨S8x2048x256, .f32⟩
  | 114 => ⟨S8x2048x256, .f32⟩
  | 115 => ⟨S8x2048x256, .i1⟩
  | 116 => ⟨S8x2048x256, .f32⟩
  | 117 => ⟨S8x2048x256, .f32⟩
  | 118 => ⟨S8x2048x256, .f32⟩
  | 119 => ⟨S8x2048x256, .f32⟩
  | 120 => ⟨S8x2048x256, .f32⟩
  | 121 => ⟨S8x2048x256, .f32⟩
  | 122 => ⟨S8x2048x256, .f32⟩
  | 123 => ⟨S8x2048x256, .f32⟩
  | 124 => ⟨S8x2048x256, .f32⟩
  | 125 => ⟨S_, .f32⟩
  | 126 => ⟨S8x2048x256, .f32⟩
  | 127 => ⟨S8x2048x256, .f32⟩
  | _ => ⟨S16384x1024, .f32⟩

abbrev hbmTy0_1 (i : Nat) : BufTy := match i % 128 with
  | 0 => ⟨S_, .f32⟩
  | 1 => ⟨S8x2048x4, .f32⟩
  | 2 => ⟨S8x2048x4, .f32⟩
  | 3 => ⟨S_, .f32⟩
  | 4 => ⟨S8x2048x4, .f32⟩
  | 5 => ⟨S8x2048x4, .f32⟩
  | 6 => ⟨S8x2048x4, .f32⟩
  | 7 => ⟨S8x2048x4, .f32⟩
  | 8 => ⟨S8x2048x4, .i1⟩
  | 9 => ⟨S8x2048x4, .f32⟩
  | 10 => ⟨S8x2048x4, .f32⟩
  | 11 => ⟨S8x2048x4, .f32⟩
  | 12 => ⟨S8x2048x4, .f32⟩
  | 13 => ⟨S8x2048x4, .f32⟩
  | 14 => ⟨S8x2048x4, .f32⟩
  | 15 => ⟨S8x2048x4, .f32⟩
  | 16 => ⟨S8x2048x4, .f32⟩
  | 17 => ⟨S8x2048x4, .f32⟩
  | 18 => ⟨S8x2048x16, .f32⟩
  | 19 => ⟨S16384x3584, .bf16⟩
  | 20 => ⟨S16384x256, .f32⟩
  | 21 => ⟨S64x256x16, .f32⟩
  | 22 => ⟨S64x16x256, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call2_v0 : Ref sig .tc := ⟨.hbm, 75, rfl⟩
abbrev main_call2_call0_cst : Ref sig .tc := ⟨.hbm, 76, rfl⟩
abbrev main_call2_call0_v0 : Ref sig .tc := ⟨.hbm, 77, rfl⟩
abbrev main_call2_call0_v1 : Ref sig .tc := ⟨.hbm, 78, rfl⟩
abbrev main_call2_call0_v2 : Ref sig .tc := ⟨.hbm, 79, rfl⟩
abbrev main_call2_call0_v3 : Ref sig .tc := ⟨.hbm, 80, rfl⟩
abbrev main_call2_call0_v4 : Ref sig .tc := ⟨.hbm, 81, rfl⟩
abbrev main_call2_call0_v5 : Ref sig .tc := ⟨.hbm, 82, rfl⟩
abbrev main_call2_call0_v6 : Ref sig .tc := ⟨.hbm, 83, rfl⟩
abbrev main_call2_call0_v7 : Ref sig .tc := ⟨.hbm, 84, rfl⟩
abbrev main_call2_call0_v8 : Ref sig .tc := ⟨.hbm, 85, rfl⟩
abbrev main_call2_call0_v9 : Ref sig .tc := ⟨.hbm, 86, rfl⟩
abbrev main_call2_call0_v10 : Ref sig .tc := ⟨.hbm, 87, rfl⟩
abbrev main_call2_call0_v11 : Ref sig .tc := ⟨.hbm, 88, rfl⟩
abbrev main_call2_v1 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_1 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_call3_v0 : Ref sig .tc := ⟨.hbm, 109, rfl⟩
abbrev main_call3_call0_cst : Ref sig .tc := ⟨.hbm, 110, rfl⟩
abbrev main_call3_call0_v0 : Ref sig .tc := ⟨.hbm, 111, rfl⟩
abbrev main_call3_call0_v1 : Ref sig .tc := ⟨.hbm, 112, rfl⟩
abbrev main_call3_call0_v2 : Ref sig .tc := ⟨.hbm, 113, rfl⟩
abbrev main_call3_call0_v3 : Ref sig .tc := ⟨.hbm, 114, rfl⟩
abbrev main_call3_call0_v4 : Ref sig .tc := ⟨.hbm, 115, rfl⟩
abbrev main_call3_call0_v5 : Ref sig .tc := ⟨.hbm, 116, rfl⟩
abbrev main_call3_call0_v6 : Ref sig .tc := ⟨.hbm, 117, rfl⟩
abbrev main_call3_call0_v7 : Ref sig .tc := ⟨.hbm, 118, rfl⟩
abbrev main_call3_call0_v8 : Ref sig .tc := ⟨.hbm, 119, rfl⟩
abbrev main_call3_call0_v9 : Ref sig .tc := ⟨.hbm, 120, rfl⟩
abbrev main_call3_call0_v10 : Ref sig .tc := ⟨.hbm, 121, rfl⟩
abbrev main_call3_call0_v11 : Ref sig .tc := ⟨.hbm, 122, rfl⟩
abbrev main_call3_v1 : Ref sig .tc := ⟨.hbm, 123, rfl⟩
abbrev main_v72 : Ref sig .tc := ⟨.hbm, 124, rfl⟩
abbrev main_cst_2 : Ref sig .tc := ⟨.hbm, 125, rfl⟩
abbrev main_v73 : Ref sig .tc := ⟨.hbm, 126, rfl⟩
abbrev main_v74 : Ref sig .tc := ⟨.hbm, 127, rfl⟩
abbrev main_cst_3 : Ref sig .tc := ⟨.hbm, 128, rfl⟩
abbrev main_v75 : Ref sig .tc := ⟨.hbm, 129, rfl⟩
abbrev main_call4_v0 : Ref sig .tc := ⟨.hbm, 130, rfl⟩
abbrev main_call4_call0_cst : Ref sig .tc := ⟨.hbm, 131, rfl⟩
abbrev main_call4_call0_v0 : Ref sig .tc := ⟨.hbm, 132, rfl⟩
abbrev main_call4_call0_v1 : Ref sig .tc := ⟨.hbm, 133, rfl⟩
abbrev main_call4_call0_v2 : Ref sig .tc := ⟨.hbm, 134, rfl⟩
abbrev main_call4_call0_v3 : Ref sig .tc := ⟨.hbm, 135, rfl⟩
abbrev main_call4_call0_v4 : Ref sig .tc := ⟨.hbm, 136, rfl⟩
abbrev main_call4_call0_v5 : Ref sig .tc := ⟨.hbm, 137, rfl⟩
abbrev main_call4_call0_v6 : Ref sig .tc := ⟨.hbm, 138, rfl⟩
abbrev main_call4_call0_v7 : Ref sig .tc := ⟨.hbm, 139, rfl⟩
abbrev main_call4_call0_v8 : Ref sig .tc := ⟨.hbm, 140, rfl⟩
abbrev main_call4_call0_v9 : Ref sig .tc := ⟨.hbm, 141, rfl⟩
abbrev main_call4_call0_v10 : Ref sig .tc := ⟨.hbm, 142, rfl⟩
abbrev main_call4_call0_v11 : Ref sig .tc := ⟨.hbm, 143, rfl⟩
abbrev main_call4_v1 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩

abbrev nD : Nat := 1
abbrev τ : Topo := Topo.v7x

variable {F : FTy → Type} [FloatOps F]
-- ==== Outproj.lean ====
abbrev S16384x512 : Shape := ⟨2, ![16384, 512]⟩
abbrev S1024x1024 : Shape := ⟨2, ![1024, 1024]⟩
abbrev S16384x1024 : Shape := ⟨2, ![16384, 1024]⟩
abbrev S8x6x1024 : Shape := ⟨3, ![8, 6, 1024]⟩
abbrev S1x1024 : Shape := ⟨2, ![1, 1024]⟩
abbrev S1x4x1024 : Shape := ⟨3, ![1, 4, 1024]⟩
abbrev S1x32x1024 : Shape := ⟨3, ![1, 32, 1024]⟩
abbrev S1x128 : Shape := ⟨2, ![1, 128]⟩
abbrev S64x8x256 : Shape := ⟨3, ![64, 8, 256]⟩
abbrev S1024x512 : Shape := ⟨2, ![1024, 512]⟩
abbrev S1x6x1024 : Shape := ⟨3, ![1, 6, 1024]⟩
abbrev S4x8x256 : Shape := ⟨3, ![4, 8, 256]⟩
abbrev S1024x256 : Shape := ⟨2, ![1024, 256]⟩
abbrev S4x1024 : Shape := ⟨2, ![4, 1024]⟩
abbrev S32x1024 : Shape := ⟨2, ![32, 1024]⟩
abbrev S88x1024 : Shape := ⟨2, ![88, 1024]⟩
abbrev S128x1024 : Shape := ⟨2, ![128, 1024]⟩
abbrev S1024x128 : Shape := ⟨2, ![1024, 128]⟩
abbrev S6x1024 : Shape := ⟨2, ![6, 1024]⟩
abbrev S256x512 : Shape := ⟨2, ![256, 512]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S128x256 : Shape := ⟨2, ![128, 256]⟩
abbrev S8x256 : Shape := ⟨2, ![8, 256]⟩
abbrev S1x256 : Shape := ⟨2, ![1, 256]⟩
abbrev S4x256 : Shape := ⟨2, ![4, 256]⟩
abbrev S1x8x256 : Shape := ⟨3, ![1, 8, 256]⟩

abbrev nBuf : Space → Nat
  | .hbm => 13
  | .vmem => 22
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S8x6x1024, .f32⟩
  | .hbm, ⟨5, _⟩ => ⟨S1x1024, .f32⟩
  | .hbm, ⟨6, _⟩ => ⟨S1x1024, .f32⟩
  | .hbm, ⟨7, _⟩ => ⟨S1x4x1024, .f32⟩
  | .hbm, ⟨8, _⟩ => ⟨S1x32x1024, .f32⟩
  | .hbm, ⟨9, _⟩ => ⟨S1x128, .f32⟩
  | .hbm, ⟨10, _⟩ => ⟨S16384x1024, .f32⟩
  | .hbm, ⟨11, _⟩ => ⟨S16384x1024, .bf16⟩
  | .hbm, ⟨12, _⟩ => ⟨S64x8x256, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x6x1024, .f32⟩
  | .local _ .vmem, ⟨8, _⟩ => ⟨S1x6x1024, .f32⟩
  | .local _ .vmem, ⟨9, _⟩ => ⟨S1x1024, .f32⟩
  | .local _ .vmem, ⟨10, _⟩ => ⟨S1x1024, .f32⟩
  | .local _ .vmem, ⟨11, _⟩ => ⟨S1x4x1024, .f32⟩
  | .local _ .vmem, ⟨12, _⟩ => ⟨S1x32x1024, .f32⟩
  | .local _ .vmem, ⟨13, _⟩ => ⟨S1x128, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S4x8x256, .f32⟩
  | .local _ .vmem, ⟨19, _⟩ => ⟨S4x8x256, .f32⟩
  | .local _ .vmem, ⟨20, _⟩ => ⟨S1024x1024, .bf16⟩
  | .local _ .vmem, ⟨21, _⟩ => ⟨S1024x256, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutprojRefIdeal.lean ====
abbrev S16384x512 : Shape := ⟨2, ![16384, 512]⟩
abbrev S1024x1024 : Shape := ⟨2, ![1024, 1024]⟩
abbrev S16384x1024 : Shape := ⟨2, ![16384, 1024]⟩
abbrev S8x6x1024 : Shape := ⟨3, ![8, 6, 1024]⟩
abbrev S1x1024 : Shape := ⟨2, ![1, 1024]⟩
abbrev S1x4x1024 : Shape := ⟨3, ![1, 4, 1024]⟩
abbrev S1x32x1024 : Shape := ⟨3, ![1, 32, 1024]⟩
abbrev S1x128 : Shape := ⟨2, ![1, 128]⟩
abbrev S8x2048x1024 : Shape := ⟨3, ![8, 2048, 1024]⟩
abbrev S_ : Shape := ⟨0, ![]⟩
abbrev S8x1x1024 : Shape := ⟨3, ![8, 1, 1024]⟩
abbrev S8x1024 : Shape := ⟨2, ![8, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S8x6x1024, .f32⟩
  | .hbm, ⟨5, _⟩ => ⟨S1x1024, .f32⟩
  | .hbm, ⟨6, _⟩ => ⟨S1x1024, .f32⟩
  | .hbm, ⟨7, _⟩ => ⟨S1x4x1024, .f32⟩
  | .hbm, ⟨8, _⟩ => ⟨S1x32x1024, .f32⟩
  | .hbm, ⟨9, _⟩ => ⟨S1x128, .f32⟩
  | .hbm, ⟨10, _⟩ => ⟨S16384x1024, .bf16⟩
  | .hbm, ⟨11, _⟩ => ⟨S16384x1024, .f32⟩
  | .hbm, ⟨12, _⟩ => ⟨S16384x1024, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S8x1x1024, .f32⟩
  | .hbm, ⟨19, _⟩ => ⟨S8x1024, .f32⟩
  | .hbm, ⟨20, _⟩ => ⟨S8x1x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1, .f32⟩
  | .hbm, ⟨48, _⟩ => ⟨S8x2048x1024, .f32⟩
  | .hbm, ⟨49, _⟩ => ⟨S8x2048x1024, .f32⟩
  | .hbm, ⟨50, _⟩ => ⟨S1x1x1024, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S8x1x1024, .f32⟩
  | .hbm, ⟨57, _⟩ => ⟨S8x1024, .f32⟩
  | .hbm, ⟨58, _⟩ => ⟨S8x1x1024, .f32⟩
  | .hbm, ⟨59, _⟩ => ⟨S_, .f32⟩
  | .hbm, ⟨60, _⟩ => ⟨S8x1x1024, .f32⟩
  | .hbm, ⟨61, _⟩ => ⟨S8x1x1024, .f32⟩
  | .hbm, ⟨62, _⟩ => ⟨S8x2048x1024, .f32⟩
  | .hbm, ⟨63, _⟩ => ⟨S8x2048x1024, .f32⟩
  | .hbm, ⟨64, _⟩ => ⟨S8x1x1024, .f32⟩
  | .hbm, ⟨65, _⟩ => ⟨S8x1024, .f32⟩
  | .hbm, ⟨66, _⟩ => ⟨S8x1x1024, .f32⟩
  | .hbm, ⟨67, _⟩ => ⟨S8x2048x1024, .f32⟩
  | .hbm, ⟨68, _⟩ => ⟨S8x2048x1024, .f32⟩
  | .hbm, ⟨69, _⟩ => ⟨S16384x1024, .f32⟩
  | .hbm, ⟨70, _⟩ => ⟨S16384x1024, .f32⟩
  | .hbm, ⟨71, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Proof.Body.lean ====
module

public import proofs.«01_k».proof.Proof.Gen.KernelIdeal.Frame

@[expose] public section

/-!
One grid point of the kernel, written once for all chains and chunks.  A grid point holds four sequences
(`bi`), two chunks of each (`cc`) and four heads (`h`).  `Rd` collects what the body reads from its input
blocks; the definitions below are the body's values as functions of the sequence, the chunk and the head.
-/

set_option maxRecDepth 16384
set_option synthInstance.maxSize 4096

noncomputable section

namespace MLstm

open Idealize.ShloMosaic Idealize.SL.Sem
open Cert.KernelIdeal Cert.KernelIdeal.Gen

variable {F : FTy → Type} [FloatOps F]

/-- What a grid point reads from its input blocks. -/
structure Rd (F : FTy → Type) where
  /-- the queries -/
  q : Fin 4 → Fin 2 → Fin 4 → Vec F S1x256x128 .bf16
  /-- the keys -/
  k : Fin 4 → Fin 2 → Fin 4 → Vec F S1x256x128 .bf16
  /-- the values -/
  v : Fin 4 → Fin 2 → Fin 4 → Vec F S1x256x128 .bf16
  /-- the output gates before their sigmoid -/
  o : Fin 4 → Fin 2 → Fin 4 → Vec F S1x256x128 .bf16
  /-- the log forget gates -/
  f : Fin 4 → Fin 2 → Vec F S1x1x8x256 .f32
  /-- the log input gates -/
  g : Fin 4 → Fin 2 → Vec F S1x1x8x256 .f32
  /-- the triangle that sums the gates -/
  u : Vec F S256x256 .f32
  /-- the norm's gain -/
  gain : Fin 4 → Vec F S1x128 .f32
  /-- the selection that spreads the factors over the lanes -/
  sel : Vec F S256x1024 .bf16

/-! ## The gates -/

/-- The eight chunks' gates one under another. -/
def stack (x : Fin 4 → Fin 2 → Vec F S1x1x8x256 .f32) : FVec F S64x256 .f32 :=
  concatenate S64x256 0 [⟨S8x256, shapeCast S8x256 (x 0 0) shapeCasts_S1x1x8x256_S8x256⟩,
    ⟨S8x256, shapeCast S8x256 (x 0 1) shapeCasts_S1x1x8x256_S8x256⟩,
    ⟨S8x256, shapeCast S8x256 (x 1 0) shapeCasts_S1x1x8x256_S8x256⟩,
    ⟨S8x256, shapeCast S8x256 (x 1 1) shapeCasts_S1x1x8x256_S8x256⟩,
    ⟨S8x256, shapeCast S8x256 (x 2 0) shapeCasts_S1x1x8x256_S8x256⟩,
    ⟨S8x256, shapeCast S8x256 (x 2 1) shapeCasts_S1x1x8x256_S8x256⟩,
    ⟨S8x256, shapeCast S8x256 (x 3 0) shapeCasts_S1x1x8x256_S8x256⟩,
    ⟨S8x256, shapeCast S8x256 (x 3 1) shapeCasts_S1x1x8x256_S8x256⟩]
    concatenates_S8x256_S8x256_S8x256_S8x256_S8x256_S8x256_S8x256_S8x256_S64x256_d0

/-- The sums of the forget gates inside each chunk. -/
def bAll (R : Rd F) : FVec F S64x256 .f32 :=
  matmul dot_S64x256_S256x256_S64x256_1_0_0_1_n_n (some .fp32) (stack R.f)
    (shapeCast S256x256 R.u shapeCasts_S256x256_S256x256) (constant S64x256 .f32 0x00000000#32)

/-- The input gates less the sums. -/
def aAll (R : Rd F) : FVec F S64x256 .f32 := subf (stack R.g) (bAll R)

/-- One step of the running maximum: each lane against the lane `s` before it. -/
def mstep (s : BitVec 32) (x : FVec F S64x256 .f32) : FVec F S64x256 .f32 :=
  maximumf x (select (cmpi .sge (iota .tc S64x256 32 [1] iota_S64x256_d1_w32) (broadcast S64x256 s))
    (dynamicRotate 1 s none x rotates_S64x256_d1) (broadcast S64x256 (Scalar.ofBits .f32 0xFF800000#32)))

/-- The running maximum of `aAll` along each chunk. -/
def gAll (R : Rd F) : FVec F S64x256 .f32 :=
  mstep 128#32 (mstep 64#32 (mstep 32#32 (mstep 16#32 (mstep 8#32 (mstep 4#32 (mstep 2#32 (mstep 1#32 (aAll R))))))))

/-- The rows of one chunk lie inside the stack. -/
theorem sl8 (bi : Fin 4) (cc : Fin 2) : S64x256.Slices ![8 * (2 * bi.val + cc.val), 0] S8x256 := by
  revert bi cc; decide

/-- The rows of one chunk in a stack. -/
def rows8 (x : FVec F S64x256 .f32) (bi : Fin 4) (cc : Fin 2) : FVec F S8x256 .f32 :=
  extractStridedSlice S8x256 ![8 * (2 * bi.val + cc.val), 0] x (sl8 bi cc)

/-- The last column of a chunk's rows. -/
def last8 (x : FVec F S8x256 .f32) : FVec F S8x1 .f32 := extractStridedSlice S8x1 ![0, 255] x slices_S8x256_o0_255_S8x1

/-- A chunk's stabilisers from the stabiliser before it. -/
def stab (R : Rd F) (bi : Fin 4) (cc : Fin 2) (mp : FVec F S8x1 .f32) : FVec F S8x256 .f32 :=
  maximumf (rows8 (gAll R) bi cc) (broadcastTo S8x256 mp broadcasts_S8x1_S8x256)

/-- The stabiliser after a chunk from the one before it. -/
def nextM (R : Rd F) (bi : Fin 4) (cc : Fin 2) (mp : FVec F S8x1 .f32) : FVec F S8x1 .f32 :=
  addf (last8 (rows8 (bAll R) bi cc)) (last8 (stab R bi cc mp))

/-- The stabiliser before a chunk, from the carried one. -/
def prevM (R : Rd F) (m0 : Fin 4 → Vec F S1x8x128 .f32) (bi : Fin 4) (cc : Fin 2) : FVec F S8x1 .f32 :=
  (![extractStridedSlice S8x1 ![0, 0] (shapeCast S8x128 (m0 bi) shapeCasts_S1x8x128_S8x128) slices_S8x128_o0_0_S8x1,
     nextM R bi 0 (extractStridedSlice S8x1 ![0, 0] (shapeCast S8x128 (m0 bi) shapeCasts_S1x8x128_S8x128) slices_S8x128_o0_0_S8x1)]
    : Fin 2 → FVec F S8x1 .f32) cc

/-- A chunk's factors by row of the chunk: the stabilisers, the state's factor, the divisor's floor and the keys'
weights, eight lanes each. -/
def facs (R : Rd F) (bi : Fin 4) (cc : Fin 2) (mp : FVec F S8x1 .f32) : FVec F S1x256x128 .f32 :=
  shapeCast S1x256x128 (transpose S256x128 [1, 0] (concatenate S128x256 0
    [⟨S8x256, stab R bi cc mp⟩,
     ⟨S8x256, exp (subf (broadcastTo S8x256 mp broadcasts_S8x1_S8x256) (stab R bi cc mp))⟩,
     ⟨S8x256, exp (subf (broadcast S8x256 (Scalar.ofBits .f32 0x00000000#32)) (addf (rows8 (bAll R) bi cc) (stab R bi cc mp)))⟩,
     ⟨S8x256, exp (subf (rows8 (aAll R) bi cc) (broadcastTo S8x256 (last8 (stab R bi cc mp)) broadcasts_S8x1_S8x256))⟩,
     ⟨S96x256, broadcast S96x256 (Scalar.ofBits .f32 0x00000000#32)⟩]
    concatenates_S8x256_S8x256_S8x256_S8x256_S96x256_S128x256_d0) transposes_S128x256_p1_0_S256x128)
    shapeCasts_S256x128_S1x256x128

/-- A chunk's input gates less the sums, as they are kept. -/
def kept (R : Rd F) (bi : Fin 4) (cc : Fin 2) : FVec F S1x8x256 .f32 :=
  shapeCast S1x8x256 (rows8 (aAll R) bi cc) shapeCasts_S8x256_S1x8x256

/-- What the state decays by over a chunk. -/
def decay (R : Rd F) (bi : Fin 4) (cc : Fin 2) (mp : FVec F S8x1 .f32) : FVec F S1x8x256 .f32 :=
  shapeCast S1x8x256 (broadcastTo S8x256 (shapeCast S8x1 (exp (subf mp (last8 (stab R bi cc mp)))) shapeCasts_S8x1_S8x1)
    broadcasts_S8x1_S8x256) shapeCasts_S8x256_S1x8x256

/-- The carried stabiliser after the grid point. -/
def carryM (R : Rd F) (m0 : Fin 4 → Vec F S1x8x128 .f32) (bi : Fin 4) : FVec F S1x8x128 .f32 :=
  shapeCast S1x8x128 (broadcastTo S8x128 (shapeCast S8x1 (nextM R bi 1 (prevM R m0 bi 1)) shapeCasts_S8x1_S8x1)
    broadcasts_S8x1_S8x128) shapeCasts_S8x128_S1x8x128

/-! ## One chain of one chunk -/

/-- The lower triangle. -/
def tril : IVec S256x256 1 :=
  cmpi .sge (iota .tc S256x256 32 [0] iota_S256x256_d0_w32) (iota .tc S256x256 32 [1] iota_S256x256_d1_w32)

/-- One head's row lies inside the eight. -/
theorem slRow (h : Fin 4) : S8x256.Slices ![h.val, 0] S1x256 := by revert h; decide
/-- One head's column lies inside the factors. -/
theorem slCol (h : Fin 4) : S256x128.Slices ![0, h.val] S256x1 := by revert h; decide
/-- One head's floor lies inside the factors. -/
theorem slFloor (h : Fin 4) : S256x128.Slices ![0, 16 + h.val] S256x1 := by revert h; decide
/-- One head's state factor lies inside the spread factors. -/
theorem slInter (h : Fin 4) : S256x1024.Slices ![0, 128 * h.val] S256x128 := by revert h; decide
/-- One head's key weights lie inside the spread factors. -/
theorem slW (h : Fin 4) : S256x1024.Slices ![0, 512 + 128 * h.val] S256x128 := by revert h; decide

/-- The values with a column block of ones beside them. -/
def vext (v : Vec F S1x256x128 .bf16) : FVec F S256x256 .bf16 :=
  concatenate S256x256 1 [⟨S256x128, shapeCast S256x128 v shapeCasts_S1x256x128_S256x128⟩,
    ⟨S256x128, broadcast S256x128 (Scalar.ofBits .bf16 0x3F80#16)⟩] concatenates_S256x128_S256x128_S256x256_d1

/-- The masked products of queries and keys. -/
def masked (h : Fin 4) (q k : Vec F S1x256x128 .bf16) (Z : FVec F S256x128 .f32) (a : FVec F S8x256 .f32) : FVec F S256x256 .bf16 :=
  truncf .bf16 (mulf (matmul dot_S256x128_S256x128_S256x256_1_1_0_0_n_n none
      (shapeCast S256x128 q shapeCasts_S1x256x128_S256x128) (shapeCast S256x128 k shapeCasts_S1x256x128_S256x128)
      (constant S256x256 .f32 0x00000000#32))
    (exp (select tril
      (subf (broadcastTo S256x256 (extractStridedSlice S1x256 ![h.val, 0] a (slRow h)) broadcasts_S1x256_S256x256)
        (broadcastTo S256x256 (extractStridedSlice S256x1 ![0, h.val] Z (slCol h)) broadcasts_S256x1_S256x256))
      (broadcast S256x256 (Scalar.ofBits .f32 0xFF800000#32))))) bitsLt_bf16_f32

/-- The two groups of lanes that are spread. -/
abbrev isFac : IVec S256x128 1 := k0_pay7

/-- The spread factors. -/
def spread (Z : FVec F S256x128 .f32) (sel : Vec F S256x1024 .bf16) : FVec F S256x1024 .f32 :=
  matmul dot_S256x256_S256x1024_S256x1024_1_0_0_1_n_n none
    (concatenate S256x256 1 [⟨S256x128, truncf .bf16 (select isFac Z (broadcast S256x128 (Scalar.ofBits .f32 0x00000000#32))) bitsLt_bf16_f32⟩,
      ⟨S256x128, truncf .bf16 (subf (select isFac Z (broadcast S256x128 (Scalar.ofBits .f32 0x00000000#32)))
        (extf .f32 (truncf .bf16 (select isFac Z (broadcast S256x128 (Scalar.ofBits .f32 0x00000000#32))) bitsLt_bf16_f32) bitsLt_bf16_f32)) bitsLt_bf16_f32⟩]
      concatenates_S256x128_S256x128_S256x256_d1)
    (shapeCast S256x1024 sel shapeCasts_S256x1024_S256x1024) (constant S256x1024 .f32 0x00000000#32)

/-- The weighted sums of the values and of the ones. -/
def sums (h : Fin 4) (q k v : Vec F S1x256x128 .bf16) (Z : FVec F S256x128 .f32) (a : FVec F S8x256 .f32) (sel : Vec F S256x1024 .bf16)
    (C : FVec F S128x256 .f32) : FVec F S256x256 .f32 :=
  addf (matmul dot_S256x256_S256x256_S256x256_1_0_0_1_n_n none (masked h q k Z a) (vext v) (constant S256x256 .f32 0x00000000#32))
    (mulf (concatenate S256x256 1 [⟨S256x128, extractStridedSlice S256x128 ![0, 128 * h.val] (spread Z sel) (slInter h)⟩,
        ⟨S256x128, extractStridedSlice S256x128 ![0, 128 * h.val] (spread Z sel) (slInter h)⟩] concatenates_S256x128_S256x128_S256x256_d1)
      (matmul dot_S256x128_S128x256_S256x256_1_0_0_1_n_n none (shapeCast S256x128 q shapeCasts_S1x256x128_S256x128)
        (truncf .bf16 C bitsLt_bf16_f32) (constant S256x256 .f32 0x00000000#32)))

/-- The ratio of the two sums, the second floored. -/
def quot (h : Fin 4) (nd : FVec F S256x256 .f32) (Z : FVec F S256x128 .f32) : FVec F S256x128 .f32 :=
  divf (extractStridedSlice S256x128 ![0, 0] nd slices_S256x256_o0_0_S256x128)
    (maximumf (absf (extractStridedSlice S256x128 ![0, 128] nd slices_S256x256_o0_128_S256x128))
      (broadcastTo S256x128 (extractStridedSlice S256x1 ![0, 16 + h.val] Z (slFloor h)) broadcasts_S256x1_S256x128))

/-- The output gate's sigmoid times the ratio. -/
def gated (o : Vec F S1x256x128 .bf16) (x : FVec F S256x128 .f32) : FVec F S256x128 .f32 :=
  mulf (divf (broadcast S256x128 (Scalar.ofBits .f32 0x3F800000#32))
    (addf (broadcast S256x128 (Scalar.ofBits .f32 0x3F800000#32))
      (exp (subf (broadcast S256x128 (Scalar.ofBits .f32 0x00000000#32))
        (extf .f32 (shapeCast S256x128 o shapeCasts_S1x256x128_S256x128) bitsLt_bf16_f32))))) x

/-- The norm over a head's lanes, times the gain. -/
def normed (x : FVec F S256x128 .f32) (g : Vec F S1x128 .f32) : FVec F S1x256x128 .bf16 :=
  shapeCast S1x256x128 (truncf .bf16 (mulf (mulf x (broadcastTo S256x128 (rsqrt (addf (divf
      (shapeCast S256x1 (multiReduction .add [1] S256 (mulf x x) 0x00000000#32 reduces_S256x128_S256 (.inl rfl) rfl) shapeCasts_S256_S256x1)
      (broadcast S256x1 (Scalar.ofBits .f32 0x43000000#32))) (broadcast S256x1 (Scalar.ofBits .f32 0x3727C5AC#32))))
      broadcasts_S256x1_S256x128)) (broadcastTo S256x128 g broadcasts_S1x128_S256x128)) bitsLt_bf16_f32) shapeCasts_S256x128_S1x256x128

/-- What one chain stores into the result. -/
def outP (R : Rd F) (bi : Fin 4) (cc : Fin 2) (h : Fin 4) (Zr : Vec F S1x256x128 .f32) (ar : Vec F S1x8x256 .f32) (Cr : Vec F S1x128x256 .f32) :
    FVec F S1x256x128 .bf16 :=
  normed (gated (R.o bi cc h) (quot h
    (sums h (R.q bi cc h) (R.k bi cc h) (R.v bi cc h) (shapeCast S256x128 Zr shapeCasts_S1x256x128_S256x128)
      (shapeCast S8x256 ar shapeCasts_S1x8x256_S8x256) R.sel (shapeCast S128x256 Cr shapeCasts_S1x128x256_S128x256))
    (shapeCast S256x128 Zr shapeCasts_S1x256x128_S256x128))) (R.gain h)

/-- What one chain stores into the state. -/
def updP (R : Rd F) (bi : Fin 4) (cc : Fin 2) (h : Fin 4) (Zr : Vec F S1x256x128 .f32) (dr : Vec F S1x8x256 .f32) (Cr : Vec F S1x128x256 .f32) :
    FVec F S1x128x256 .f32 :=
  shapeCast S1x128x256 (addf
    (mulf (broadcastTo S128x256 (extractStridedSlice S1x256 ![h.val, 0] (shapeCast S8x256 dr shapeCasts_S1x8x256_S8x256) (slRow h))
      broadcasts_S1x256_S128x256) (shapeCast S128x256 Cr shapeCasts_S1x128x256_S128x256))
    (matmul dot_S256x128_S256x256_S128x256_0_0_1_1_n_n none
      (truncf .bf16 (mulf (extractStridedSlice S256x128 ![0, 512 + 128 * h.val]
          (spread (shapeCast S256x128 Zr shapeCasts_S1x256x128_S256x128) R.sel) (slW h))
        (extf .f32 (shapeCast S256x128 (R.k bi cc h) shapeCasts_S1x256x128_S256x128) bitsLt_bf16_f32)) bitsLt_bf16_f32)
      (vext (R.v bi cc h)) (constant S128x256 .f32 0x00000000#32))) shapeCasts_S128x256_S1x128x256

/-! ## The stores as pieces -/

/-- Four, the last first. -/
def down4 : List (Fin 4) := [3, 2, 1, 0]

/-- The chains in the order of their stores, the last first. -/
def chains : List (Fin 4 × Fin 4) := down4.flatMap fun bi => down4.map fun h => (bi, h)
/-- The chunks of the sequences in the order of their stores, the last first. -/
def chunks : List (Fin 4 × Fin 2) := down4.flatMap fun bi => [(bi, 1), (bi, 0)]
/-- The results' stores, the last first. -/
def cells : List (Fin 4 × Fin 2 × Fin 4) :=
  (chains.map fun p => (p.1, 1, p.2)) ++ chains.map fun p => (p.1, 0, p.2)

/-- A chain's rows lie inside the result's block. -/
theorem inbO (bi : Fin 4) (cc : Fin 2) (h : Fin 4) :
    ∀ a, (![bi.val, 256 * cc.val, 128 * h.val] : Fin 3 → Nat) a + S1x256x128.size a ≤ S4x512x512.size a := by
  revert bi cc h; decide
/-- A chain's state lies inside the carried one. -/
theorem inbC (bi h : Fin 4) : ∀ a, (![4 * bi.val + h.val, 0, 0] : Fin 3 → Nat) a + S1x128x256.size a ≤ S16x128x256.size a := by
  revert bi h; decide
/-- A chunk's factors lie inside the scratch that keeps them. -/
theorem inbZ (bi : Fin 4) (cc : Fin 2) : ∀ a, (![2 * bi.val + cc.val, 0, 0] : Fin 3 → Nat) a + S1x256x128.size a ≤ S8x256x128.size a := by
  revert bi cc; decide
/-- A chunk's gates lie inside the scratch that keeps them. -/
theorem inbA (bi : Fin 4) (cc : Fin 2) : ∀ a, (![2 * bi.val + cc.val, 0, 0] : Fin 3 → Nat) a + S1x8x256.size a ≤ S8x8x256.size a := by
  revert bi cc; decide
/-- A sequence's stabiliser lies inside the carried one. -/
theorem inbM (bi : Fin 4) : ∀ a, (![bi.val, 0, 0] : Fin 3 → Nat) a + S1x8x128.size a ≤ S4x8x128.size a := by
  revert bi; decide

/-- Where a chain's result is stored. -/
abbrev rectO (p : Fin 4 × Fin 2 × Fin 4) : Rect S4x512x512 := Rect.unit ![p.1.val, 256 * p.2.1.val, 128 * p.2.2.val] S1x256x128.size (inbO p.1 p.2.1 p.2.2)
/-- Where a chain's state is stored. -/
abbrev rectC (p : Fin 4 × Fin 4) : Rect S16x128x256 := Rect.unit ![4 * p.1.val + p.2.val, 0, 0] S1x128x256.size (inbC p.1 p.2)
/-- Where a chunk's factors are stored. -/
abbrev rectZ (p : Fin 4 × Fin 2) : Rect S8x256x128 := Rect.unit ![2 * p.1.val + p.2.val, 0, 0] S1x256x128.size (inbZ p.1 p.2)
/-- Where a chunk's gates are stored. -/
abbrev rectA (p : Fin 4 × Fin 2) : Rect S8x8x256 := Rect.unit ![2 * p.1.val + p.2.val, 0, 0] S1x8x256.size (inbA p.1 p.2)
/-- Where a sequence's stabiliser is stored. -/
abbrev rectM (p : Fin 4) : Rect S4x8x128 := Rect.unit ![p.val, 0, 0] S1x8x128.size (inbM p)

/-- What a chunk finds in the scratches and in the state. -/
structure Fnd (F : FTy → Type) where
  /-- the factors -/
  Z : Fin 4 → Fin 2 → Vec F S1x256x128 .f32
  /-- the gates -/
  a : Fin 4 → Fin 2 → Vec F S1x8x256 .f32
  /-- the decays -/
  d : Fin 4 → Fin 2 → Vec F S1x8x256 .f32
  /-- the states before the first chunk -/
  C0 : Fin 4 → Fin 4 → Vec F S1x128x256 .f32
  /-- the states before the second chunk -/
  C1 : Fin 4 → Fin 4 → Vec F S1x128x256 .f32

/-- The states before a chunk. -/
def Fnd.C (X : Fnd F) (cc : Fin 2) : Fin 4 → Fin 4 → Vec F S1x128x256 .f32 :=
  (![X.C0, X.C1] : Fin 2 → Fin 4 → Fin 4 → Vec F S1x128x256 .f32) cc

/-- One store into the result. -/
def pieceO (R : Rd F) (X : Fnd F) (p : Fin 4 × Fin 2 × Fin 4) : View.Piece (Elt F) S4x512x512 .bf16 :=
  ⟨rectO p, outP R p.1 p.2.1 p.2.2 (X.Z p.1 p.2.1) (X.a p.1 p.2.1) (X.C p.2.1 p.1 p.2.2)⟩
/-- One store into the state. -/
def pieceC (R : Rd F) (X : Fnd F) (cc : Fin 2) (p : Fin 4 × Fin 4) : View.Piece (Elt F) S16x128x256 .f32 :=
  ⟨rectC p, updP R p.1 cc p.2 (X.Z p.1 cc) (X.d p.1 cc) (X.C cc p.1 p.2)⟩
/-- One store of a chunk's factors. -/
def pieceZ (R : Rd F) (m0 : Fin 4 → Vec F S1x8x128 .f32) (p : Fin 4 × Fin 2) : View.Piece (Elt F) S8x256x128 .f32 :=
  ⟨rectZ p, facs R p.1 p.2 (prevM R m0 p.1 p.2)⟩
/-- One store of a chunk's gates. -/
def pieceA (R : Rd F) (p : Fin 4 × Fin 2) : View.Piece (Elt F) S8x8x256 .f32 := ⟨rectA p, kept R p.1 p.2⟩
/-- One store of a chunk's decay. -/
def pieceD (R : Rd F) (m0 : Fin 4 → Vec F S1x8x128 .f32) (p : Fin 4 × Fin 2) : View.Piece (Elt F) S8x8x256 .f32 :=
  ⟨rectA p, decay R p.1 p.2 (prevM R m0 p.1 p.2)⟩
/-- One store of a carried stabiliser. -/
def pieceM (R : Rd F) (m0 : Fin 4 → Vec F S1x8x128 .f32) (p : Fin 4) : View.Piece (Elt F) S4x8x128 .f32 := ⟨rectM p, carryM R m0 p⟩

/-! ## The reads -/

/-- A chain's queries lie inside their block. -/
theorem inbQ (bi : Fin 4) (cc : Fin 2) (h : Fin 4) :
    ∀ a, (![bi.val, 256 * cc.val, 128 * h.val] : Fin 3 → Nat) a + S1x256x128.size a ≤ S4x512x1024.size a := by
  revert bi cc h; decide
/-- A chain's keys lie inside their block. -/
theorem inbK (bi : Fin 4) (cc : Fin 2) (h : Fin 4) :
    ∀ a, (![bi.val, 256 * cc.val, 512 + 128 * h.val] : Fin 3 → Nat) a + S1x256x128.size a ≤ S4x512x1024.size a := by
  revert bi cc h; decide
/-- A chunk's forget gates lie inside their block. -/
theorem inbF (bi : Fin 4) (cc : Fin 2) :
    ∀ a, (![bi.val, cc.val, 8, 0] : Fin 4 → Nat) a + S1x1x8x256.size a ≤ S4x2x16x256.size a := by
  revert bi cc; decide
/-- A chunk's input gates lie inside their block. -/
theorem inbG (bi : Fin 4) (cc : Fin 2) :
    ∀ a, (![bi.val, cc.val, 0, 0] : Fin 4 → Nat) a + S1x1x8x256.size a ≤ S4x2x16x256.size a := by
  revert bi cc; decide
/-- A head's gain lies inside its block. -/
theorem inbN (h : Fin 4) : ∀ a, (![0, 128 * h.val] : Fin 2 → Nat) a + S1x128.size a ≤ S1x512.size a := by
  revert h; decide

/-- A read of a buffer that holds `x`, through a rectangle. -/
abbrev rd {S : Shape} {e : EltTy} {sp : Space} {arg : Memref sig .tc sp S e} (ha : arg.IsWhole) (x : Vec F S e) (r : Rect S) : Vec F r.shape e :=
  View.readAt (Elt F) arg.view r.toLoadRect (ha.unread x)

end MLstm
-- ==== Proof.Lists.lean ====
module

public import proofs.«01_k».proof.Proof.Body

@[expose] public section

/-!
The stores of the two cases of the body, as the certificate's run lists them, are the stores of `Body`: by
unfolding.
-/

set_option maxRecDepth 16384
set_option synthInstance.maxSize 4096

noncomputable section

namespace MLstm

open Idealize.ShloMosaic Idealize.SL.Sem Idealize.ShloMosaic.Tactic
open Cert.KernelIdeal Cert.KernelIdeal.Gen

variable {F : FTy → Type} [FloatOps F]

variable (c : Dev nD) (i : grid0.Coords) (arg2 : Memref sig .tc .vmem S4x512x1024 .bf16) (harg2 : arg2.IsWhole) (arg3 : Memref sig .tc .vmem S4x512x1024 .bf16) (harg3 : arg3.IsWhole) (arg4 : Memref sig .tc .vmem S4x2x16x256 .f32) (harg4 : arg4.IsWhole) (arg5 : Memref sig .tc .vmem S256x256 .f32) (harg5 : arg5.IsWhole) (arg6 : Memref sig .tc .vmem S1x512 .f32) (harg6 : arg6.IsWhole) (arg7 : Memref sig .tc .vmem S256x1024 .bf16) (harg7 : arg7.IsWhole) (arg8 : Memref sig .tc .vmem S4x512x512 .bf16) (harg8 : arg8.IsWhole) (arg9 : Memref sig .tc .vmem S16x128x256 .f32) (harg9 : arg9.IsWhole) (arg10 : Memref sig .tc .vmem S8x256x128 .f32) (harg10 : arg10.IsWhole) (arg11 : Memref sig .tc .vmem S8x8x256 .f32) (harg11 : arg11.IsWhole) (arg12 : Memref sig .tc .vmem S8x8x256 .f32) (harg12 : arg12.IsWhole) (arg13 : Memref sig .tc .vmem S4x8x128 .f32) (harg13 : arg13.IsWhole)
  (x0 : Vec F S4x512x1024 .bf16) (x1 : Vec F S4x512x1024 .bf16) (x2 : Vec F S4x2x16x256 .f32) (x3 : Vec F S256x256 .f32) (x4 : Vec F S1x512 .f32) (x5 : Vec F S256x1024 .bf16)

/-- What the body reads from its input blocks. -/
def reads : Rd F where
  q bi cc h := rd harg2 x0 (Rect.unit ![bi.val, 256 * cc.val, 128 * h.val] S1x256x128.size (inbQ bi cc h))
  k bi cc h := rd harg2 x0 (Rect.unit ![bi.val, 256 * cc.val, 512 + 128 * h.val] S1x256x128.size (inbK bi cc h))
  v bi cc h := rd harg3 x1 (Rect.unit ![bi.val, 256 * cc.val, 128 * h.val] S1x256x128.size (inbQ bi cc h))
  o bi cc h := rd harg3 x1 (Rect.unit ![bi.val, 256 * cc.val, 512 + 128 * h.val] S1x256x128.size (inbK bi cc h))
  f bi cc := rd harg4 x2 (Rect.unit ![bi.val, cc.val, 8, 0] S1x1x8x256.size (inbF bi cc))
  g bi cc := rd harg4 x2 (Rect.unit ![bi.val, cc.val, 0, 0] S1x1x8x256.size (inbG bi cc))
  u := rd harg5 x3 (Rect.unit ![0, 0] S256x256.size inb_S256x256_S256x256_0_0)
  gain h := rd harg6 x4 (Rect.unit ![0, 128 * h.val] S1x128.size (inbN h))
  sel := rd harg7 x5 (Rect.unit ![0, 0] S256x1024.size inb_S256x1024_S256x1024_0_0)

local notation "RR" => reads arg2 harg2 arg3 harg3 arg4 harg4 arg5 harg5 arg6 harg6 arg7 harg7 x0 x1 x2 x3 x4 x5

/-- What a chunk finds: the factors, gates and decays this point stored, the states `C0` before the first chunk and
those that the list `L` holds before the second. -/
def finds (m0 : Fin 4 → Vec F S1x8x128 .f32) (C0 : Fin 4 → Fin 4 → Vec F S1x128x256 .f32) (L : List (View.Piece (Elt F) S16x128x256 .f32)) : Fnd F where
  Z bi cc := arg10.view.readCov (chunks.map (pieceZ (RR) m0)) (rectZ (bi, cc)).toLoadRect
  a bi cc := arg11.view.readCov (chunks.map (pieceA (RR))) (rectA (bi, cc)).toLoadRect
  d bi cc := arg12.view.readCov (chunks.map (pieceD (RR) m0)) (rectA (bi, cc)).toLoadRect
  C0 := C0
  C1 bi h := arg9.view.readCov L (rectC (bi, h)).toLoadRect

/-- The carried stabilisers a later point of a run finds. -/
def m0B (xs4 : Vec F S4x8x128 .f32) : Fin 4 → Vec F S1x8x128 .f32 := fun bi => rd harg13 xs4 (rectM bi)
/-- The states a later point of a run finds. -/
def C0B (xs0 : Vec F S16x128x256 .f32) : Fin 4 → Fin 4 → Vec F S1x128x256 .f32 := fun bi h => rd harg9 xs0 (rectC (bi, h))

/-- The factors' stores. -/
theorem listZ_B (xs0 : Vec F S16x128x256 .f32) (xs4 : Vec F S4x8x128 .f32) : kernelRun0_B.sl.HS1_8 c arg4 harg4 arg5 harg5 arg13 harg13 x2 x3 xs4 = chunks.map (pieceZ (RR) (m0B arg13 harg13 xs4)) := by
  sl_kernel_rfl
/-- The gates' stores. -/
theorem listA_B : kernelRun0_B.sl.HS2_8 c arg4 harg4 arg5 harg5 x2 x3 = chunks.map (pieceA (RR)) := by
  sl_kernel_rfl
/-- The decays' stores. -/
theorem listD_B (xs0 : Vec F S16x128x256 .f32) (xs4 : Vec F S4x8x128 .f32) : kernelRun0_B.sl.HS3_8 c arg4 harg4 arg5 harg5 arg13 harg13 x2 x3 xs4 = chunks.map (pieceD (RR) (m0B arg13 harg13 xs4)) := by
  sl_kernel_rfl
/-- The states' stores of the first chunk. -/
theorem listC0_B (xs0 : Vec F S16x128x256 .f32) (xs4 : Vec F S4x8x128 .f32) : (kernelRun0_B.sl.HS0_16 c arg2 harg2 arg3 harg3 arg4 harg4 arg5 harg5 arg7 harg7 arg9 harg9 arg10 arg12 arg13 harg13 x0 x1 x2 x3 x5 xs0 xs4) = (chains.map (pieceC (RR) (finds arg2 harg2 arg3 harg3 arg4 harg4 arg5 harg5 arg6 harg6 arg7 harg7 arg9 arg10 arg11 arg12 x0 x1 x2 x3 x4 x5 (m0B arg13 harg13 xs4) (C0B arg9 harg9 xs0) []) 0)) ++ [] := by
  sl_kernel_rfl
/-- The states' stores. -/
theorem listC_B (xs0 : Vec F S16x128x256 .f32) (xs4 : Vec F S4x8x128 .f32) (hc0 : ¬ cond0_0 i) : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs4).2.1
    = (chains.map (pieceC (RR) (finds arg2 harg2 arg3 harg3 arg4 harg4 arg5 harg5 arg6 harg6 arg7 harg7 arg9 arg10 arg11 arg12 x0 x1 x2 x3 x4 x5 (m0B arg13 harg13 xs4) (C0B arg9 harg9 xs0) (kernelRun0_B.sl.HS0_16 c arg2 harg2 arg3 harg3 arg4 harg4 arg5 harg5 arg7 harg7 arg9 harg9 arg10 arg12 arg13 harg13 x0 x1 x2 x3 x5 xs0 xs4)) 1)) ++ (kernelRun0_B.sl.HS0_16 c arg2 harg2 arg3 harg3 arg4 harg4 arg5 harg5 arg7 harg7 arg9 harg9 arg10 arg12 arg13 harg13 x0 x1 x2 x3 x5 xs0 xs4) := by
  sl_kernel_rfl
/-- The results' stores. -/
theorem listO_B (xs0 : Vec F S16x128x256 .f32) (xs4 : Vec F S4x8x128 .f32) (hc0 : ¬ cond0_0 i) : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs4).1
    = cells.map (pieceO (RR) (finds arg2 harg2 arg3 harg3 arg4 harg4 arg5 harg5 arg6 harg6 arg7 harg7 arg9 arg10 arg11 arg12 x0 x1 x2 x3 x4 x5 (m0B arg13 harg13 xs4) (C0B arg9 harg9 xs0) (kernelRun0_B.sl.HS0_16 c arg2 harg2 arg3 harg3 arg4 harg4 arg5 harg5 arg7 harg7 arg9 harg9 arg10 arg12 arg13 harg13 x0 x1 x2 x3 x5 xs0 xs4))) := by
  sl_kernel_rfl
/-- The carried stabilisers' stores. -/
theorem listM_B (xs0 : Vec F S16x128x256 .f32) (xs4 : Vec F S4x8x128 .f32) (hc0 : ¬ cond0_0 i) : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs4).2.2.1
    = (down4.map (pieceM (RR) (m0B arg13 harg13 xs4))) ++ [] := by
  sl_kernel_rfl
/-- The carried stabilisers the first point of a run finds: it has just cleared them. -/
def m0A : Fin 4 → Vec F S1x8x128 .f32 :=
  ![kernelRun0_A.sl.v125 c arg13, kernelRun0_A.sl.v199 c arg4 harg4 arg5 harg5 arg13 x2 x3, kernelRun0_A.sl.v273 c arg4 harg4 arg5 harg5 arg13 x2 x3,
    kernelRun0_A.sl.v347 c arg4 harg4 arg5 harg5 arg13 x2 x3]
/-- The cleared state. -/
def zeroC : List (View.Piece (Elt F) S16x128x256 .f32) := [⟨Rect.unit ![0, 0, 0] S16x128x256.size inb_S16x128x256_S16x128x256_0_0_0, k0_pay2⟩]
/-- The cleared stabilisers. -/
def zeroM : List (View.Piece (Elt F) S4x8x128 .f32) := [⟨Rect.unit ![0, 0, 0] S4x8x128.size inb_S4x8x128_S4x8x128_0_0_0, k0_pay3⟩]
/-- The states the first point of a run finds: it has just cleared them. -/
def C0A : Fin 4 → Fin 4 → Vec F S1x128x256 .f32 := fun bi h => arg9.view.readCov zeroC (rectC (bi, h)).toLoadRect

/-- The factors' stores. -/
theorem listZ_A : kernelRun0_A.sl.HS1_8 c arg4 harg4 arg5 harg5 arg13 x2 x3 = chunks.map (pieceZ (RR) (m0A c arg4 harg4 arg5 harg5 arg13 x2 x3)) := by
  sl_kernel_rfl
/-- The gates' stores. -/
theorem listA_A : kernelRun0_A.sl.HS2_8 c arg4 harg4 arg5 harg5 x2 x3 = chunks.map (pieceA (RR)) := by
  sl_kernel_rfl
/-- The decays' stores. -/
theorem listD_A : kernelRun0_A.sl.HS3_8 c arg4 harg4 arg5 harg5 arg13 x2 x3 = chunks.map (pieceD (RR) (m0A c arg4 harg4 arg5 harg5 arg13 x2 x3)) := by
  sl_kernel_rfl
/-- The states' stores of the first chunk. -/
theorem listC0_A : (kernelRun0_A.sl.HS0_17 c arg2 harg2 arg3 harg3 arg4 harg4 arg5 harg5 arg7 harg7 arg9 arg10 arg12 arg13 x0 x1 x2 x3 x5) = (chains.map (pieceC (RR) (finds arg2 harg2 arg3 harg3 arg4 harg4 arg5 harg5 arg6 harg6 arg7 harg7 arg9 arg10 arg11 arg12 x0 x1 x2 x3 x4 x5 (m0A c arg4 harg4 arg5 harg5 arg13 x2 x3) (C0A arg9) []) 0)) ++ zeroC := by
  sl_kernel_rfl
/-- The states' stores. -/
theorem listC_A (hc0 : cond0_0 i) : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.1
    = (chains.map (pieceC (RR) (finds arg2 harg2 arg3 harg3 arg4 harg4 arg5 harg5 arg6 harg6 arg7 harg7 arg9 arg10 arg11 arg12 x0 x1 x2 x3 x4 x5 (m0A c arg4 harg4 arg5 harg5 arg13 x2 x3) (C0A arg9) (kernelRun0_A.sl.HS0_17 c arg2 harg2 arg3 harg3 arg4 harg4 arg5 harg5 arg7 harg7 arg9 arg10 arg12 arg13 x0 x1 x2 x3 x5)) 1)) ++ (kernelRun0_A.sl.HS0_17 c arg2 harg2 arg3 harg3 arg4 harg4 arg5 harg5 arg7 harg7 arg9 arg10 arg12 arg13 x0 x1 x2 x3 x5) := by
  sl_kernel_rfl
/-- The results' stores. -/
theorem listO_A (hc0 : cond0_0 i) : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).1
    = cells.map (pieceO (RR) (finds arg2 harg2 arg3 harg3 arg4 harg4 arg5 harg5 arg6 harg6 arg7 harg7 arg9 arg10 arg11 arg12 x0 x1 x2 x3 x4 x5 (m0A c arg4 harg4 arg5 harg5 arg13 x2 x3) (C0A arg9) (kernelRun0_A.sl.HS0_17 c arg2 harg2 arg3 harg3 arg4 harg4 arg5 harg5 arg7 harg7 arg9 arg10 arg12 arg13 x0 x1 x2 x3 x5))) := by
  sl_kernel_rfl
/-- The carried stabilisers' stores. -/
theorem listM_A (hc0 : cond0_0 i) : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.2.1
    = (down4.map (pieceM (RR) (m0A c arg4 harg4 arg5 harg5 arg13 x2 x3))) ++ zeroM := by
  sl_kernel_rfl

end MLstm
-- ==== Proof.Pieces.lean ====
module

public import proofs.«01_k».proof.Proof.Lists
public import Idealize.ShloMosaic.Lib.Pipeline.FrameBody
public import Idealize.ShloMosaic.Lib.WholeRead

@[expose] public section

/-!
What the stores leave.  Stores through rectangles that do not meet leave under each rectangle what was stored
there; so every load of a scratch and every buffer after the point is read at a sequence, a chunk and a head.
-/

set_option maxRecDepth 16384

noncomputable section

namespace MLstm

open Idealize.ShloMosaic Idealize.SL.Sem
open Cert.KernelIdeal Cert.KernelIdeal.Gen

/-- Among stores through rectangles that do not meet, the last contents under one of them is what it stored. -/
theorem canon_map {s : Shape} {e : EltTy} {Val : EltTy → Type} [∀ e, Nonempty (Val e)] {ι : Type} (mk : ι → View.Piece Val s e)
    (l : List ι) (T : List (View.Piece Val s e)) (p : ι) (hp : p ∈ l)
    (hd : ∀ p', p' ≠ p → Disjoint (mk p).1.set (mk p').1.set) (x : (mk p).1.shape.Idx) :
    View.canon (l.map mk ++ T) ((mk p).1.emb x) = (mk p).2 x := by
  induction l with
  | nil => cases hp
  | cons a l ih =>
    by_cases h : a = p
    · subst h
      exact View.canon_cons_emb (mk a).1 (mk a).2 (l.map mk ++ T) x
    · rw [List.map_cons, List.cons_append, View.canon_cons_of_not_mem]
      · exact ih ((List.mem_cons.1 hp).resolve_left fun e => h e.symm)
      · refine Finset.disjoint_left.1 (hd a h) ?_
        rw [← Rect.map_emb_univ]
        exact Finset.mem_map_of_mem _ (Finset.mem_univ x)

/-- So a load through that rectangle reads what it stored. -/
theorem readCov_map {sig' : RefSig} {κ : Kind} {sp : Space} {s : Shape} {e : EltTy} {Val : EltTy → Type} [∀ e, Nonempty (Val e)] {ι : Type}
    (v : View sig' κ sp s e) (mk : ι → View.Piece Val s e)
    (l : List ι) (T : List (View.Piece Val s e)) (p : ι) (hp : p ∈ l)
    (hd : ∀ p', p' ≠ p → Disjoint (mk p).1.set (mk p').1.set) :
    v.readCov (l.map mk ++ T) (mk p).1.toLoadRect = (mk p).2 := by
  rw [View.readCov_eq_canon']
  funext x
  exact canon_map mk l T p hp hd x

/-- Two results' rectangles do not meet. -/
theorem disjO (p p' : Fin 4 × Fin 2 × Fin 4) (h : p' ≠ p) : Disjoint (rectO p).set (rectO p').set := by
  obtain ⟨a, b, c⟩ := p
  obtain ⟨a', b', c'⟩ := p'
  rw [Finset.disjoint_left]
  intro y hy hy'
  rw [Rect.mem_set_unit] at hy hy'
  apply h
  have h0 := hy 0; have h1 := hy 1; have h2 := hy 2
  have h0' := hy' 0; have h1' := hy' 1; have h2' := hy' 2
  simp only [Matrix.cons_val_zero, Matrix.cons_val_one, Matrix.cons_val, S1x256x128] at h0 h1 h2 h0' h1' h2'
  have e0 : a' = a := by ext; omega
  have e1 : b' = b := by ext; omega
  have e2 : c' = c := by ext; omega
  rw [e0, e1, e2]

/-- Two states' rectangles do not meet. -/
theorem disjC (p p' : Fin 4 × Fin 4) (h : p' ≠ p) : Disjoint (rectC p).set (rectC p').set := by
  obtain ⟨a, b⟩ := p
  obtain ⟨a', b'⟩ := p'
  rw [Finset.disjoint_left]
  intro y hy hy'
  rw [Rect.mem_set_unit] at hy hy'
  apply h
  have h0 := hy 0
  have h0' := hy' 0
  simp only [Matrix.cons_val_zero, S1x128x256] at h0 h0'
  have e0 : a' = a := by ext; omega
  have e1 : b' = b := by ext; omega
  rw [e0, e1]

/-- Two chunks' factors' rectangles do not meet. -/
theorem disjZ (p p' : Fin 4 × Fin 2) (h : p' ≠ p) : Disjoint (rectZ p).set (rectZ p').set := by
  obtain ⟨a, b⟩ := p
  obtain ⟨a', b'⟩ := p'
  rw [Finset.disjoint_left]
  intro y hy hy'
  rw [Rect.mem_set_unit] at hy hy'
  apply h
  have h0 := hy 0
  have h0' := hy' 0
  simp only [Matrix.cons_val_zero, S1x256x128] at h0 h0'
  have e0 : a' = a := by ext; omega
  have e1 : b' = b := by ext; omega
  rw [e0, e1]

/-- Two chunks' gates' rectangles do not meet. -/
theorem disjA (p p' : Fin 4 × Fin 2) (h : p' ≠ p) : Disjoint (rectA p).set (rectA p').set := by
  obtain ⟨a, b⟩ := p
  obtain ⟨a', b'⟩ := p'
  rw [Finset.disjoint_left]
  intro y hy hy'
  rw [Rect.mem_set_unit] at hy hy'
  apply h
  have h0 := hy 0
  have h0' := hy' 0
  simp only [Matrix.cons_val_zero, S1x8x256] at h0 h0'
  have e0 : a' = a := by ext; omega
  have e1 : b' = b := by ext; omega
  rw [e0, e1]

/-- Two stabilisers' rectangles do not meet. -/
theorem disjM (p p' : Fin 4) (h : p' ≠ p) : Disjoint (rectM p).set (rectM p').set := by
  rw [Finset.disjoint_left]
  intro y hy hy'
  rw [Rect.mem_set_unit] at hy hy'
  apply h
  have h0 := hy 0
  have h0' := hy' 0
  simp only [Matrix.cons_val_zero, S1x8x128] at h0 h0'
  ext; omega

variable {F : FTy → Type} [FloatOps F]

/-- What a chunk finds, in closed form. -/
def found (R : Rd F) (m0 : Fin 4 → Vec F S1x8x128 .f32) (C0 : Fin 4 → Fin 4 → Vec F S1x128x256 .f32) : Fnd F where
  Z bi cc := facs R bi cc (prevM R m0 bi cc)
  a bi cc := kept R bi cc
  d bi cc := decay R bi cc (prevM R m0 bi cc)
  C0 := C0
  C1 bi h := updP R bi 0 h (facs R bi 0 (prevM R m0 bi 0)) (decay R bi 0 (prevM R m0 bi 0)) (C0 bi h)

variable (c : Dev nD) (i : grid0.Coords) (arg2 : Memref sig .tc .vmem S4x512x1024 .bf16) (harg2 : arg2.IsWhole) (arg3 : Memref sig .tc .vmem S4x512x1024 .bf16) (harg3 : arg3.IsWhole) (arg4 : Memref sig .tc .vmem S4x2x16x256 .f32) (harg4 : arg4.IsWhole) (arg5 : Memref sig .tc .vmem S256x256 .f32) (harg5 : arg5.IsWhole) (arg6 : Memref sig .tc .vmem S1x512 .f32) (harg6 : arg6.IsWhole) (arg7 : Memref sig .tc .vmem S256x1024 .bf16) (harg7 : arg7.IsWhole) (arg8 : Memref sig .tc .vmem S4x512x512 .bf16) (harg8 : arg8.IsWhole) (arg9 : Memref sig .tc .vmem S16x128x256 .f32) (harg9 : arg9.IsWhole) (arg10 : Memref sig .tc .vmem S8x256x128 .f32) (harg10 : arg10.IsWhole) (arg11 : Memref sig .tc .vmem S8x8x256 .f32) (harg11 : arg11.IsWhole) (arg12 : Memref sig .tc .vmem S8x8x256 .f32) (harg12 : arg12.IsWhole) (arg13 : Memref sig .tc .vmem S4x8x128 .f32) (harg13 : arg13.IsWhole)
  (x0 : Vec F S4x512x1024 .bf16) (x1 : Vec F S4x512x1024 .bf16) (x2 : Vec F S4x2x16x256 .f32) (x3 : Vec F S256x256 .f32) (x4 : Vec F S1x512 .f32) (x5 : Vec F S256x1024 .bf16)

local notation "RR" => reads arg2 harg2 arg3 harg3 arg4 harg4 arg5 harg5 arg6 harg6 arg7 harg7 x0 x1 x2 x3 x4 x5

/-- Every load of a scratch reads what this point stored. -/
theorem finds_Z (m0 : Fin 4 → Vec F S1x8x128 .f32) (bi : Fin 4) (cc : Fin 2) :
    arg10.view.readCov (chunks.map (pieceZ (RR) m0)) (rectZ (bi, cc)).toLoadRect = facs (RR) bi cc (prevM (RR) m0 bi cc) := by
  have := readCov_map arg10.view (pieceZ (RR) m0) chunks [] (bi, cc) (by revert bi cc; decide) (disjZ (bi, cc))
  rwa [List.append_nil] at this

/-- The gates' loads. -/
theorem finds_A (bi : Fin 4) (cc : Fin 2) :
    arg11.view.readCov (chunks.map (pieceA (RR))) (rectA (bi, cc)).toLoadRect = kept (RR) bi cc := by
  have := readCov_map arg11.view (pieceA (RR)) chunks [] (bi, cc) (by revert bi cc; decide) (disjA (bi, cc))
  rwa [List.append_nil] at this

/-- The decays' loads. -/
theorem finds_D (m0 : Fin 4 → Vec F S1x8x128 .f32) (bi : Fin 4) (cc : Fin 2) :
    arg12.view.readCov (chunks.map (pieceD (RR) m0)) (rectA (bi, cc)).toLoadRect = decay (RR) bi cc (prevM (RR) m0 bi cc) := by
  have := readCov_map arg12.view (pieceD (RR) m0) chunks [] (bi, cc) (by revert bi cc; decide) (disjA (bi, cc))
  rwa [List.append_nil] at this

/-- What a chunk finds is `found`. -/
theorem finds_eq (m0 : Fin 4 → Vec F S1x8x128 .f32) (C0 : Fin 4 → Fin 4 → Vec F S1x128x256 .f32) (T : List (View.Piece (Elt F) S16x128x256 .f32)) :
    finds arg2 harg2 arg3 harg3 arg4 harg4 arg5 harg5 arg6 harg6 arg7 harg7 arg9 arg10 arg11 arg12 x0 x1 x2 x3 x4 x5 m0 C0
      ((chains.map (pieceC (RR) (finds arg2 harg2 arg3 harg3 arg4 harg4 arg5 harg5 arg6 harg6 arg7 harg7 arg9 arg10 arg11 arg12 x0 x1 x2 x3 x4 x5 m0 C0 []) 0)) ++ T)
    = found (RR) m0 C0 := by
  have hC : ∀ bi h, arg9.view.readCov ((chains.map (pieceC (RR) (finds arg2 harg2 arg3 harg3 arg4 harg4 arg5 harg5 arg6 harg6 arg7 harg7 arg9 arg10 arg11 arg12 x0 x1 x2 x3 x4 x5 m0 C0 []) 0)) ++ T)
      (rectC (bi, h)).toLoadRect = updP (RR) bi 0 h (facs (RR) bi 0 (prevM (RR) m0 bi 0)) (decay (RR) bi 0 (prevM (RR) m0 bi 0)) (C0 bi h) := by
    intro bi h
    refine (readCov_map arg9.view (pieceC (RR) _ 0) chains T (bi, h) (by revert bi h; decide) (disjC (bi, h))).trans ?_
    show updP (RR) bi 0 h (arg10.view.readCov (chunks.map (pieceZ (RR) m0)) (rectZ (bi, 0)).toLoadRect)
      (arg12.view.readCov (chunks.map (pieceD (RR) m0)) (rectA (bi, 0)).toLoadRect) (C0 bi h) = _
    rw [finds_Z, finds_D]
  unfold finds at hC ⊢
  unfold found
  congr 1
  · funext bi cc; exact finds_Z arg2 harg2 arg3 harg3 arg4 harg4 arg5 harg5 arg6 harg6 arg7 harg7 arg10 x0 x1 x2 x3 x4 x5 m0 bi cc
  · funext bi cc; exact finds_A arg2 harg2 arg3 harg3 arg4 harg4 arg5 harg5 arg6 harg6 arg7 harg7 arg11 x0 x1 x2 x3 x4 x5 bi cc
  · funext bi cc; exact finds_D arg2 harg2 arg3 harg3 arg4 harg4 arg5 harg5 arg6 harg6 arg7 harg7 arg12 x0 x1 x2 x3 x4 x5 m0 bi cc
  · funext bi h; exact hC bi h

/-- The results a point leaves. -/
theorem out_B (xs0 : Vec F S16x128x256 .f32) (xs4 : Vec F S4x8x128 .f32) (hc0 : ¬ cond0_0 i) (bi : Fin 4) (cc : Fin 2) (h : Fin 4) (x : S1x256x128.Idx) :
    out0_B_6 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs4 ((rectO (bi, cc, h)).emb x)
      = outP (RR) bi cc h ((found (RR) (m0B arg13 harg13 xs4) (C0B arg9 harg9 xs0)).Z bi cc) ((found (RR) (m0B arg13 harg13 xs4) (C0B arg9 harg9 xs0)).a bi cc) ((found (RR) (m0B arg13 harg13 xs4) (C0B arg9 harg9 xs0)).C cc bi h) x := by
  unfold out0_B_6
  rw [View.read_writes_junk_eq_canon, listO_B, listC0_B (arg6 := arg6) (harg6 := harg6) (arg11 := arg11) (x4 := x4), finds_eq]
  have := canon_map (pieceO (RR) (found (RR) (m0B arg13 harg13 xs4) (C0B arg9 harg9 xs0))) cells [] (bi, cc, h) (by revert bi cc h; decide) (disjO (bi, cc, h)) x
  rwa [List.append_nil] at this

/-- The states a point leaves. -/
theorem sout_B (xs0 : Vec F S16x128x256 .f32) (xs4 : Vec F S4x8x128 .f32) (hc0 : ¬ cond0_0 i) (bi h : Fin 4) (x : S1x128x256.Idx) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs4 ((rectC (bi, h)).emb x)
      = updP (RR) bi 1 h ((found (RR) (m0B arg13 harg13 xs4) (C0B arg9 harg9 xs0)).Z bi 1) ((found (RR) (m0B arg13 harg13 xs4) (C0B arg9 harg9 xs0)).d bi 1) ((found (RR) (m0B arg13 harg13 xs4) (C0B arg9 harg9 xs0)).C1 bi h) x := by
  unfold sout0_B_0
  rw [View.read_writes_junk_eq_canon, listC_B, listC0_B (arg6 := arg6) (harg6 := harg6) (arg11 := arg11) (x4 := x4), finds_eq]
  exact canon_map (pieceC (RR) (found (RR) (m0B arg13 harg13 xs4) (C0B arg9 harg9 xs0)) 1) chains _ (bi, h) (by revert bi h; decide) (disjC (bi, h)) x

/-- The stabilisers a point leaves. -/
theorem mout_B (xs0 : Vec F S16x128x256 .f32) (xs4 : Vec F S4x8x128 .f32) (hc0 : ¬ cond0_0 i) (bi : Fin 4) (x : S1x8x128.Idx) :
    sout0_B_4 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs4 ((rectM bi).emb x) = carryM (RR) (m0B arg13 harg13 xs4) bi x := by
  unfold sout0_B_4
  rw [View.read_writes_junk_eq_canon, listM_B (arg6 := arg6) (harg6 := harg6) (x4 := x4)]
  exact canon_map (pieceM (RR) (m0B arg13 harg13 xs4)) down4 _ bi (by revert bi; decide) (disjM bi) x

/-- The results a point leaves. -/
theorem out_A (hc0 : cond0_0 i) (bi : Fin 4) (cc : Fin 2) (h : Fin 4) (x : S1x256x128.Idx) :
    out0_A_6 c i arg2 harg2 arg3 harg3 arg4 harg4 arg5 harg5 arg6 harg6 arg7 harg7 arg8 harg8 arg9 harg9 arg10 harg10 arg11 harg11 arg12 harg12 arg13 harg13 hc0 x0 x1 x2 x3 x4 x5 ((rectO (bi, cc, h)).emb x)
      = outP (RR) bi cc h ((found (RR) (m0A c arg4 harg4 arg5 harg5 arg13 x2 x3) (C0A arg9)).Z bi cc) ((found (RR) (m0A c arg4 harg4 arg5 harg5 arg13 x2 x3) (C0A arg9)).a bi cc) ((found (RR) (m0A c arg4 harg4 arg5 harg5 arg13 x2 x3) (C0A arg9)).C cc bi h) x := by
  unfold out0_A_6
  rw [View.read_writes_junk_eq_canon, listO_A, listC0_A (arg6 := arg6) (harg6 := harg6) (arg11 := arg11) (x4 := x4), finds_eq]
  have := canon_map (pieceO (RR) (found (RR) (m0A c arg4 harg4 arg5 harg5 arg13 x2 x3) (C0A arg9))) cells [] (bi, cc, h) (by revert bi cc h; decide) (disjO (bi, cc, h)) x
  rwa [List.append_nil] at this

/-- The states a point leaves. -/
theorem sout_A (hc0 : cond0_0 i) (bi h : Fin 4) (x : S1x128x256.Idx) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 ((rectC (bi, h)).emb x)
      = updP (RR) bi 1 h ((found (RR) (m0A c arg4 harg4 arg5 harg5 arg13 x2 x3) (C0A arg9)).Z bi 1) ((found (RR) (m0A c arg4 harg4 arg5 harg5 arg13 x2 x3) (C0A arg9)).d bi 1) ((found (RR) (m0A c arg4 harg4 arg5 harg5 arg13 x2 x3) (C0A arg9)).C1 bi h) x := by
  unfold sout0_A_0
  rw [View.read_writes_junk_eq_canon, listC_A, listC0_A (arg6 := arg6) (harg6 := harg6) (arg11 := arg11) (x4 := x4), finds_eq]
  exact canon_map (pieceC (RR) (found (RR) (m0A c arg4 harg4 arg5 harg5 arg13 x2 x3) (C0A arg9)) 1) chains _ (bi, h) (by revert bi h; decide) (disjC (bi, h)) x

/-- The stabilisers a point leaves. -/
theorem mout_A (hc0 : cond0_0 i) (bi : Fin 4) (x : S1x8x128.Idx) :
    sout0_A_4 c i arg2 harg2 arg3 harg3 arg4 harg4 arg5 harg5 arg6 harg6 arg7 harg7 arg8 harg8 arg9 harg9 arg10 harg10 arg11 harg11 arg12 harg12 arg13 harg13 hc0 x0 x1 x2 x3 x4 x5 ((rectM bi).emb x) = carryM (RR) (m0A c arg4 harg4 arg5 harg5 arg13 x2 x3) bi x := by
  unfold sout0_A_4
  rw [View.read_writes_junk_eq_canon, listM_A (arg6 := arg6) (harg6 := harg6) (x4 := x4)]
  exact canon_map (pieceM (RR) (m0A c arg4 harg4 arg5 harg5 arg13 x2 x3)) down4 _ bi (by revert bi; decide) (disjM bi) x

end MLstm
-- ==== Proof.Core.lean ====
module

public import Mathlib.Analysis.SpecialFunctions.Exp
public import Mathlib.Algebra.BigOperators.Fin

/-!
The gated recurrence over the real numbers: one head of one sequence.  `q k v` are the rows by position and
coordinate, `f` the log forget gates and `g` the log input gates.  A position `s` weighs in the result at `t`
with `wgt f g t s`; `num` and `den` are the weighted sums and `core` their stabilised ratio, in which no
stabiliser occurs any more.
-/

@[expose] public section

noncomputable section

namespace MLstm

open Finset

/-- The sum of the gates before position `n`. -/
def pre (f : ℕ → ℝ) (n : ℕ) : ℝ := ∑ x ∈ range n, f x

/-- What position `s` weighs at position `t`: the gates between them and the input gate at `s`. -/
def wgt (f g : ℕ → ℝ) (t s : ℕ) : ℝ := Real.exp (pre f (t + 1) - pre f (s + 1) + g s)

/-- The product of a query row and a key row. -/
def qk (q k : ℕ → Fin 128 → ℝ) (t s : ℕ) : ℝ := ∑ j, q t j * k s j

/-- The weighted sum of the values `u` at position `t`. -/
def acc (q k : ℕ → Fin 128 → ℝ) (f g : ℕ → ℝ) (u : ℕ → ℝ) (t : ℕ) : ℝ :=
  ∑ s ∈ range (t + 1), qk q k t s * wgt f g t s * u s

/-- The head's value: the weighted sum over the greater of one and the weights' own sum. -/
def core (q k v : ℕ → Fin 128 → ℝ) (f g : ℕ → ℝ) (t : ℕ) (c : Fin 128) : ℝ :=
  acc q k f g (fun s => v s c) t / max |acc q k f g (fun _ => 1) t| 1

/-- The state before position `n`, scaled by `exp (-m)`. -/
def state (k : ℕ → Fin 128 → ℝ) (f g : ℕ → ℝ) (u : ℕ → ℝ) (n : ℕ) (m : ℝ) (j : Fin 128) : ℝ :=
  ∑ s ∈ range n, Real.exp (pre f n - pre f (s + 1) + g s - m) * k s j * u s

/-- The sum of the gates of a chunk that starts at `n`, up to and with its row `r`. -/
def loc (f : ℕ → ℝ) (n r : ℕ) : ℝ := ∑ x ∈ range (r + 1), f (n + x)

/-- The gates before a row of a chunk are those before the chunk and those inside it. -/
theorem pre_add (f : ℕ → ℝ) (n r : ℕ) : pre f (n + r + 1) = pre f n + loc f n r := by
  unfold pre loc
  rw [add_assoc, sum_range_add]

/-- Before position zero there is no state. -/
theorem state_zero (k : ℕ → Fin 128 → ℝ) (f g : ℕ → ℝ) (u : ℕ → ℝ) (m : ℝ) (j : Fin 128) :
    state k f g u 0 m j = 0 := by
  simp [state]

/-- One chunk of `L` rows takes the state before it to the state after it, whatever real stabiliser is used. -/
theorem state_step (k : ℕ → Fin 128 → ℝ) (f g : ℕ → ℝ) (u : ℕ → ℝ) (n L : ℕ) (hL : 0 < L) (m ml : ℝ) (j : Fin 128) :
    Real.exp (m - ml) * state k f g u n m j
        + ∑ r ∈ range L, Real.exp (g (n + r) - loc f n r - ml) * k (n + r) j * u (n + r)
      = state k f g u (n + L) (loc f n (L - 1) + ml) j := by
  have hp : pre f (n + L) = pre f n + loc f n (L - 1) := by
    have := pre_add f n (L - 1)
    rwa [show n + (L - 1) + 1 = n + L by omega] at this
  unfold state
  rw [sum_range_add, mul_sum]
  congr 1
  · refine sum_congr rfl fun s _ => ?_
    rw [← mul_assoc, ← mul_assoc, ← Real.exp_add, hp]
    ring_nf
  · refine sum_congr rfl fun r _ => ?_
    rw [pre_add, hp]
    ring_nf

/-- A row's product with the state and with the rows of its own chunk up to itself is the weighted sum over all
positions, scaled by the row's stabiliser. -/
theorem row_acc (q k : ℕ → Fin 128 → ℝ) (f g : ℕ → ℝ) (u : ℕ → ℝ) (n L r : ℕ) (hr : r < L) (m M : ℝ) :
    (∑ s ∈ range L, (qk q k (n + r) (n + s)
          * if s ≤ r then Real.exp (g (n + s) - loc f n s - M) else 0) * u (n + s))
        + Real.exp (m - M) * ∑ j, q (n + r) j * state k f g u n m j
      = Real.exp (-(loc f n r + M)) * acc q k f g u (n + r) := by
  have h1 : (∑ s ∈ range L, (qk q k (n + r) (n + s)
          * if s ≤ r then Real.exp (g (n + s) - loc f n s - M) else 0) * u (n + s))
      = ∑ s ∈ range (r + 1), (qk q k (n + r) (n + s) * Real.exp (g (n + s) - loc f n s - M)) * u (n + s) := by
    rw [← sum_filter_add_sum_filter_not (range L) (fun s => s ≤ r)]
    rw [show (∑ s ∈ range L with ¬ s ≤ r, (qk q k (n + r) (n + s)
          * if s ≤ r then Real.exp (g (n + s) - loc f n s - M) else 0) * u (n + s)) = 0 from
        sum_eq_zero fun s hs => by rw [if_neg (mem_filter.1 hs).2]; ring, add_zero]
    have hset : (range L).filter (fun s => s ≤ r) = range (r + 1) := by
      ext s; simp only [mem_filter, mem_range]; omega
    rw [hset]
    refine sum_congr rfl fun s hs => ?_
    rw [if_pos (by have := mem_range.1 hs; omega)]
  have h2 : (∑ j, q (n + r) j * state k f g u n m j)
      = ∑ s ∈ range n, Real.exp (pre f n - pre f (s + 1) + g s - m) * qk q k (n + r) s * u s := by
    unfold state qk
    simp_rw [mul_sum]
    rw [sum_comm]
    refine sum_congr rfl fun s _ => ?_
    rw [sum_mul]
    exact sum_congr rfl fun j _ => by ring
  rw [h1, h2, acc, show n + r + 1 = n + (r + 1) by omega, sum_range_add _ n (r + 1), mul_add, add_comm]
  congr 1
  · rw [mul_sum, mul_sum]
    refine sum_congr rfl fun s _ => ?_
    rw [wgt, pre_add]
    have : Real.exp (m - M) * Real.exp (pre f n - pre f (s + 1) + g s - m)
        = Real.exp (-(loc f n r + M)) * Real.exp (pre f n + loc f n r - pre f (s + 1) + g s) := by
      rw [← Real.exp_add, ← Real.exp_add]; ring_nf
    linear_combination (qk q k (n + r) s * u s) * this
  · rw [mul_sum]
    refine sum_congr rfl fun s _ => ?_
    rw [wgt, pre_add, pre_add]
    have : Real.exp (g (n + s) - loc f n s - M)
        = Real.exp (-(loc f n r + M)) * Real.exp (pre f n + loc f n r - (pre f n + loc f n s) + g (n + s)) := by
      rw [← Real.exp_add]; ring_nf
    linear_combination (qk q k (n + r) (n + s) * u (n + s)) * this

/-- The stabiliser drops out of the ratio. -/
theorem ratio (x d z : ℝ) :
    (Real.exp (-z) * x) / max |Real.exp (-z) * d| (Real.exp (-z)) = x / max |d| 1 := by
  have hp : 0 < Real.exp (-z) := Real.exp_pos _
  rw [abs_mul, abs_of_pos hp]
  have : max (Real.exp (-z) * |d|) (Real.exp (-z)) = Real.exp (-z) * max |d| 1 := by
    rw [mul_max_of_nonneg _ _ hp.le, mul_one]
  rw [this, mul_div_mul_left _ _ hp.ne']

/-- The weighted sum over the whole sequence with the later positions masked, scaled by any stabiliser. -/
theorem acc_masked (q k : ℕ → Fin 128 → ℝ) (f g : ℕ → ℝ) (u : ℕ → ℝ) (S t : ℕ) (ht : t < S) (M : ℝ) :
    (∑ s ∈ range S, (qk q k t s
          * if s ≤ t then Real.exp (pre f (t + 1) - pre f (s + 1) + g s - M) else 0) * u s)
      = Real.exp (-M) * acc q k f g u t := by
  rw [← sum_filter_add_sum_filter_not (range S) (fun s => s ≤ t)]
  rw [show (∑ s ∈ range S with ¬ s ≤ t, (qk q k t s
          * if s ≤ t then Real.exp (pre f (t + 1) - pre f (s + 1) + g s - M) else 0) * u s) = 0 from
        sum_eq_zero fun s hs => by rw [if_neg (mem_filter.1 hs).2]; ring, add_zero]
  have hset : (range S).filter (fun s => s ≤ t) = range (t + 1) := by
    ext s; simp only [mem_filter, mem_range]; omega
  rw [hset, acc, mul_sum]
  refine sum_congr rfl fun s hs => ?_
  rw [if_pos (by have := mem_range.1 hs; omega), wgt]
  have : Real.exp (pre f (t + 1) - pre f (s + 1) + g s - M)
      = Real.exp (-M) * Real.exp (pre f (t + 1) - pre f (s + 1) + g s) := by
    rw [← Real.exp_add]; ring_nf
  linear_combination (qk q k t s * u s) * this

end MLstm
-- ==== Proof.Ideal1.lean ====
module

public import proofs.«01_k».proof.Proof.Pieces
public import proofs.«01_k».proof.Proof.Core
public import Idealize.ShloMosaic.Lib.Pointwise
public import Idealize.ShloMosaic.Lib.WordCmp

@[expose] public section

/-!
The body's values over the reals, entry by entry.
-/

set_option maxRecDepth 16384

noncomputable section

namespace MLstm

open Idealize.ShloMosaic Idealize.SL.Sem
open Cert.KernelIdeal Cert.KernelIdeal.Gen
open Finset

/-- A sum of reals, in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The word of minus infinity. -/
theorem word_bot : Ideal.ofBits .f32 4286578688#32 = ⊥ := by
  simp [Ideal.ofBits, Ideal.ieee]

/-- The larger of two reals, in the extended reals. -/
theorem coe_max (x y : ℝ) : max (x : EReal) (y : EReal) = ((max x y : ℝ) : EReal) :=
  (EReal.coe_strictMono.monotone.map_max).symm

/-- A lower triangle's entry. -/
theorem sge_nat (r s : Fin 256) : IntOp.cmpi CmpIPredicate.sge (BitVec.ofNat 32 r.val) (BitVec.ofNat 32 s.val) = if s.val ≤ r.val then 1#1 else 0#1 := by
  rw [WordCmp.cmpi_sge_ofNat (by have := r.isLt; omega) (by have := s.isLt; omega)]
  by_cases h : s.val ≤ r.val <;> simp [h]

/-- A choice by a decided bit. -/
theorem select_ite {e : Type} (p : Prop) [Decidable p] (x y : e) : Scalar.select (if p then 1#1 else 0#1) x y = if p then x else y := by
  by_cases h : p <;> simp [h, Scalar.select]

set_option maxHeartbeats 2000000 in
/-- The stacked gates' rows are the chunk's. -/
theorem rows8_stack (x : Fin 4 → Fin 2 → Vec Ideal S1x1x8x256 .f32) (bi : Fin 4) (cc : Fin 2) (s : Fin 8) (r : Fin 256) :
    rows8 (stack x) bi cc (ix2 s r) = x bi cc (ix4 0 0 s r) := by
  have hs := s.isLt
  fin_cases bi <;> fin_cases cc <;> pointwise [rows8, stack] <;>
    (repeat' split) <;> first | omega | rfl | (congr 1; idx_ext)

/-- The rows of a chunk in a stack. -/
theorem rows8_apply (x : FVec Ideal S64x256 .f32) (bi : Fin 4) (cc : Fin 2) (s : Fin 8) (r : Fin 256) :
    rows8 x bi cc (ix2 s r) = x (ix2 ⟨8 * (2 * bi.val + cc.val) + s.val, by have := s.isLt; omega⟩ r) := by
  pointwise [rows8]

/-- The chunk's sums of the forget gates. -/
theorem rows8_bAll (R : Rd Ideal) (bi : Fin 4) (cc : Fin 2) (s : Fin 8) (r : Fin 256) :
    rows8 (bAll R) bi cc (ix2 s r) = ∑ x : Fin 256, R.f bi cc (ix4 0 0 s x) * R.u (ix2 x r) := by
  simp only [← rows8_stack]
  pointwise [rows8, bAll]

/-- The chunk's input gates less the sums. -/
theorem rows8_aAll (R : Rd Ideal) (bi : Fin 4) (cc : Fin 2) (s : Fin 8) (r : Fin 256) :
    rows8 (aAll R) bi cc (ix2 s r) = R.g bi cc (ix4 0 0 s r) - rows8 (bAll R) bi cc (ix2 s r) := by
  simp only [← rows8_stack]
  pointwise [rows8, aAll]

/-- A step of the running maximum keeps every entry real. -/
theorem mstep_real (b : BitVec 32) (x : FVec Ideal S64x256 .f32) (hx : ∀ i, ∃ y : ℝ, x i = (y : EReal)) (i : S64x256.Idx) :
    ∃ y : ℝ, mstep b x i = (y : EReal) := by
  obtain ⟨y, hy⟩ := hx i
  have hr : ∃ j, dynamicRotate 1 b none x rotates_S64x256_d1 i = x j := ⟨_, rfl⟩
  obtain ⟨j, hj⟩ := hr
  obtain ⟨w, hw⟩ := hx j
  show ∃ z : ℝ, max (x i) (Scalar.select _ (dynamicRotate 1 b none x rotates_S64x256_d1 i) (Ideal.ofBits .f32 4286578688#32)) = (z : EReal)
  rw [word_bot, hy, hj, hw]
  unfold Scalar.select
  split
  · exact ⟨_, coe_max y w⟩
  · exact ⟨y, max_bot_right _⟩

/-- The running maximum of real entries is real. -/
theorem gAll_real (R : Rd Ideal) (hx : ∀ i, ∃ y : ℝ, aAll R i = (y : EReal)) (i : S64x256.Idx) :
    ∃ y : ℝ, gAll R i = (y : EReal) := by
  unfold gAll
  iterate 8 refine mstep_real _ _ (fun i => ?_) i
  exact hx i

/-- The lanes that are spread. -/
theorem isFac_apply (r : Fin 256) (x : Fin 128) : isFac (ix2 r x) = if x.val / 8 = 1 ∨ x.val / 8 = 3 then 1#1 else 0#1 := by
  unfold isFac k0_pay7
  pointwise
  revert x
  decide +kernel

end MLstm
-- ==== Proof.Blocks.lean ====
module

public import proofs.«01_k».proof.Proof.Ideal1
public import proofs.«01_k».proof.Proof.Gen.KernelIdeal.Value
public import Idealize.ShloMosaic.Lib.Pipeline.ValueKit

@[expose] public section

/-!
The input blocks of a grid point as entries of the arguments.
-/

set_option maxRecDepth 16384

noncomputable section

namespace MLstm

open Idealize.ShloMosaic Idealize.SL.Sem
open Cert.KernelIdeal Cert.KernelIdeal.Gen Idealize.ShloMosaic.TcCoe

variable (m : (b : Loc nD τ sig) → Buf (Elt Ideal) b) (c : Dev nD)

/-- Which block each window takes at a point. -/
theorem idx : ∀ t : Fin cfg0.N, win0_0.index t = ![t.val / 4, t.val % 4, 0] ∧ win0_1.index t = ![t.val / 4, t.val % 4, 1]
    ∧ win0_2.index t = ![t.val / 4, t.val % 4, 0, 0] ∧ win0_3.index t = ![0, 0] ∧ win0_4.index t = ![0, 0] ∧ win0_5.index t = ![0, 0] :=
  (by decide +kernel : ∀ t : Fin grid0.N, _)

/-- There are eight points. -/
theorem lt8 (t : Fin cfg0.N) : t.val < 8 := lt_of_lt_of_eq t.isLt N_0

/-- The first argument. -/
def arg0 : FVec Ideal S16384x3584 .bf16 := m ((c.tc : Thread nD τ).loc main_arg0)
/-- The second argument. -/
def arg1 : FVec Ideal S64x16x256 .f32 := m ((c.tc : Thread nD τ).loc main_arg1)
/-- The third argument. -/
def arg2 : FVec Ideal S1x512 .f32 := m ((c.tc : Thread nD τ).loc main_arg2)

/-- Comparing two lanes. -/
theorem sle_nat (r s : Fin 256) : IntOp.cmpi CmpIPredicate.sle (BitVec.ofNat 32 r.val) (BitVec.ofNat 32 s.val) = if r.val ≤ s.val then 1#1 else 0#1 := by
  rw [WordCmp.cmpi_sle_ofNat (by have := r.isLt; omega) (by have := s.isLt; omega)]
  by_cases h : r.val ≤ s.val <;> simp [h]

/-- A row's word modulo 128. -/
theorem row_word : ∀ i : Fin 256, (if
      (IntOp.cmpi CmpIPredicate.slt (IntOp.remsi ArithUnit.host (BitVec.ofNat 32 i.val) 128#32) 0#32).toNat ≠
          (IntOp.cmpi CmpIPredicate.slt 128#32 0#32).toNat ∧
        (IntOp.remsi ArithUnit.host (BitVec.ofNat 32 i.val) 128#32).toNat ≠ 0 then
      IntOp.addi (IntOp.remsi ArithUnit.host (BitVec.ofNat 32 i.val) 128#32) 128#32
    else IntOp.remsi ArithUnit.host (BitVec.ofNat 32 i.val) 128#32) = BitVec.ofNat 32 (i.val % 128) := by
  decide +kernel

/-- A lane's word divided by 128. -/
theorem floor_word : ∀ l : Fin 1024, (if
      (if BitVec.ofNat 32 l.val = 0#32 then 0#32
            else if (BitVec.ofNat 32 l.val).msb = true then -1#32 else 1#32).toNat ≠
          (if 128#32 = 0#32 then 0#32 else if (128#32).msb = true then -1#32 else 1#32).toNat ∧
        (IntOp.remsi ArithUnit.host (BitVec.ofNat 32 l.val) 128#32).toNat ≠ 0 then
      IntOp.subi (IntOp.divsi ArithUnit.host (BitVec.ofNat 32 l.val) 128#32) 1#32
    else IntOp.divsi ArithUnit.host (BitVec.ofNat 32 l.val) 128#32) = BitVec.ofNat 32 (l.val / 128) := by
  decide +kernel

/-- The row of the factors a lane takes. -/
theorem src_word : ∀ q : Fin 8, (IntOp.addi
      (Scalar.select (IntOp.cmpi CmpIPredicate.slt (BitVec.ofNat 32 q.val) 4#32) 8#32 24#32)
      (if
          (IntOp.cmpi CmpIPredicate.slt (IntOp.remsi ArithUnit.host (BitVec.ofNat 32 q.val) 4#32) 0#32).toNat ≠
              (IntOp.cmpi CmpIPredicate.slt 4#32 0#32).toNat ∧
            (IntOp.remsi ArithUnit.host (BitVec.ofNat 32 q.val) 4#32).toNat ≠ 0 then
        IntOp.addi (IntOp.remsi ArithUnit.host (BitVec.ofNat 32 q.val) 4#32) 4#32
      else IntOp.remsi ArithUnit.host (BitVec.ofNat 32 q.val) 4#32)).toNat
      = (if q.val < 4 then 8 else 24) + q.val % 4 := by
  decide +kernel

/-- The first operand. -/
theorem V4 (b : Fin 8) (s : Fin 2048) (l : Fin 3584) :
    (show FVec Ideal S8x2048x3584 .bf16 from V m c main_v4) (ix3 b s l) = arg0 m c (ix2 ⟨2048 * b.val + s.val, by omega⟩ l) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  entry_read
  try simp -implicitDefEqProofs only [StableHlo.TRef.toBuf, StableHlo.TRef.ofBuf, cast_cast, cast_eq]
  pointwise [arg0]
  exact congrArg (m (c, Proc.tc.devRef main_arg0)) (by congr 1; exact Fin.ext (by simp only []; omega))

/-- The gates' operand. -/
theorem V5 (b k : Fin 8) (s : Fin 16) (r : Fin 256) :
    (show FVec Ideal S8x8x16x256 .f32 from V m c main_v5) (ix4 b k s r) = arg1 m c (ix3 ⟨8 * b.val + k.val, by omega⟩ s r) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  entry_read
  try simp -implicitDefEqProofs only [StableHlo.TRef.toBuf, StableHlo.TRef.ofBuf, cast_cast, cast_eq]
  pointwise [arg1]
  exact congrArg (m (c, Proc.tc.devRef main_arg1)) (by congr 1; exact Fin.ext (by simp only []; omega))

/-- The triangle's operand. -/
theorem V3 (x r : Fin 256) :
    (show FVec Ideal S256x256 .f32 from V m c main_v3) (ix2 x r) = if x.val ≤ r.val then 1 else 0 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  entry_read
  try simp -implicitDefEqProofs only [StableHlo.TRef.toBuf, StableHlo.TRef.ofBuf, cast_cast, cast_eq]
  pointwise [hlo_ix]
  rw [sle_nat x r, select_ite]

/-- The selection's operand. -/
theorem V18 (i : Fin 256) (l : Fin 1024) :
    (show FVec Ideal S256x1024 .bf16 from V m c main_v18) (ix2 i l)
      = if i.val % 128 = (if l.val / 128 < 4 then 8 else 24) + l.val / 128 % 4 then 1 else 0 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  entry_read
  try simp -implicitDefEqProofs only [StableHlo.TRef.toBuf, StableHlo.TRef.ofBuf, cast_cast, cast_eq]
  pointwise [hlo_ix]
  have hi : i.val % 128 < 2 ^ 32 := lt_trans (Nat.mod_lt _ (by norm_num)) (by norm_num)
  rw [row_word i, BitVec.toNat_ofNat, Nat.mod_eq_of_lt hi]
  simp only [floor_word l]
  exact if_congr (by rw [← src_word ⟨l.val / 128, by omega⟩]) rfl rfl

/-- Queries and keys. -/
theorem blk0 (t : Fin cfg0.N) (b : Fin 4) (s : Fin 512) (l : Fin 1024) :
    X0_0 m c t (ix3 b s l) = arg0 m c
      (ix2 ⟨2048 * (4 * (t.val / 4) + b.val) + 512 * (t.val % 4) + s.val, by have := lt8 t; omega⟩ ⟨l.val, by omega⟩) := by
  have h8 := lt8 t
  unfold X0_0 Pipeline.Window.fill
  rw [dif_pos (moved0_0 t _)]
  refine Eq.trans ?_ ((V4 m c ⟨4 * (t.val / 4) + b.val, by omega⟩ ⟨512 * (t.val % 4) + s.val, by omega⟩ ⟨l.val, by omega⟩).trans ?_)
  · blk_ext [iblk, idx t]
  · blk_ext

/-- Values and output gates. -/
theorem blk1 (t : Fin cfg0.N) (b : Fin 4) (s : Fin 512) (l : Fin 1024) :
    X0_1 m c t (ix3 b s l) = arg0 m c
      (ix2 ⟨2048 * (4 * (t.val / 4) + b.val) + 512 * (t.val % 4) + s.val, by have := lt8 t; omega⟩ ⟨1024 + l.val, by omega⟩) := by
  have h8 := lt8 t
  unfold X0_1 Pipeline.Window.fill
  rw [dif_pos (moved0_1 t _)]
  refine Eq.trans ?_ ((V4 m c ⟨4 * (t.val / 4) + b.val, by omega⟩ ⟨512 * (t.val % 4) + s.val, by omega⟩ ⟨1024 + l.val, by omega⟩).trans ?_)
  · blk_ext [iblk, idx t]
  · blk_ext

/-- The gates. -/
theorem blk2 (t : Fin cfg0.N) (b : Fin 4) (k : Fin 2) (s : Fin 16) (r : Fin 256) :
    iblk m c 2 t (ix4 b k s r) = arg1 m c
      (ix3 ⟨8 * (4 * (t.val / 4) + b.val) + (2 * (t.val % 4) + k.val), by have := lt8 t; omega⟩ s r) := by
  have h8 := lt8 t
  refine Eq.trans ?_ ((V5 m c ⟨4 * (t.val / 4) + b.val, by omega⟩ ⟨2 * (t.val % 4) + k.val, by omega⟩ s r).trans ?_)
  · blk_ext [iblk, idx t]
  · blk_ext

/-- The triangle. -/
theorem blk3 (t : Fin cfg0.N) (x r : Fin 256) : iblk m c 3 t (ix2 x r) = (show EReal from if x.val ≤ r.val then 1 else 0) := by
  refine Eq.trans ?_ (V3 m c x r)
  blk_ext [iblk, idx t]

/-- The gain. -/
theorem blk4 (t : Fin cfg0.N) (x : Fin 1) (l : Fin 512) : iblk m c 4 t (ix2 x l) = arg2 m c (ix2 x l) := by
  have : V m c main_arg2 = arg2 m c := V_main_arg2 m c
  rw [← this]
  blk_ext [iblk, idx t]

/-- The selection. -/
theorem blk5 (t : Fin cfg0.N) (i : Fin 256) (l : Fin 1024) :
    iblk m c 5 t (ix2 i l) = (show EReal from if i.val % 128 = (if l.val / 128 < 4 then 8 else 24) + l.val / 128 % 4 then 1 else 0) := by
  refine Eq.trans ?_ (V18 m c i l)
  blk_ext [iblk, idx t]

end MLstm
-- ==== Proof.Ideal2.lean ====
module

public import proofs.«01_k».proof.Proof.Ideal1
public import Idealize.ShloMosaic.Lib.IdealHost

@[expose] public section

/-!
One chunk of one head over the reals: the gates, the factors, the two sums, the ratio and the state.
-/

set_option maxRecDepth 16384

noncomputable section

namespace MLstm

open Idealize.ShloMosaic Idealize.SL.Sem
open Cert.KernelIdeal Cert.KernelIdeal.Gen
open Finset

/-! ## The gates -/

/-- What a grid point reads, as reals: rows `N` and on of four sequences. -/
structure Holds (R : Rd Ideal) (N : ℕ) (Q K V : Fin 4 → Fin 4 → ℕ → Fin 128 → ℝ) (f g : Fin 4 → Fin 8 → ℕ → ℝ) : Prop where
  /-- the queries -/
  q : ∀ bi cc h (r : Fin 256) (j : Fin 128), R.q bi cc h (ix3 0 r j) = ((Q bi h (N + 256 * cc.val + r.val) j : ℝ) : EReal)
  /-- the keys -/
  k : ∀ bi cc h (r : Fin 256) (j : Fin 128), R.k bi cc h (ix3 0 r j) = ((K bi h (N + 256 * cc.val + r.val) j : ℝ) : EReal)
  /-- the values -/
  v : ∀ bi cc h (r : Fin 256) (j : Fin 128), R.v bi cc h (ix3 0 r j) = ((V bi h (N + 256 * cc.val + r.val) j : ℝ) : EReal)
  /-- the forget gates -/
  f : ∀ bi cc (s : Fin 8) (r : Fin 256), R.f bi cc (ix4 0 0 s r) = ((f bi s (N + 256 * cc.val + r.val) : ℝ) : EReal)
  /-- the input gates -/
  g : ∀ bi cc (s : Fin 8) (r : Fin 256), R.g bi cc (ix4 0 0 s r) = ((g bi s (N + 256 * cc.val + r.val) : ℝ) : EReal)
  /-- the triangle -/
  u : ∀ x r : Fin 256, R.u (ix2 x r) = if x.val ≤ r.val then 1 else 0
  /-- the selection -/
  sel : ∀ (i : Fin 256) (c : Fin 1024), R.sel (ix2 i c)
    = if i.val % 128 = (if c.val / 128 < 4 then 8 else 24) + c.val / 128 % 4 then 1 else 0

/-- A sum up to a row. -/
theorem sum_upto (F : ℕ → ℝ) (r : Fin 256) : (∑ x : Fin 256, if x.val ≤ r.val then F x.val else 0) = ∑ x ∈ range (r.val + 1), F x := by
  rw [Fin.sum_univ_eq_sum_range (fun x => if x ≤ r.val then F x else 0) 256, ← sum_filter]
  congr 1
  ext x
  have := r.isLt
  simp only [mem_filter, mem_range]
  omega

section gates

variable {R : Rd Ideal} {N : ℕ} {Q K V : Fin 4 → Fin 4 → ℕ → Fin 128 → ℝ} {f g : Fin 4 → Fin 8 → ℕ → ℝ} (H : Holds R N Q K V f g)
include H

/-- The chunk's sums of the forget gates. -/
theorem b_eq (bi : Fin 4) (cc : Fin 2) (s : Fin 8) (r : Fin 256) :
    rows8 (bAll R) bi cc (ix2 s r) = ((loc (f bi s) (N + 256 * cc.val) r.val : ℝ) : EReal) := by
  rw [rows8_bAll, loc, ← sum_upto (fun x => f bi s (N + 256 * cc.val + x)) r, ← coe_sum]
  refine sum_congr rfl fun x _ => ?_
  rw [H.f, H.u]
  split <;> simp

/-- The chunk's input gates less the sums. -/
theorem a_eq (bi : Fin 4) (cc : Fin 2) (s : Fin 8) (r : Fin 256) :
    rows8 (aAll R) bi cc (ix2 s r)
      = ((g bi s (N + 256 * cc.val + r.val) - loc (f bi s) (N + 256 * cc.val) r.val : ℝ) : EReal) := by
  rw [rows8_aAll, b_eq H, H.g, EReal.coe_sub]

/-- The running maxima are real. -/
theorem gmax_real (i : S64x256.Idx) : ∃ y : ℝ, gAll R i = (y : EReal) := by
  refine gAll_real R (fun j => ?_) i
  idx_vars j
  have e : (j0 : ℕ) = 8 * (2 * (j0.val / 16) + j0.val / 8 % 2) + j0.val % 8 := by omega
  have ha := j0.isLt
  have := a_eq H ⟨j0.val / 16, by omega⟩ ⟨j0.val / 8 % 2, by omega⟩ ⟨j0.val % 8, by omega⟩ j1
  rw [rows8_apply] at this
  refine ⟨_, Eq.trans ?_ this⟩
  congr 1
  idx_ext

variable (bi : Fin 4) (cc : Fin 2) (mp : FVec Ideal S8x1 .f32) (μ : Fin 8 → ℝ) (hmp : ∀ s, mp (ix2 s 0) = ((μ s : ℝ) : EReal))

/-- The stabilisers are real. -/
theorem stab_real (hmp : ∀ s, mp (ix2 s 0) = ((μ s : ℝ) : EReal)) :
    ∃ M : Fin 8 → Fin 256 → ℝ, ∀ s r, stab R bi cc mp (ix2 s r) = ((M s r : ℝ) : EReal) := by
  have : ∀ s r, ∃ y : ℝ, stab R bi cc mp (ix2 s r) = (y : EReal) := by
    intro s r
    have e : stab R bi cc mp (ix2 s r) = max (rows8 (gAll R) bi cc (ix2 s r)) (mp (ix2 s 0)) := by
      pointwise [stab]
    obtain ⟨y, hy⟩ := gmax_real H (ix2 ⟨8 * (2 * bi.val + cc.val) + s.val, by have := s.isLt; omega⟩ r)
    rw [e, rows8_apply, hy, hmp]
    exact ⟨_, coe_max _ _⟩
  choose M hM using this
  exact ⟨M, hM⟩

end gates

section chunk

/-- The last column. -/
theorem last8_apply (x : FVec Ideal S8x256 .f32) (s : Fin 8) : last8 x (ix2 s 0) = x (ix2 s 255) := by
  pointwise [last8]

variable {R : Rd Ideal} {N : ℕ} {Q K V : Fin 4 → Fin 4 → ℕ → Fin 128 → ℝ} {f g : Fin 4 → Fin 8 → ℕ → ℝ} (H : Holds R N Q K V f g)
  (bi : Fin 4) (cc : Fin 2) (mp : FVec Ideal S8x1 .f32) (μ : Fin 8 → ℝ) (M : Fin 8 → Fin 256 → ℝ)
  (hmp : ∀ s, mp (ix2 s 0) = ((μ s : ℝ) : EReal)) (hM : ∀ s r, stab R bi cc mp (ix2 s r) = ((M s r : ℝ) : EReal))

include hM in
/-- The stabilisers' lanes. -/
theorem facs_M (s : Fin 8) (r : Fin 256) : facs R bi cc mp (ix3 0 r ⟨s.val, by omega⟩) = ((M s r : ℝ) : EReal) := by
  rw [← hM]
  have := s.isLt
  pointwise [facs]

include hmp hM in
/-- The state factor's lanes. -/
theorem facs_mu (s : Fin 8) (r : Fin 256) :
    facs R bi cc mp (ix3 0 r ⟨8 + s.val, by omega⟩) = ((Real.exp (μ s - M s r) : ℝ) : EReal) := by
  have hs := s.isLt
  rw [← Ideal.exp_coe, EReal.coe_sub, ← hM, ← hmp]
  pointwise [facs]

include H hM in
/-- The floor's lanes. -/
theorem facs_floor (s : Fin 8) (r : Fin 256) :
    facs R bi cc mp (ix3 0 r ⟨16 + s.val, by omega⟩)
      = ((Real.exp (-(loc (f bi s) (N + 256 * cc.val) r.val + M s r)) : ℝ) : EReal) := by
  have hs := s.isLt
  rw [← Ideal.exp_coe, ← zero_sub, EReal.coe_sub, EReal.coe_add, ← hM, ← b_eq H]
  pointwise [facs]
  rw [dif_neg (by omega), dif_neg (by omega), dif_pos (by omega)]
  simp only [show 16 + s.val - 8 - 8 = s.val by omega, EReal.coe_zero]

include H hM in
/-- The key weights' lanes. -/
theorem facs_w (s : Fin 8) (r : Fin 256) :
    facs R bi cc mp (ix3 0 r ⟨24 + s.val, by omega⟩)
      = ((Real.exp (g bi s (N + 256 * cc.val + r.val) - loc (f bi s) (N + 256 * cc.val) r.val - M s 255) : ℝ) : EReal) := by
  have hs := s.isLt
  rw [← Ideal.exp_coe, EReal.coe_sub, ← hM, ← a_eq H, ← last8_apply (stab R bi cc mp)]
  pointwise [facs]
  rw [dif_neg (by omega), dif_neg (by omega), dif_neg (by omega), dif_pos (by omega)]
  simp only [show 24 + s.val - 8 - 8 - 8 = s.val by omega]

/-- The other lanes. -/
theorem facs_rest (l : Fin 128) (r : Fin 256) (hl : 32 ≤ l.val) : facs R bi cc mp (ix3 0 r l) = 0 := by
  pointwise [facs]
  rw [dif_neg (by omega), dif_neg (by omega), dif_neg (by omega), dif_neg (by omega)]

include H hmp hM in
/-- Every factor is real. -/
theorem facs_real (r : Fin 256) (l : Fin 128) : ∃ z : ℝ, facs R bi cc mp (ix3 0 r l) = (z : EReal) := by
  by_cases h1 : l.val < 8
  · exact ⟨_, facs_M bi cc mp M hM ⟨l.val, h1⟩ r⟩
  by_cases h2 : l.val < 16
  · refine ⟨_, Eq.trans ?_ (facs_mu bi cc mp μ M hmp hM ⟨l.val - 8, by omega⟩ r)⟩
    congr 2; ext; simp only; omega
  by_cases h3 : l.val < 24
  · refine ⟨_, Eq.trans ?_ (facs_floor H bi cc mp M hM ⟨l.val - 16, by omega⟩ r)⟩
    congr 2; ext; simp only; omega
  by_cases h4 : l.val < 32
  · refine ⟨_, Eq.trans ?_ (facs_w H bi cc mp M hM ⟨l.val - 24, by omega⟩ r)⟩
    congr 2; ext; simp only; omega
  · exact ⟨0, facs_rest bi cc mp l r (by omega)⟩

include hmp hM in
/-- The decay's entries. -/
theorem decay_eq (s : Fin 8) (c : Fin 256) : decay R bi cc mp (ix3 0 s c) = ((Real.exp (μ s - M s 255) : ℝ) : EReal) := by
  rw [← Ideal.exp_coe, EReal.coe_sub, ← hM, ← hmp, ← last8_apply (stab R bi cc mp)]
  pointwise [decay]

include H hM in
/-- The stabiliser after the chunk. -/
theorem nextM_eq (s : Fin 8) : nextM R bi cc mp (ix2 s 0) = ((loc (f bi s) (N + 256 * cc.val) 255 + M s 255 : ℝ) : EReal) := by
  have := b_eq H bi cc s 255
  rw [EReal.coe_add, ← hM, show ((255 : Fin 256).val) = 255 from rfl] at *
  rw [← this, ← last8_apply (rows8 (bAll R) bi cc), ← last8_apply (stab R bi cc mp)]
  pointwise [nextM]

/-- The kept gates' entries. -/
theorem kept_apply (s : Fin 8) (r : Fin 256) : kept R bi cc (ix3 0 s r) = rows8 (aAll R) bi cc (ix2 s r) := by
  pointwise [kept]

end chunk

end MLstm
-- ==== Proof.Ideal3.lean ====
module

public import proofs.«01_k».proof.Proof.Ideal2

@[expose] public section

/-!
One chain of one chunk over the reals, from its factors, its gates and its state.
-/

set_option maxRecDepth 16384

noncomputable section

namespace MLstm

open Idealize.ShloMosaic Idealize.SL.Sem
open Cert.KernelIdeal Cert.KernelIdeal.Gen
open Finset

/-- The values with the ones beside them, by column. -/
def ext (V : ℕ → Fin 128 → ℝ) (c : Fin 256) (t : ℕ) : ℝ := if h : c.val < 128 then V t ⟨c.val, h⟩ else 1

/-- What follows the ratio: the gate's sigmoid, the norm over the head's lanes and the gain. -/
def tail (o : Fin 128 → EReal) (x : Fin 128 → EReal) (gain : Fin 128 → EReal) (j : Fin 128) : EReal :=
  Ideal.div 1 (1 + Ideal.exp (-(o j))) * x j
    * Ideal.rsqrt (Ideal.div (∑ i, (Ideal.div 1 (1 + Ideal.exp (-(o i))) * x i) * (Ideal.div 1 (1 + Ideal.exp (-(o i))) * x i))
        (Ideal.ofBits .f32 1124073472#32) + Ideal.ofBits .f32 925353388#32)
    * gain j

/-- The spread factors: column `c` repeats one lane. -/
theorem spread_eq (Z : FVec Ideal S256x128 .f32) (sel : Vec Ideal S256x1024 .bf16)
    (hZ : ∀ r x, ∃ z : ℝ, Z (ix2 r x) = (z : EReal))
    (hsel : ∀ (i : Fin 256) (c : Fin 1024), sel (ix2 i c) = if i.val % 128 = (if c.val / 128 < 4 then 8 else 24) + c.val / 128 % 4 then 1 else 0)
    (r : Fin 256) (c : Fin 1024) (l : Fin 128) (hl : l.val = (if c.val / 128 < 4 then 8 else 24) + c.val / 128 % 4) :
    spread Z sel (ix2 r c) = Z (ix2 r l) := by
  have e : spread Z sel (ix2 r c)
      = (∑ x : Fin 128, Scalar.select (isFac (ix2 r x)) (Z (ix2 r x)) 0 * sel (ix2 ⟨x.val, by omega⟩ c))
        + ∑ x : Fin 128, (Scalar.select (isFac (ix2 r x)) (Z (ix2 r x)) 0 - Scalar.select (isFac (ix2 r x)) (Z (ix2 r x)) 0)
            * sel (ix2 ⟨128 + x.val, by omega⟩ c) := by
    pointwise [spread]
  rw [e]
  have h0 : (∑ x : Fin 128, (Scalar.select (isFac (ix2 r x)) (Z (ix2 r x)) 0 - Scalar.select (isFac (ix2 r x)) (Z (ix2 r x)) 0)
            * sel (ix2 ⟨128 + x.val, by omega⟩ c)) = 0 := by
    refine sum_eq_zero fun x _ => ?_
    obtain ⟨z, hz⟩ := hZ r x
    rw [hz, isFac_apply, select_ite]
    split
    · rw [← EReal.coe_sub, sub_self, EReal.coe_zero, zero_mul]
    · rw [sub_zero, zero_mul]
  rw [h0, add_zero, sum_eq_single l]
  · rw [hsel, isFac_apply, select_ite, if_pos, if_pos, mul_one]
    · show l.val % 128 = _
      omega
    · have := c.isLt
      split at hl <;> omega
  · intro x _ hx
    rw [hsel, if_neg, mul_zero]
    intro h
    apply hx
    ext
    have h' : x.val % 128 = _ := h
    omega
  · intro h; exact absurd (mem_univ _) h

variable {h : Fin 4} {q k v : Vec Ideal S1x256x128 .bf16} {Z : FVec Ideal S256x128 .f32} {a : FVec Ideal S8x256 .f32}
  {sel : Vec Ideal S256x1024 .bf16} {C : FVec Ideal S128x256 .f32}
  {Q K V : ℕ → Fin 128 → ℝ} {f g : ℕ → ℝ} {n : ℕ} {μ : ℝ} {M : Fin 256 → ℝ}

/-- The masked products. -/
theorem masked_eq
    (hq : ∀ (r : Fin 256) (j : Fin 128), q (ix3 0 r j) = ((Q (n + r.val) j : ℝ) : EReal))
    (hk : ∀ (r : Fin 256) (j : Fin 128), k (ix3 0 r j) = ((K (n + r.val) j : ℝ) : EReal))
    (hM : ∀ r : Fin 256, Z (ix2 r ⟨h.val, by omega⟩) = ((M r : ℝ) : EReal))
    (ha : ∀ r : Fin 256, a (ix2 ⟨h.val, by omega⟩ r) = ((g (n + r.val) - loc f n r.val : ℝ) : EReal)) (r s : Fin 256) :
    masked h q k Z a (ix2 r s)
      = ((qk Q K (n + r.val) (n + s.val) * if s.val ≤ r.val then Real.exp (g (n + s.val) - loc f n s.val - M r) else 0 : ℝ) : EReal) := by
  have e : masked h q k Z a (ix2 r s) = (∑ x, q (ix3 0 r x) * k (ix3 0 s x)) * Ideal.exp
      (Scalar.select (IntOp.cmpi CmpIPredicate.sge (BitVec.ofNat 32 r.val) (BitVec.ofNat 32 s.val))
        (a (ix2 ⟨h.val, by omega⟩ s) - Z (ix2 r ⟨h.val, by omega⟩)) (Ideal.ofBits FTy.f32 4286578688#32)) := by
    pointwise [masked, tril]
  rw [e, sge_nat, select_ite, hM, ha, word_bot, EReal.coe_mul, qk, ← coe_sum]
  congr 1
  · exact sum_congr rfl fun x _ => by rw [hq, hk, EReal.coe_mul]
  · split
    · rw [← EReal.coe_sub, Ideal.exp_coe]
    · rw [Ideal.exp_bot, EReal.coe_zero]

/-- The two sums, scaled by the row's stabiliser. -/
theorem sums_eq
    (hq : ∀ (r : Fin 256) (j : Fin 128), q (ix3 0 r j) = ((Q (n + r.val) j : ℝ) : EReal))
    (hk : ∀ (r : Fin 256) (j : Fin 128), k (ix3 0 r j) = ((K (n + r.val) j : ℝ) : EReal))
    (hv : ∀ (r : Fin 256) (j : Fin 128), v (ix3 0 r j) = ((V (n + r.val) j : ℝ) : EReal))
    (hsel : ∀ (i : Fin 256) (c : Fin 1024), sel (ix2 i c) = if i.val % 128 = (if c.val / 128 < 4 then 8 else 24) + c.val / 128 % 4 then 1 else 0)
    (hZ : ∀ r x, ∃ z : ℝ, Z (ix2 r x) = (z : EReal))
    (hM : ∀ r : Fin 256, Z (ix2 r ⟨h.val, by omega⟩) = ((M r : ℝ) : EReal))
    (hμ : ∀ r : Fin 256, Z (ix2 r ⟨8 + h.val, by omega⟩) = ((Real.exp (μ - M r) : ℝ) : EReal))
    (ha : ∀ r : Fin 256, a (ix2 ⟨h.val, by omega⟩ r) = ((g (n + r.val) - loc f n r.val : ℝ) : EReal))
    (hC : ∀ (j : Fin 128) (c : Fin 256), C (ix2 j c) = ((state K f g (ext V c) n μ j : ℝ) : EReal)) (r c : Fin 256) :
    sums h q k v Z a sel C (ix2 r c)
      = ((Real.exp (-(loc f n r.val + M r)) * acc Q K f g (ext V c) (n + r.val) : ℝ) : EReal) := by
  have e : sums h q k v Z a sel C (ix2 r c)
      = (∑ x, masked h q k Z a (ix2 r x) * if hc : c.val < 128 then v (ix3 0 x ⟨c.val, hc⟩) else 1)
        + (if hc : c.val < 128 then spread Z sel (ix2 r ⟨128 * h.val + c.val, by omega⟩)
            else spread Z sel (ix2 r ⟨128 * h.val + (c.val - 128), by omega⟩)) * ∑ x, q (ix3 0 r x) * C (ix2 x c) := by
    pointwise [sums, vext]
  have hs : (if hc : c.val < 128 then spread Z sel (ix2 r ⟨128 * h.val + c.val, by omega⟩)
            else spread Z sel (ix2 r ⟨128 * h.val + (c.val - 128), by omega⟩)) = ((Real.exp (μ - M r) : ℝ) : EReal) := by
    rw [← hμ]
    have := h.isLt
    have := c.isLt
    split
    · refine spread_eq Z sel hZ hsel r _ _ ?_
      simp only
      rw [if_pos (by omega)]
      omega
    · refine spread_eq Z sel hZ hsel r _ _ ?_
      simp only
      rw [if_pos (by omega)]
      omega
  rw [e, hs, ← row_acc Q K f g (ext V c) n 256 r.val r.isLt μ (M r), EReal.coe_add, EReal.coe_mul (Real.exp _)]
  congr 1
  · rw [← Fin.sum_univ_eq_sum_range (fun s => (qk Q K (n + r.val) (n + s)
          * if s ≤ r.val then Real.exp (g (n + s) - loc f n s - M r) else 0) * ext V c (n + s)) 256, ← coe_sum]
    refine sum_congr rfl fun x _ => ?_
    rw [masked_eq hq hk hM ha, EReal.coe_mul _ (ext V c _)]
    congr 1
    unfold ext
    split
    · rw [hv]
    · rw [EReal.coe_one]
  · rw [← coe_sum]
    congr 1
    refine sum_congr rfl fun x _ => ?_
    rw [hq, hC, EReal.coe_mul]

/-- The ratio is the head's value. -/
theorem quot_eq {nd : FVec Ideal S256x256 .f32}
    (hn : ∀ r c : Fin 256, nd (ix2 r c) = ((Real.exp (-(loc f n r.val + M r)) * acc Q K f g (ext V c) (n + r.val) : ℝ) : EReal))
    (hf : ∀ r : Fin 256, Z (ix2 r ⟨16 + h.val, by omega⟩) = ((Real.exp (-(loc f n r.val + M r)) : ℝ) : EReal)) (r : Fin 256) (j : Fin 128) :
    quot h nd Z (ix2 r j) = ((core Q K V f g (n + r.val) j : ℝ) : EReal) := by
  have e : quot h nd Z (ix2 r j) = Ideal.div (nd (ix2 r ⟨j.val, by omega⟩))
      (max (max (nd (ix2 r ⟨128 + j.val, by omega⟩)) (-(nd (ix2 r ⟨128 + j.val, by omega⟩)))) (Z (ix2 r ⟨16 + h.val, by omega⟩))) := by
    pointwise [quot]
    rfl
  rw [e, hn, hn, hf, ← EReal.coe_neg, coe_max, coe_max, Ideal.div_coe, ← EReal.coe_mul, mul_one_div, ← abs_eq_max_neg, ratio, core]
  · have h1 : ext V ⟨j.val, by omega⟩ = fun t => V t j := by
      funext t
      unfold ext
      rw [dif_pos j.isLt]
    have h2 : ext V ⟨128 + j.val, by omega⟩ = fun _ => 1 := by
      funext t
      unfold ext
      rw [dif_neg]
      show ¬ 128 + j.val < 128
      omega
    rw [h1, h2]
  · have : 0 < Real.exp (-(loc f n r.val + M r)) := Real.exp_pos _
    exact (lt_of_lt_of_le this (le_max_right _ _)).ne'

/-- The gate and the norm are the tail. -/
theorem normed_gated (o : Vec Ideal S1x256x128 .bf16) (x : FVec Ideal S256x128 .f32) (gn : Vec Ideal S1x128 .f32) (r : Fin 256) (j : Fin 128) :
    normed (gated o x) gn (ix3 0 r j) = tail (fun i => o (ix3 0 r i)) (fun i => x (ix2 r i)) (fun i => gn (ix2 0 i)) j := by
  unfold tail
  simp only [← zero_sub (o _)]
  pointwise [normed, gated]

/-- The state after the chunk. -/
theorem upd_eq {dr Cr kk vv Zr} {R : Rd Ideal} {bi : Fin 4} {cc : Fin 2} (hkk : R.k bi cc h = kk) (hvv : R.v bi cc h = vv)
    (hk : ∀ (r : Fin 256) (j : Fin 128), kk (ix3 0 r j) = ((K (n + r.val) j : ℝ) : EReal))
    (hv : ∀ (r : Fin 256) (j : Fin 128), vv (ix3 0 r j) = ((V (n + r.val) j : ℝ) : EReal))
    (hsel : ∀ (i : Fin 256) (c : Fin 1024), R.sel (ix2 i c) = if i.val % 128 = (if c.val / 128 < 4 then 8 else 24) + c.val / 128 % 4 then 1 else 0)
    (hZ : ∀ r x, ∃ z : ℝ, Zr (ix3 0 r x) = (z : EReal))
    (hW : ∀ r : Fin 256, Zr (ix3 0 r ⟨24 + h.val, by omega⟩) = ((Real.exp (g (n + r.val) - loc f n r.val - M 255) : ℝ) : EReal))
    (hd : ∀ c : Fin 256, dr (ix3 0 ⟨h.val, by omega⟩ c) = ((Real.exp (μ - M 255) : ℝ) : EReal))
    (hC : ∀ (j : Fin 128) (c : Fin 256), Cr (ix3 0 j c) = ((state K f g (ext V c) n μ j : ℝ) : EReal)) (j : Fin 128) (c : Fin 256) :
    updP R bi cc h Zr dr Cr (ix3 0 j c) = ((state K f g (ext V c) (n + 256) (loc f n 255 + M 255) j : ℝ) : EReal) := by
  have e : updP R bi cc h Zr dr Cr (ix3 0 j c) = dr (ix3 0 ⟨h.val, by omega⟩ c) * Cr (ix3 0 j c)
      + ∑ x, spread (shapeCast S256x128 Zr shapeCasts_S1x256x128_S256x128) R.sel (ix2 x ⟨512 + 128 * h.val + j.val, by omega⟩)
          * R.k bi cc h (ix3 0 x j) * if hc : c.val < 128 then R.v bi cc h (ix3 0 x ⟨c.val, hc⟩) else 1 := by
    pointwise [updP, vext]
  have hsh : ∀ r x, shapeCast S256x128 Zr shapeCasts_S1x256x128_S256x128 (ix2 r x) = Zr (ix3 0 r x) := by
    intro r x
    pointwise
  have hs : ∀ x : Fin 256, spread (shapeCast S256x128 Zr shapeCasts_S1x256x128_S256x128) R.sel (ix2 x ⟨512 + 128 * h.val + j.val, by omega⟩)
      = ((Real.exp (g (n + x.val) - loc f n x.val - M 255) : ℝ) : EReal) := by
    intro x
    rw [← hW, ← hsh]
    have := h.isLt
    have := j.isLt
    refine spread_eq _ R.sel (fun r x => ?_) hsel x _ _ ?_
    · rw [hsh]; exact hZ r x
    · simp only
      rw [if_neg (by omega)]
      omega
  rw [e, ← state_step K f g (ext V c) n 256 (by norm_num) μ (M 255) j, hd, hC, EReal.coe_add, EReal.coe_mul (Real.exp _)]
  congr 1
  rw [← Fin.sum_univ_eq_sum_range (fun r => Real.exp (g (n + r) - loc f n r - M 255) * K (n + r) j * ext V c (n + r)) 256, ← coe_sum]
  refine sum_congr rfl fun x _ => ?_
  rw [hs, hkk, hvv, hk, EReal.coe_mul, EReal.coe_mul]
  congr 1
  unfold ext
  split
  · rw [hv]
  · rw [EReal.coe_one]

end MLstm
-- ==== Proof.Point.lean ====
module

public import proofs.«01_k».proof.Proof.Ideal3

@[expose] public section

/-!
One grid point over the reals: from the state and the stabiliser at row `N` to the results of rows `N` to
`N + 511` and the state and the stabiliser at row `N + 512`.
-/

set_option maxRecDepth 16384

noncomputable section

namespace MLstm

open Idealize.ShloMosaic Idealize.SL.Sem
open Cert.KernelIdeal Cert.KernelIdeal.Gen
open Finset

/-- One of the four heads as a row of eight. -/
abbrev up (h : Fin 4) : Fin 8 := ⟨h.val, by omega⟩

variable {R : Rd Ideal} {N : ℕ} {Q K V : Fin 4 → Fin 4 → ℕ → Fin 128 → ℝ} {f g : Fin 4 → Fin 8 → ℕ → ℝ} (H : Holds R N Q K V f g)
include H

/-- What a chunk stores into the result and into the state, from the state and the stabiliser before it. -/
theorem chunk_eq (bi : Fin 4) (cc : Fin 2) (mp : FVec Ideal S8x1 .f32) (μ : Fin 8 → ℝ) (hmp : ∀ s, mp (ix2 s 0) = ((μ s : ℝ) : EReal))
    (C : Fin 4 → Vec Ideal S1x128x256 .f32)
    (hC : ∀ (h : Fin 4) (j : Fin 128) (c : Fin 256),
      C h (ix3 0 j c) = ((state (K bi h) (f bi (up h)) (g bi (up h)) (ext (V bi h) c) (N + 256 * cc.val) (μ (up h)) j : ℝ) : EReal)) :
    ∃ μ' : Fin 8 → ℝ, (∀ s, nextM R bi cc mp (ix2 s 0) = ((μ' s : ℝ) : EReal)) ∧
      (∀ (h : Fin 4) (j : Fin 128) (c : Fin 256), updP R bi cc h (facs R bi cc mp) (decay R bi cc mp) (C h) (ix3 0 j c)
        = ((state (K bi h) (f bi (up h)) (g bi (up h)) (ext (V bi h) c) (N + 256 * cc.val + 256) (μ' (up h)) j : ℝ) : EReal)) ∧
      ∀ (h : Fin 4) (r : Fin 256) (j : Fin 128), outP R bi cc h (facs R bi cc mp) (kept R bi cc) (C h) (ix3 0 r j)
        = tail (fun i => R.o bi cc h (ix3 0 r i))
            (fun i => ((core (Q bi h) (K bi h) (V bi h) (f bi (up h)) (g bi (up h)) (N + 256 * cc.val + r.val) i : ℝ) : EReal))
            (fun i => R.gain h (ix2 0 i)) j := by
  obtain ⟨M, hM⟩ := stab_real H bi cc mp μ hmp
  have hsh : ∀ r x, shapeCast S256x128 (facs R bi cc mp) shapeCasts_S1x256x128_S256x128 (ix2 r x) = facs R bi cc mp (ix3 0 r x) := by
    intro r x
    pointwise
  refine ⟨_, fun s => nextM_eq H bi cc mp M hM s, fun h j c => ?_, fun h r j => ?_⟩
  · exact upd_eq (K := K bi h) (V := V bi h) (μ := μ (up h)) (M := M (up h)) rfl rfl (fun r j => H.k bi cc h r j) (fun r j => H.v bi cc h r j) H.sel
      (fun r x => facs_real H bi cc mp μ M hmp hM r x) (fun r => facs_w H bi cc mp M hM (up h) r)
      (fun c => decay_eq bi cc mp μ M hmp hM (up h) c) (hC h) j c
  · unfold outP
    rw [normed_gated]
    congr 1
    funext i
    refine quot_eq (M := M (up h)) (fun r c => sums_eq (K := K bi h) (V := V bi h) (μ := μ (up h)) (fun r j => H.q bi cc h r j)
      (fun r j => H.k bi cc h r j) (fun r j => H.v bi cc h r j) H.sel (fun r x => ?_) (fun r => ?_) (fun r => ?_) (fun r => ?_) (fun j c => ?_) r c)
      (fun r => ?_) r i
    · rw [hsh]; exact facs_real H bi cc mp μ M hmp hM r x
    · rw [hsh]; exact facs_M bi cc mp M hM (up h) r
    · rw [hsh]; exact facs_mu bi cc mp μ M hmp hM (up h) r
    · refine Eq.trans ?_ ((kept_apply bi cc (up h) r).trans (a_eq H bi cc (up h) r))
      pointwise
    · refine Eq.trans ?_ (hC h j c)
      pointwise
    · rw [hsh]; exact facs_floor H bi cc mp M hM (up h) r

/-- What a grid point stores, from the carried state and stabiliser. -/
theorem point_eq (m0 : Fin 4 → Vec Ideal S1x8x128 .f32) (C0 : Fin 4 → Fin 4 → Vec Ideal S1x128x256 .f32) (μ : Fin 4 → Fin 8 → ℝ)
    (hm : ∀ bi s, m0 bi (ix3 0 s 0) = ((μ bi s : ℝ) : EReal))
    (hC : ∀ (bi h : Fin 4) (j : Fin 128) (c : Fin 256),
      C0 bi h (ix3 0 j c) = ((state (K bi h) (f bi (up h)) (g bi (up h)) (ext (V bi h) c) N (μ bi (up h)) j : ℝ) : EReal)) :
    (∀ (bi : Fin 4) (cc : Fin 2) (h : Fin 4) (r : Fin 256) (j : Fin 128),
      outP R bi cc h ((found R m0 C0).Z bi cc) ((found R m0 C0).a bi cc) ((found R m0 C0).C cc bi h) (ix3 0 r j)
        = tail (fun i => R.o bi cc h (ix3 0 r i))
            (fun i => ((core (Q bi h) (K bi h) (V bi h) (f bi (up h)) (g bi (up h)) (N + 256 * cc.val + r.val) i : ℝ) : EReal))
            (fun i => R.gain h (ix2 0 i)) j) ∧
    ∃ μ' : Fin 4 → Fin 8 → ℝ, (∀ bi s, carryM R m0 bi (ix3 0 s 0) = ((μ' bi s : ℝ) : EReal)) ∧
      ∀ (bi h : Fin 4) (j : Fin 128) (c : Fin 256),
        updP R bi 1 h ((found R m0 C0).Z bi 1) ((found R m0 C0).d bi 1) ((found R m0 C0).C1 bi h) (ix3 0 j c)
          = ((state (K bi h) (f bi (up h)) (g bi (up h)) (ext (V bi h) c) (N + 512) (μ' bi (up h)) j : ℝ) : EReal) := by
  have h0 : ∀ bi s, prevM R m0 bi 0 (ix2 s 0) = ((μ bi s : ℝ) : EReal) := by
    intro bi s
    rw [← hm]
    show extractStridedSlice S8x1 ![0, 0] (shapeCast S8x128 (m0 bi) shapeCasts_S1x8x128_S8x128) slices_S8x128_o0_0_S8x1 (ix2 s 0) = _
    pointwise
  have A := fun bi => chunk_eq H bi 0 (prevM R m0 bi 0) (μ bi) (h0 bi) (C0 bi) (hC bi)
  choose μ1 hA using A
  have B := fun bi => chunk_eq H bi 1 (prevM R m0 bi 1) (μ1 bi) (hA bi).1 ((found R m0 C0).C1 bi) (hA bi).2.1
  choose μ2 hB using B
  refine ⟨fun bi cc h r j => ?_, μ2, fun bi s => ?_, fun bi h j c => (hB bi).2.1 h j c⟩
  · fin_cases cc
    · exact (hA bi).2.2 h r j
    · exact (hB bi).2.2 h r j
  · rw [← (hB bi).1]
    pointwise [carryM]

end MLstm
-- ==== Proof.Reads.lean ====
module

public import proofs.«01_k».proof.Proof.Blocks
public import proofs.«01_k».proof.Proof.Point
public import Idealize.ShloMosaic.Lib.Pipeline.ReadBack

@[expose] public section

/-!
What a grid point reads, as real rows of the arguments; and what the first point of a run finds: zeroes.
-/

set_option maxRecDepth 16384

noncomputable section

namespace MLstm

open Idealize.ShloMosaic Idealize.SL.Sem Idealize.ShloMosaic.Tactic
open Cert.KernelIdeal Cert.KernelIdeal.Gen Idealize.ShloMosaic.TcCoe

/-- A sequence's row of the first argument. -/
def row0 (A : FVec Ideal S16384x3584 .bf16) (b : Fin 8) (off : ℕ) (h : Fin 4) (t : ℕ) (j : Fin 128) : ℝ :=
  (A (ix2 ⟨(2048 * b.val + t) % 16384, Nat.mod_lt _ (by norm_num)⟩ ⟨(off + 128 * h.val + j.val) % 3584, Nat.mod_lt _ (by norm_num)⟩)).toReal

/-- A sequence's gates in the second argument. -/
def gate (A : FVec Ideal S64x16x256 .f32) (b : Fin 8) (off : ℕ) (s : Fin 8) (t : ℕ) : ℝ :=
  (A (ix3 ⟨(8 * b.val + t / 256) % 64, Nat.mod_lt _ (by norm_num)⟩ ⟨(off + s.val) % 16, Nat.mod_lt _ (by norm_num)⟩ ⟨t % 256, Nat.mod_lt _ (by norm_num)⟩)).toReal

section reads

variable (arg2 : Memref sig .tc .vmem S4x512x1024 .bf16) (harg2 : arg2.IsWhole) (arg3 : Memref sig .tc .vmem S4x512x1024 .bf16) (harg3 : arg3.IsWhole) (arg4 : Memref sig .tc .vmem S4x2x16x256 .f32) (harg4 : arg4.IsWhole) (arg5 : Memref sig .tc .vmem S256x256 .f32) (harg5 : arg5.IsWhole) (arg6 : Memref sig .tc .vmem S1x512 .f32) (harg6 : arg6.IsWhole) (arg7 : Memref sig .tc .vmem S256x1024 .bf16) (harg7 : arg7.IsWhole)
  (x0 : Vec Ideal S4x512x1024 .bf16) (x1 : Vec Ideal S4x512x1024 .bf16) (x2 : Vec Ideal S4x2x16x256 .f32) (x3 : Vec Ideal S256x256 .f32) (x4 : Vec Ideal S1x512 .f32) (x5 : Vec Ideal S256x1024 .bf16)

local notation "RR" => reads arg2 harg2 arg3 harg3 arg4 harg4 arg5 harg5 arg6 harg6 arg7 harg7 x0 x1 x2 x3 x4 x5

/-- The queries. -/
theorem reads_q (bi : Fin 4) (cc : Fin 2) (h : Fin 4) (r : Fin 256) (j : Fin 128) :
    (RR).q bi cc h (ix3 0 r j) = x0 (ix3 bi ⟨256 * cc.val + r.val, by omega⟩ ⟨128 * h.val + j.val, by omega⟩) := by
  refine (harg2.readAt_unread x0 _ _).trans (congrArg x0 ?_)
  idx_ext
/-- The keys. -/
theorem reads_k (bi : Fin 4) (cc : Fin 2) (h : Fin 4) (r : Fin 256) (j : Fin 128) :
    (RR).k bi cc h (ix3 0 r j) = x0 (ix3 bi ⟨256 * cc.val + r.val, by omega⟩ ⟨512 + 128 * h.val + j.val, by omega⟩) := by
  refine (harg2.readAt_unread x0 _ _).trans (congrArg x0 ?_)
  idx_ext
/-- The values. -/
theorem reads_v (bi : Fin 4) (cc : Fin 2) (h : Fin 4) (r : Fin 256) (j : Fin 128) :
    (RR).v bi cc h (ix3 0 r j) = x1 (ix3 bi ⟨256 * cc.val + r.val, by omega⟩ ⟨128 * h.val + j.val, by omega⟩) := by
  refine (harg3.readAt_unread x1 _ _).trans (congrArg x1 ?_)
  idx_ext
/-- The output gates. -/
theorem reads_o (bi : Fin 4) (cc : Fin 2) (h : Fin 4) (r : Fin 256) (j : Fin 128) :
    (RR).o bi cc h (ix3 0 r j) = x1 (ix3 bi ⟨256 * cc.val + r.val, by omega⟩ ⟨512 + 128 * h.val + j.val, by omega⟩) := by
  refine (harg3.readAt_unread x1 _ _).trans (congrArg x1 ?_)
  idx_ext
/-- The forget gates. -/
theorem reads_f (bi : Fin 4) (cc : Fin 2) (s : Fin 8) (r : Fin 256) :
    (RR).f bi cc (ix4 0 0 s r) = x2 (ix4 bi cc ⟨8 + s.val, by omega⟩ r) := by
  refine (harg4.readAt_unread x2 _ _).trans (congrArg x2 ?_)
  idx_ext
/-- The input gates. -/
theorem reads_g (bi : Fin 4) (cc : Fin 2) (s : Fin 8) (r : Fin 256) :
    (RR).g bi cc (ix4 0 0 s r) = x2 (ix4 bi cc ⟨s.val, by omega⟩ r) := by
  refine (harg4.readAt_unread x2 _ _).trans (congrArg x2 ?_)
  idx_ext
/-- The triangle. -/
theorem reads_u (x r : Fin 256) : (RR).u (ix2 x r) = x3 (ix2 x r) := by
  refine (harg5.readAt_unread x3 _ _).trans (congrArg x3 ?_)
  idx_ext
/-- The gain. -/
theorem reads_gain (h : Fin 4) (j : Fin 128) : (RR).gain h (ix2 0 j) = x4 (ix2 0 ⟨128 * h.val + j.val, by omega⟩) := by
  refine (harg6.readAt_unread x4 _ _).trans (congrArg x4 ?_)
  idx_ext
/-- The selection. -/
theorem reads_sel (x : Fin 256) (r : Fin 1024) : (RR).sel (ix2 x r) = x5 (ix2 x r) := by
  refine (harg7.readAt_unread x5 _ _).trans (congrArg x5 ?_)
  idx_ext

end reads

/-! ## The first point of a run -/

/-- A load through a rectangle that no store of the list meets reads what was there before. -/
theorem readCov_off {sig' : RefSig} {κ : Kind} {sp : Space} {s : Shape} {e : EltTy} {Val : EltTy → Type} [∀ e, Nonempty (Val e)] {ι : Type}
    (v : View sig' κ sp s e) (rect : ι → Rect s) (w : (p : ι) → (rect p).shape.Idx → Val e)
    (l : List ι) (T : List (View.Piece Val s e)) (p : ι) (hp : p ∉ l)
    (hd : ∀ p', p' ≠ p → Disjoint (rect p).set (rect p').set) (x : (rect p).shape.Idx) :
    v.readCov (l.map (fun p => (⟨rect p, w p⟩ : View.Piece Val s e)) ++ T) (rect p).toLoadRect x = View.canon T ((rect p).emb x) := by
  rw [View.readCov_eq_canon']
  show View.canon _ ((rect p).emb x) = _
  induction l with
  | nil => rfl
  | cons a l ih =>
    rw [List.map_cons, List.cons_append, View.canon_cons_of_not_mem]
    · exact ih (fun h => hp (List.mem_cons_of_mem _ h))
    · refine Finset.disjoint_left.1 (hd a (fun h => hp (h ▸ List.mem_cons_self))) ?_
      rw [← Rect.map_emb_univ]
      exact Finset.mem_map_of_mem _ (Finset.mem_univ x)

/-- The cleared states are zero. -/
theorem canon_zeroC (y : S16x128x256.Idx) : View.canon (zeroC (F := Ideal)) y = (0 : EReal) := by
  have e : y = (Rect.unit ![0, 0, 0] S16x128x256.size inb_S16x128x256_S16x128x256_0_0_0).emb y := by
    funext a; apply Fin.ext; rw [Rect.emb_apply]; fin_cases a <;> simp [Rect.unit]
  rw [e]
  refine (View.canon_cons_emb (Val := Elt Ideal) (e := .f32) (Rect.unit ![0, 0, 0] S16x128x256.size inb_S16x128x256_S16x128x256_0_0_0) (k0_pay2 (F := Ideal)) [] y).trans ?_
  pointwise [k0_pay2]

/-- The cleared stabilisers are zero. -/
theorem canon_zeroM (y : S4x8x128.Idx) : View.canon (zeroM (F := Ideal)) y = (0 : EReal) := by
  have e : y = (Rect.unit ![0, 0, 0] S4x8x128.size inb_S4x8x128_S4x8x128_0_0_0).emb y := by
    funext a; apply Fin.ext; rw [Rect.emb_apply]; fin_cases a <;> simp [Rect.unit]
  rw [e]
  refine (View.canon_cons_emb (Val := Elt Ideal) (e := .f32) (Rect.unit ![0, 0, 0] S4x8x128.size inb_S4x8x128_S4x8x128_0_0_0) (k0_pay3 (F := Ideal)) [] y).trans ?_
  pointwise [k0_pay3]

/-- The first point of a run finds states of zero. -/
theorem C0A_zero (arg9 : Memref sig .tc .vmem S16x128x256 .f32) (bi h : Fin 4) (x : S1x128x256.Idx) : C0A (F := Ideal) arg9 bi h x = (0 : EReal) := by
  unfold C0A
  rw [View.readCov_eq_canon']
  exact canon_zeroC _

section firstM

variable (c : Dev nD) (arg4 : Memref sig .tc .vmem S4x2x16x256 .f32) (harg4 : arg4.IsWhole) (arg5 : Memref sig .tc .vmem S256x256 .f32) (harg5 : arg5.IsWhole)
  (arg13 : Memref sig .tc .vmem S4x8x128 .f32) (x2 : Vec Ideal S4x2x16x256 .f32) (x3 : Vec Ideal S256x256 .f32)
  (arg2 : Memref sig .tc .vmem S4x512x1024 .bf16) (harg2 : arg2.IsWhole) (arg3 : Memref sig .tc .vmem S4x512x1024 .bf16) (harg3 : arg3.IsWhole) (arg6 : Memref sig .tc .vmem S1x512 .f32) (harg6 : arg6.IsWhole) (arg7 : Memref sig .tc .vmem S256x1024 .bf16) (harg7 : arg7.IsWhole)
  (x0 : Vec Ideal S4x512x1024 .bf16) (x1 : Vec Ideal S4x512x1024 .bf16) (x4 : Vec Ideal S1x512 .f32) (x5 : Vec Ideal S256x1024 .bf16)

/-- The stores of stabilisers before each is loaded. -/
theorem m0A_load0 : m0A (F := Ideal) c arg4 harg4 arg5 harg5 arg13 x2 x3 0 = arg13.view.readCov (([] : List (Fin 4)).map (pieceM (reads arg2 harg2 arg3 harg3 arg4 harg4 arg5 harg5 arg6 harg6 arg7 harg7 x0 x1 x2 x3 x4 x5) (m0A c arg4 harg4 arg5 harg5 arg13 x2 x3)) ++ zeroM) (rectM 0).toLoadRect := by
  sl_kernel_rfl
/-- The second. -/
theorem m0A_load1 : m0A (F := Ideal) c arg4 harg4 arg5 harg5 arg13 x2 x3 1 = arg13.view.readCov (([0] : List (Fin 4)).map (pieceM (reads arg2 harg2 arg3 harg3 arg4 harg4 arg5 harg5 arg6 harg6 arg7 harg7 x0 x1 x2 x3 x4 x5) (m0A c arg4 harg4 arg5 harg5 arg13 x2 x3)) ++ zeroM) (rectM 1).toLoadRect := by
  sl_kernel_rfl
/-- The third. -/
theorem m0A_load2 : m0A (F := Ideal) c arg4 harg4 arg5 harg5 arg13 x2 x3 2 = arg13.view.readCov (([1, 0] : List (Fin 4)).map (pieceM (reads arg2 harg2 arg3 harg3 arg4 harg4 arg5 harg5 arg6 harg6 arg7 harg7 x0 x1 x2 x3 x4 x5) (m0A c arg4 harg4 arg5 harg5 arg13 x2 x3)) ++ zeroM) (rectM 2).toLoadRect := by
  sl_kernel_rfl
/-- The fourth. -/
theorem m0A_load3 : m0A (F := Ideal) c arg4 harg4 arg5 harg5 arg13 x2 x3 3 = arg13.view.readCov (([2, 1, 0] : List (Fin 4)).map (pieceM (reads arg2 harg2 arg3 harg3 arg4 harg4 arg5 harg5 arg6 harg6 arg7 harg7 x0 x1 x2 x3 x4 x5) (m0A c arg4 harg4 arg5 harg5 arg13 x2 x3)) ++ zeroM) (rectM 3).toLoadRect := by
  sl_kernel_rfl

include harg2 harg3 harg6 harg7 x0 x1 x4 x5 in
/-- The first point of a run finds stabilisers of zero. -/
theorem m0A_zero (bi : Fin 4) (x : S1x8x128.Idx) : m0A (F := Ideal) c arg4 harg4 arg5 harg5 arg13 x2 x3 bi x = (0 : EReal) := by
  have key : ∀ (l : List (Fin 4)) (p : Fin 4), p ∉ l → ∀ w : (p : Fin 4) → S1x8x128.Idx → EReal,
      arg13.view.readCov (l.map (fun p => (⟨rectM p, w p⟩ : View.Piece (Elt Ideal) S4x8x128 .f32)) ++ zeroM (F := Ideal)) (rectM p).toLoadRect x = (0 : EReal) :=
    fun l p hp w => (readCov_off arg13.view rectM w l zeroM p hp (disjM p) x).trans (canon_zeroM _)
  obtain ⟨v, hv⟩ := bi
  interval_cases v
  · exact (congrFun (m0A_load0 c arg4 harg4 arg5 harg5 arg13 x2 x3 arg2 harg2 arg3 harg3 arg6 harg6 arg7 harg7 x0 x1 x4 x5) x).trans (key [] 0 (by decide) _)
  · exact (congrFun (m0A_load1 c arg4 harg4 arg5 harg5 arg13 x2 x3 arg2 harg2 arg3 harg3 arg6 harg6 arg7 harg7 x0 x1 x4 x5) x).trans (key [0] 1 (by decide) _)
  · exact (congrFun (m0A_load2 c arg4 harg4 arg5 harg5 arg13 x2 x3 arg2 harg2 arg3 harg3 arg6 harg6 arg7 harg7 x0 x1 x4 x5) x).trans (key [1, 0] 2 (by decide) _)
  · exact (congrFun (m0A_load3 c arg4 harg4 arg5 harg5 arg13 x2 x3 arg2 harg2 arg3 harg3 arg6 harg6 arg7 harg7 x0 x1 x4 x5) x).trans (key [2, 1, 0] 3 (by decide) _)

end firstM

end MLstm
-- ==== Proof.Sweep.lean ====
module

public import proofs.«01_k».proof.Proof.Reads
public import proofs.«01_k».proof.Proof.Pieces

@[expose] public section

/-!
The kernel's result: by induction along each run of four grid points, every entry is the head's value.
-/

set_option maxRecDepth 16384

noncomputable section

namespace MLstm

open Idealize.ShloMosaic Idealize.SL.Sem Idealize.ShloMosaic.Tactic
open Cert.KernelIdeal Cert.KernelIdeal.Gen Cert.KernelIdeal.Value Idealize.ShloMosaic.TcCoe

/-- The head's value with its gate, norm and gain, at a sequence, a position and a lane. -/
def layer (A : FVec Ideal S16384x3584 .bf16) (G : FVec Ideal S64x16x256 .f32) (W : FVec Ideal S1x512 .f32)
    (b : Fin 8) (t : Fin 2048) (h : Fin 4) (j : Fin 128) : EReal :=
  tail (fun i => A (ix2 ⟨2048 * b.val + t.val, by omega⟩ ⟨1536 + 128 * h.val + i.val, by omega⟩))
    (fun i => ((core (row0 A b 0 h) (row0 A b 512 h) (row0 A b 1024 h) (gate G b 8 (up h)) (gate G b 0 (up h)) t.val i : ℝ) : EReal))
    (fun i => W (ix2 0 ⟨128 * h.val + i.val, by omega⟩)) j

variable (m : (b : Loc nD τ sig) → Buf (Elt Ideal) b) (c : Dev nD)

/-- What a later point finds in the stabilisers' scratch. -/
theorem m0B_apply (arg13 : Memref sig .tc .vmem S4x8x128 .f32) (harg13 : arg13.IsWhole) (xs4 : Vec Ideal S4x8x128 .f32) (bi : Fin 4) (x : S1x8x128.Idx) :
    m0B arg13 harg13 xs4 bi x = xs4 ((rectM bi).emb x) := harg13.readAt_unread xs4 _ _

/-- What a later point finds in the states' scratch. -/
theorem C0B_apply (arg9 : Memref sig .tc .vmem S16x128x256 .f32) (harg9 : arg9.IsWhole) (xs0 : Vec Ideal S16x128x256 .f32) (bi h : Fin 4) (x : S1x128x256.Idx) :
    C0B arg9 harg9 xs0 bi h x = xs0 ((rectC (bi, h)).emb x) := harg9.readAt_unread xs0 _ _

/-- The sequence a chain of a point belongs to. -/
def seq (t : Fin cfg0.N) (bi : Fin 4) : Fin 8 := ⟨4 * (t.val / 4) + bi.val, by have := lt8 t; omega⟩

/-- What a point reads. -/
abbrev rdAt (t : Fin cfg0.N) : Rd Ideal := reads (ms0_0 t) (hs0_0 t) (ms0_1 t) (hs0_1 t) (ms0_2 t) (hs0_2 t) (ms0_3 t) (hs0_3 t) (ms0_4 t) (hs0_4 t) (ms0_5 t) (hs0_5 t) (X0_0 m c t) (X0_1 m c t) (iblk m c 2 t) (iblk m c 3 t) (iblk m c 4 t) (iblk m c 5 t)

section real

variable (h0 : ∀ i, arg0 m c i = ((arg0 m c i).toReal : EReal)) (h1 : ∀ i, arg1 m c i = ((arg1 m c i).toReal : EReal))
include h0 h1

/-- A point reads real rows of its sequences. -/
theorem holds (t : Fin cfg0.N) : Holds (rdAt m c t) (512 * (t.val % 4)) (fun bi h => row0 (arg0 m c) (seq t bi) 0 h)
    (fun bi h => row0 (arg0 m c) (seq t bi) 512 h) (fun bi h => row0 (arg0 m c) (seq t bi) 1024 h)
    (fun bi s => gate (arg1 m c) (seq t bi) 8 s) (fun bi s => gate (arg1 m c) (seq t bi) 0 s) := by
  have h8 := lt8 t
  refine ⟨fun bi cc h r j => ?_, fun bi cc h r j => ?_, fun bi cc h r j => ?_, fun bi cc s r => ?_, fun bi cc s r => ?_, fun x r => ?_, fun i l => ?_⟩
  · refine (reads_q _ _ _ _ _ _ _ _ _ _ _ _ _ _ _ _ _ _ bi cc h r j).trans ((blk0 m c t bi _ _).trans ((h0 _).trans ?_))
    refine congrArg (fun i => ((arg0 m c i).toReal : EReal)) ?_
    simp only [seq]
    idx_ext
  · refine (reads_k _ _ _ _ _ _ _ _ _ _ _ _ _ _ _ _ _ _ bi cc h r j).trans ((blk0 m c t bi _ _).trans ((h0 _).trans ?_))
    refine congrArg (fun i => ((arg0 m c i).toReal : EReal)) ?_
    simp only [seq]
    idx_ext
  · refine (reads_v _ _ _ _ _ _ _ _ _ _ _ _ _ _ _ _ _ _ bi cc h r j).trans ((blk1 m c t bi _ _).trans ((h0 _).trans ?_))
    refine congrArg (fun i => ((arg0 m c i).toReal : EReal)) ?_
    simp only [seq]
    idx_ext
  · refine (reads_f _ _ _ _ _ _ _ _ _ _ _ _ _ _ _ _ _ _ bi cc s r).trans ((blk2 m c t bi cc _ r).trans ((h1 _).trans ?_))
    refine congrArg (fun i => ((arg1 m c i).toReal : EReal)) ?_
    simp only [seq]
    idx_ext
  · refine (reads_g _ _ _ _ _ _ _ _ _ _ _ _ _ _ _ _ _ _ bi cc s r).trans ((blk2 m c t bi cc _ r).trans ((h1 _).trans ?_))
    refine congrArg (fun i => ((arg1 m c i).toReal : EReal)) ?_
    simp only [seq]
    idx_ext
  · exact (reads_u _ _ _ _ _ _ _ _ _ _ _ _ _ _ _ _ _ _ x r).trans (blk3 m c t x r)
  · exact (reads_sel _ _ _ _ _ _ _ _ _ _ _ _ _ _ _ _ _ _ i l).trans (blk5 m c t i l)

/-- What a point leaves: its results, and the state and stabilisers after its two chunks. -/
def Left (t : Fin cfg0.N) (o : Vec Ideal S4x512x512 .bf16 × Vec Ideal S16x128x256 .f32 × Vec Ideal S4x8x128 .f32) : Prop :=
  (∀ (bi : Fin 4) (cc : Fin 2) (h : Fin 4) (r : Fin 256) (j : Fin 128), o.1 ((rectO (bi, cc, h)).emb (ix3 0 r j))
      = layer (arg0 m c) (arg1 m c) (arg2 m c) (seq t bi) ⟨512 * (t.val % 4) + 256 * cc.val + r.val, by omega⟩ h j) ∧
  ∃ μ : Fin 4 → Fin 8 → ℝ, (∀ bi s, o.2.2 ((rectM bi).emb (ix3 0 s 0)) = ((μ bi s : ℝ) : EReal)) ∧
    ∀ (bi h : Fin 4) (j : Fin 128) (l : Fin 256), o.2.1 ((rectC (bi, h)).emb (ix3 0 j l))
      = ((state (row0 (arg0 m c) (seq t bi) 512 h) (gate (arg1 m c) (seq t bi) 8 (up h)) (gate (arg1 m c) (seq t bi) 0 (up h))
          (ext (row0 (arg0 m c) (seq t bi) 1024 h) l) (512 * (t.val % 4) + 512) (μ bi (up h)) j : ℝ) : EReal)

omit h0 h1 in
/-- The end of a point's result. -/
theorem tail_layer (t : Fin cfg0.N) (bi : Fin 4) (cc : Fin 2) (h : Fin 4) (r : Fin 256) (j : Fin 128) :
    tail (fun i => (rdAt m c t).o bi cc h (ix3 0 r i))
      (fun i => ((core (row0 (arg0 m c) (seq t bi) 0 h) (row0 (arg0 m c) (seq t bi) 512 h) (row0 (arg0 m c) (seq t bi) 1024 h)
        (gate (arg1 m c) (seq t bi) 8 (up h)) (gate (arg1 m c) (seq t bi) 0 (up h)) (512 * (t.val % 4) + 256 * cc.val + r.val) i : ℝ) : EReal))
      (fun i => (rdAt m c t).gain h (ix2 0 i)) j
    = layer (arg0 m c) (arg1 m c) (arg2 m c) (seq t bi) ⟨512 * (t.val % 4) + 256 * cc.val + r.val, by omega⟩ h j := by
  have h8 := lt8 t
  unfold layer
  congr 1
  · funext i
    refine (reads_o _ _ _ _ _ _ _ _ _ _ _ _ _ _ _ _ _ _ bi cc h r i).trans ((blk1 m c t bi _ _).trans ?_)
    refine congrArg (arg0 m c) ?_
    simp only [seq]
    idx_ext
  · funext i
    exact (reads_gain _ _ _ _ _ _ _ _ _ _ _ _ _ _ _ _ _ _ h i).trans (blk4 m c t 0 _)

set_option maxHeartbeats 1000000 in
/-- The first point of a run. -/
theorem left_A (t : Fin cfg0.N) (hA : t.val % 4 = 0) : Left m c t (outsAt0 m c t.val t.isLt) := by
  rw [outsAt0_A m c t hA]
  have hz : ∀ bi x, m0A c (ms0_2 t) (hs0_2 t) (ms0_3 t) (hs0_3 t) scM0_4 (iblk m c 2 t) (iblk m c 3 t) bi x = (0 : EReal) :=
    m0A_zero c (ms0_2 t) (hs0_2 t) (ms0_3 t) (hs0_3 t) scM0_4 (iblk m c 2 t) (iblk m c 3 t)
      (ms0_0 t) (hs0_0 t) (ms0_1 t) (hs0_1 t) (ms0_4 t) (hs0_4 t) (ms0_5 t) (hs0_5 t) (X0_0 m c t) (X0_1 m c t) (iblk m c 4 t) (iblk m c 5 t)
  have hst : ∀ (k : ℕ → Fin 128 → ℝ) (f g u : ℕ → ℝ) (j : Fin 128), ((state k f g u (512 * (t.val % 4)) 0 j : ℝ) : EReal) = 0 := by
    intro k f g u j; rw [hA, Nat.mul_zero, state_zero, EReal.coe_zero]
  have P := point_eq (holds m c h0 h1 t)
    (m0A c (ms0_2 t) (hs0_2 t) (ms0_3 t) (hs0_3 t) scM0_4 (iblk m c 2 t) (iblk m c 3 t)) (C0A scM0_0) (fun _ _ => 0)
    (fun bi s => (hz bi _).trans EReal.coe_zero.symm)
    (fun bi h j l => (C0A_zero _ bi h _).trans (hst _ _ _ _ j).symm)
  obtain ⟨PO, μ, PM, PC⟩ := P
  refine ⟨fun bi cc h r j => ?_, μ, fun bi s => ?_, fun bi h j l => ?_⟩
  · dsimp only
    have e := (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (X0_0 m c t) (X0_1 m c t) (iblk m c 2 t) (iblk m c 3 t) (iblk m c 4 t) (iblk m c 5 t) ((hcond0_0 t).mpr hA) bi cc h (ix3 0 r j)).trans ((PO bi cc h r j).trans (tail_layer m c t bi cc h r j))
    exact e
  · dsimp only
    have e := (mout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (X0_0 m c t) (X0_1 m c t) (iblk m c 2 t) (iblk m c 3 t) (iblk m c 4 t) (iblk m c 5 t) ((hcond0_0 t).mpr hA) bi (ix3 0 s 0)).trans (PM bi s)
    exact e
  · dsimp only
    have e := (sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (X0_0 m c t) (X0_1 m c t) (iblk m c 2 t) (iblk m c 3 t) (iblk m c 4 t) (iblk m c 5 t) ((hcond0_0 t).mpr hA) bi h (ix3 0 j l)).trans (PC bi h j l)
    exact e

set_option maxHeartbeats 1000000 in
/-- A later point of a run. -/
theorem left_B (t : Fin cfg0.N) (hB : ¬t.val % 4 = 0)
    (ih : Left m c ⟨t.val - 1, Nat.lt_of_le_of_lt (Nat.sub_le _ _) t.isLt⟩ (outsAt0 m c (t.val - 1) (Nat.lt_of_le_of_lt (Nat.sub_le _ _) t.isLt))) :
    Left m c t (outsAt0 m c t.val t.isLt) := by
  rw [outsAt0_B m c t hB]
  obtain ⟨-, μ0, hM, hC⟩ := ih
  have hs : ∀ bi, seq ⟨t.val - 1, Nat.lt_of_le_of_lt (Nat.sub_le _ _) t.isLt⟩ bi = seq t bi := by
    intro bi; apply Fin.ext; simp only [seq]; omega
  have hn : 512 * ((t.val - 1) % 4) + 512 = 512 * (t.val % 4) := by omega
  simp only [hs, hn] at hC
  generalize outsAt0 m c (t.val - 1) (Nat.lt_of_le_of_lt (Nat.sub_le _ _) t.isLt) = o at hM hC ⊢
  have P := point_eq (holds m c h0 h1 t)
    (m0B scM0_4 (Memref.isWhole_whole _) o.2.2) (C0B scM0_0 (Memref.isWhole_whole _) o.2.1) μ0
    (fun bi s => (m0B_apply _ _ _ _ _).trans (hM bi s))
    (fun bi h j l => (C0B_apply _ _ _ _ _ _).trans (hC bi h j l))
  obtain ⟨PO, μ, PM, PC⟩ := P
  refine ⟨fun bi cc h r j => ?_, μ, fun bi s => ?_, fun bi h j l => ?_⟩
  · dsimp only
    have e := (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (X0_0 m c t) (X0_1 m c t) (iblk m c 2 t) (iblk m c 3 t) (iblk m c 4 t) (iblk m c 5 t) o.2.1 o.2.2 (fun h => hB ((hcond0_0 t).mp h)) bi cc h (ix3 0 r j)).trans ((PO bi cc h r j).trans (tail_layer m c t bi cc h r j))
    exact e
  · dsimp only
    have e := (mout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (X0_0 m c t) (X0_1 m c t) (iblk m c 2 t) (iblk m c 3 t) (iblk m c 4 t) (iblk m c 5 t) o.2.1 o.2.2 (fun h => hB ((hcond0_0 t).mp h)) bi (ix3 0 s 0)).trans (PM bi s)
    exact e
  · dsimp only
    have e := (sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (X0_0 m c t) (X0_1 m c t) (iblk m c 2 t) (iblk m c 3 t) (iblk m c 4 t) (iblk m c 5 t) o.2.1 o.2.2 (fun h => hB ((hcond0_0 t).mp h)) bi h (ix3 0 j l)).trans (PC bi h j l)
    exact e

/-- Every point. -/
theorem left (n : ℕ) : ∀ hn : n < cfg0.N, Left m c ⟨n, hn⟩ (outsAt0 m c n hn) := by
  induction n with
  | zero => exact fun hn => left_A m c h0 h1 ⟨0, hn⟩ (Nat.zero_mod 4)
  | succ n ih =>
    intro hn
    by_cases hA : (n + 1) % 4 = 0
    · exact left_A m c h0 h1 ⟨n + 1, hn⟩ hA
    · exact left_B m c h0 h1 ⟨n + 1, hn⟩ hA (ih (Nat.lt_of_succ_lt hn))

/-- Every entry of the kernel's result. -/
theorem G6_eq (b : Fin 8) (t : Fin 2048) (h : Fin 4) (j : Fin 128) :
    (show FVec Ideal S8x2048x512 .bf16 from G6 m c) (ix3 b t ⟨128 * h.val + j.val, by omega⟩) = layer (arg0 m c) (arg1 m c) (arg2 m c) b t h j := by
  have hp : pt6Of (ix3 b t ⟨128 * h.val + j.val, by omega⟩ : S8x2048x512.Idx) = 4 * (b.val / 4) + t.val / 512 := by
    show 4 * (b.val / 4 - 0) + 1 * (t.val / 512 - 0) + 1 * ((128 * h.val + j.val) / 512 - 0) = _
    omega
  have hlt : 4 * (b.val / 4) + t.val / 512 < cfg0.N := by have e : cfg0.N = 8 := N_0; omega
  have hl : loc6Of (ix3 b t ⟨128 * h.val + j.val, by omega⟩ : S8x2048x512.Idx)
      = (rectO (⟨b.val % 4, by omega⟩, ⟨t.val % 512 / 256, by omega⟩, h)).emb (ix3 0 ⟨t.val % 256, by omega⟩ j) := by
    idx_ext
  show G6 m c (ix3 b t ⟨128 * h.val + j.val, by omega⟩ : S8x2048x512.Idx) = _
  unfold G6
  rw [dif_pos (by rw [hp]; exact hlt), hl, fold0_congr m c _ _ _ (by omega) hp, ← outsAt0_sweep m c _ hlt]
  refine ((left m c h0 h1 _ hlt).1 _ _ _ _ _).trans ?_
  congr 1
  · apply Fin.ext; simp only [seq]; omega
  · apply Fin.ext; simp only []; omega

end real

end MLstm
-- ==== Proof.RefDefs.lean ====
module

public import proofs.«01_k».proof.Proof.Sweep
public import proofs.«01_k».proof.Proof.Gen.ReferenceIdeal.Run

@[expose] public section

/-!
The reference's result, cut into its steps.
-/

set_option maxRecDepth 16384

noncomputable section

namespace MLstm.Ref

open Idealize.ShloMosaic Idealize.SL.Sem
open Cert.ReferenceIdeal Cert.ReferenceIdeal.Gen Idealize.ShloMosaic.TcCoe

variable (A : FVec Ideal S16384x3584 .bf16) (G : FVec Ideal S64x16x256 .f32) (W : FVec Ideal S1x512 .f32)

/-- The first argument by sequence. -/
def rows : FVec Ideal S8x2048x3584 .bf16 := shapeCast S8x2048x3584 A shapeCasts_S16384x3584_S8x2048x3584
/-- The queries by head. -/
def qs : FVec Ideal S8x2048x4x128 .f32 := extf .f32 (shapeCast S8x2048x4x128 (extractStridedSlice S8x2048x512 ![0, 0, 0] (rows A) slices_S8x2048x3584_S8x2048x512_0_0_0) shapeCasts_S8x2048x512_S8x2048x4x128) bitsLt_bf16_f32
/-- The keys by head. -/
def ks : FVec Ideal S8x2048x4x128 .f32 := extf .f32 (shapeCast S8x2048x4x128 (extractStridedSlice S8x2048x512 ![0, 0, 512] (rows A) slices_S8x2048x3584_S8x2048x512_0_0_512) shapeCasts_S8x2048x512_S8x2048x4x128) bitsLt_bf16_f32
/-- The values by head. -/
def vs : FVec Ideal S8x2048x4x128 .f32 := extf .f32 (shapeCast S8x2048x4x128 (extractStridedSlice S8x2048x512 ![0, 0, 1024] (rows A) slices_S8x2048x3584_S8x2048x512_0_0_1024) shapeCasts_S8x2048x512_S8x2048x4x128) bitsLt_bf16_f32
/-- The output gates by head. -/
def os : FVec Ideal S8x2048x4x128 .f32 := extf .f32 (shapeCast S8x2048x4x128 (extractStridedSlice S8x2048x512 ![0, 0, 1536] (rows A) slices_S8x2048x3584_S8x2048x512_0_0_1536) shapeCasts_S8x2048x512_S8x2048x4x128) bitsLt_bf16_f32
/-- The gates by sequence. -/
def gates : FVec Ideal S8x16x2048 .f32 := shapeCast S8x16x2048 (transpose S8x16x8x256 [0, 2, 1, 3] (shapeCast S8x8x16x256 G shapeCasts_S64x16x256_S8x8x16x256) transposes_S8x8x16x256_S8x16x8x256_0_2_1_3) shapeCasts_S8x16x8x256_S8x16x2048
/-- The log forget gates. -/
def lf : FVec Ideal S8x4x2048 .f32 := extractStridedSlice S8x4x2048 ![0, 8, 0] (gates G) slices_S8x16x2048_S8x4x2048_0_8_0
/-- The log input gates. -/
def ig : FVec Ideal S8x4x2048 .f32 := extractStridedSlice S8x4x2048 ![0, 0, 0] (gates G) slices_S8x16x2048_S8x4x2048_0_0_0
/-- The sums of the forget gates. -/
def bs : FVec Ideal S8x4x2048 .f32 := Host.reduceWindowAdd ![1, 1, 2048] ![1, 1, 1] ![0, 0, 2047] ![0, 0, 0] (lf G) (broadcastInDim S_ ![] bcast_S_S_ (constant S_ .f32 0x00000000#32)) reduceWindows_S8x4x2048_S8x4x2048_w1s1p0_0_w1s1p0_0_w2048s1p2047_0 h_S_
/-- The masked weights' logarithms, from the sums of the gates. -/
def dmat (b : FVec Ideal S8x4x2048 .f32) : FVec Ideal S8x4x2048x2048 .f32 :=
  select (broadcastInDim S8x4x2048x2048 ![2, 3] bcast_S2048x2048_S8x4x2048x2048_2_3 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1))))
    (addf (subf (broadcastInDim S8x4x2048x2048 ![0, 1, 2, 3] bcast_S8x4x2048x1_S8x4x2048x2048_0_1_2_3 (broadcastInDim S8x4x2048x1 ![0, 1, 2] bcast_S8x4x2048_S8x4x2048x1_0_1_2 b))
      (broadcastInDim S8x4x2048x2048 ![0, 1, 2, 3] bcast_S8x4x1x2048_S8x4x2048x2048_0_1_2_3 (broadcastInDim S8x4x1x2048 ![0, 1, 3] bcast_S8x4x2048_S8x4x1x2048_0_1_3 b)))
      (broadcastInDim S8x4x2048x2048 ![0, 1, 2, 3] bcast_S8x4x1x2048_S8x4x2048x2048_0_1_2_3 (broadcastInDim S8x4x1x2048 ![0, 1, 3] bcast_S8x4x2048_S8x4x1x2048_0_1_3 (ig G))))
    (broadcastInDim S8x4x2048x2048 ![] bcast_S_S8x4x2048x2048 (id (constant S_ .f32 0xFF800000#32)))
/-- The stabilisers. -/
def mx (d : FVec Ideal S8x4x2048x2048 .f32) (b : FVec Ideal S8x4x2048 .f32) : FVec Ideal S8x4x2048 .f32 :=
  maximumf (Host.reduce FloatOps.maximumf d (constant S_ .f32 0xFF800000#32) reducesTo_S8x4x2048x2048_S8x4x2048_d3 h_S_) b
/-- The scores. -/
def scores (d : FVec Ideal S8x4x2048x2048 .f32) (m : FVec Ideal S8x4x2048 .f32) : FVec Ideal S8x4x2048x2048 .f32 :=
  mulf (Host.dotGeneral dot_S8x2048x4x128_S8x2048x4x128_S8x4x2048x2048_3_3_1_1_02_02 none (qs A) (ks A))
    (Host.exp (subf d (broadcastInDim S8x4x2048x2048 ![0, 1, 2, 3] bcast_S8x4x2048x1_S8x4x2048x2048_0_1_2_3 (broadcastInDim S8x4x2048x1 ![0, 1, 2] bcast_S8x4x2048_S8x4x2048x1_0_1_2 m))))
/-- The ratio. -/
def quot (s : FVec Ideal S8x4x2048x2048 .f32) (m : FVec Ideal S8x4x2048 .f32) : FVec Ideal S8x4x2048x128 .f32 :=
  Host.divf (Host.dotGeneral dot_S8x4x2048x2048_S8x2048x4x128_S8x4x2048x128_3_1_2_3_01_02 none s (vs A))
    (broadcastInDim S8x4x2048x128 ![0, 1, 2, 3] bcast_S8x4x2048x1_S8x4x2048x128_0_1_2_3 (broadcastInDim S8x4x2048x1 ![0, 1, 2] bcast_S8x4x2048_S8x4x2048x1_0_1_2
      (maximumf (Host.absf (Host.reduceAdd s (constant S_ .f32 0x00000000#32) reducesTo_S8x4x2048x2048_S8x4x2048_d3 h_S_)) (Host.exp (Host.negf m)))))
/-- The gated ratio. -/
def gated (x : FVec Ideal S8x4x2048x128 .f32) : FVec Ideal S8x2048x4x128 .f32 :=
  mulf (Host.divf (broadcastInDim S8x2048x4x128 ![] bcast_S_S8x2048x4x128 (constant S_ .f32 0x3F800000#32)) (addf (broadcastInDim S8x2048x4x128 ![] bcast_S_S8x2048x4x128 (constant S_ .f32 0x3F800000#32)) (Host.exp (Host.negf (os A)))))
    (transpose S8x2048x4x128 [0, 2, 1, 3] x transposes_S8x4x2048x128_S8x2048x4x128_0_2_1_3)
/-- The norm and the gain. -/
def normed (x : FVec Ideal S8x2048x4x128 .f32) : FVec Ideal S8x2048x512 .bf16 :=
  truncf .bf16 (mulf (shapeCast S8x2048x512 (mulf x (broadcastInDim S8x2048x4x128 ![0, 1, 2, 3] bcast_S8x2048x4x1_S8x2048x4x128_0_1_2_3
    (Host.rsqrt (addf (Host.divf (broadcastInDim S8x2048x4x1 ![0, 1, 2] bcast_S8x2048x4_S8x2048x4x1_0_1_2 (Host.reduceAdd (mulf x x) (constant S_ .f32 0x00000000#32) reducesTo_S8x2048x4x128_S8x2048x4_d3 h_S_))
      (broadcastInDim S8x2048x4x1 ![] bcast_S_S8x2048x4x1 (constant S_ .f32 0x43000000#32))) (broadcastInDim S8x2048x4x1 ![] bcast_S_S8x2048x4x1 (constant S_ .f32 0x3727C5AC#32)))))) shapeCasts_S8x2048x4x128_S8x2048x512)
    (broadcastInDim S8x2048x512 ![0, 1, 2] bcast_S1x1x512_S8x2048x512_0_1_2 (broadcastInDim S1x1x512 ![1, 2] bcast_S1x512_S1x1x512_1_2 W))) bitsLt_bf16_f32

/-- The whole result. -/
def result : FVec Ideal S8x2048x512 .bf16 :=
  normed W (gated A (quot A (scores A (dmat G (bs G)) (mx (dmat G (bs G)) (bs G))) (mx (dmat G (bs G)) (bs G))))

/-- The reference's term is that. -/
theorem res_eq (m : (b : Loc nD τ sig) → Buf (Elt Ideal) b) (c : Dev nD) :
    Cert.ReferenceIdeal.Value.res_main_v69 m c
      = result (m ((c.tc : Thread nD τ).loc main_arg0)) (m ((c.tc : Thread nD τ).loc main_arg1)) (m ((c.tc : Thread nD τ).loc main_arg2)) := rfl

end MLstm.Ref
-- ==== Proof.Ref.lean ====
module

public import proofs.«01_k».proof.Proof.RefDefs
public import Idealize.ShloMosaic.Lib.ShapeFacts
public import Idealize.ShloMosaic.Lib.Routing.Ops

@[expose] public section

/-!
The reference's result, entry by entry: the head's value.
-/

set_option maxRecDepth 16384

noncomputable section

namespace MLstm.Ref

open Idealize.ShloMosaic Idealize.SL.Sem
open Cert.ReferenceIdeal Cert.ReferenceIdeal.Gen Idealize.ShloMosaic.TcCoe
open Finset

/-! ### The sums of the gates -/

/-- A left fold of additions of reals is their sum. -/
theorem foldl_real {ι : Type} (l : List ι) (g : ι → EReal) (f : ι → ℝ) (hg : ∀ a, g a = ((f a : ℝ) : EReal)) (z : ℝ) :
    l.foldl (fun r a => r + g a) (z : EReal) = ((z + (l.map f).sum : ℝ) : EReal) := by
  induction l generalizing z with
  | nil => simp
  | cons a l ih => rw [List.foldl_cons, hg, ← EReal.coe_add, ih, List.map_cons, List.sum_cons, add_assoc]

/-- A sum along a list of the first naturals. -/
theorem list_sum (f : ℕ → ℝ) (n : ℕ) : ((List.range n).map f).sum = ∑ x ∈ range n, f x := by
  induction n with
  | zero => simp
  | succ n ih => rw [List.range_succ, List.map_append, List.sum_append, ih, Finset.sum_range_succ]; simp

/-- The window of a cumulative sum holds a prefix. -/
theorem window (f : ℕ → ℝ) (t : ℕ) (ht : t < 2048) :
    ((List.range 2048).map fun w => if 2047 ≤ t + w then f (t + w - 2047) else 0).sum = pre f (t + 1) := by
  rw [list_sum, pre]
  rw [← Finset.sum_filter]
  refine Finset.sum_nbij' (fun w => t + w - 2047) (fun x => x + 2047 - t) ?_ ?_ ?_ ?_ ?_
  · intro w hw; simp only [mem_filter, mem_range] at hw ⊢; omega
  · intro w hw; simp only [mem_filter, mem_range] at hw ⊢; omega
  · intro w hw; simp only [mem_filter, mem_range] at hw ⊢; omega
  · intro w hw; simp only [mem_filter, mem_range] at hw ⊢; omega
  · intro w hw; rfl

/-- The number of entries of a window. -/
theorem numel_win : (⟨S8x4x2048.rank, ![1, 1, 2048]⟩ : Shape).numel = 2048 := Shape.numel_rank3 _

/-- An entry's place in a window. -/
theorem win_val (n : Fin (⟨S8x4x2048.rank, ![1, 1, 2048]⟩ : Shape).numel) :
    ((⟨S8x4x2048.rank, ![1, 1, 2048]⟩ : Shape).rowMajor.symm n 0).val = 0 ∧ ((⟨S8x4x2048.rank, ![1, 1, 2048]⟩ : Shape).rowMajor.symm n 1).val = 0
      ∧ ((⟨S8x4x2048.rank, ![1, 1, 2048]⟩ : Shape).rowMajor.symm n 2).val = n.val := by
  have e := Shape.rowMajor_val_three (d := ![1, 1, 2048]) ((⟨S8x4x2048.rank, ![1, 1, 2048]⟩ : Shape).rowMajor.symm n)
  have e2 : ((⟨S8x4x2048.rank, ![1, 1, 2048]⟩ : Shape).rowMajor ((⟨S8x4x2048.rank, ![1, 1, 2048]⟩ : Shape).rowMajor.symm n)).val = n.val := by
    rw [Equiv.apply_symm_apply]
  have a0 : ((⟨S8x4x2048.rank, ![1, 1, 2048]⟩ : Shape).rowMajor.symm n 0).val < 1 := ((⟨S8x4x2048.rank, ![1, 1, 2048]⟩ : Shape).rowMajor.symm n 0).isLt
  have a1 : ((⟨S8x4x2048.rank, ![1, 1, 2048]⟩ : Shape).rowMajor.symm n 1).val < 1 := ((⟨S8x4x2048.rank, ![1, 1, 2048]⟩ : Shape).rowMajor.symm n 1).isLt
  have e3 := e2.symm.trans e
  have z0 := Nat.lt_one_iff.1 a0
  have z1 := Nat.lt_one_iff.1 a1
  refine ⟨z0, z1, ?_⟩
  rw [z0, z1] at e3
  simpa using e3.symm

/-- The cumulative sum along the positions. -/
theorem cumsum_eq (x : FVec Ideal S8x4x2048 .f32) (f : Fin 8 → Fin 4 → ℕ → ℝ) (hx : ∀ b h (t : Fin 2048), x (ix3 b h t) = ((f b h t.val : ℝ) : EReal))
    (init : FVec Ideal S_ .f32) (hi : ∀ i, init i = 0) (b : Fin 8) (h : Fin 4) (t : Fin 2048) :
    (Host.reduceWindowAdd ![1, 1, 2048] ![1, 1, 1] ![0, 0, 2047] ![0, 0, 0] x init
      reduceWindows_S8x4x2048_S8x4x2048_w1s1p0_0_w1s1p0_0_w2048s1p2047_0 h_S_ : FVec Ideal S8x4x2048 .f32) (ix3 b h t)
      = ((pre (f b h) (t.val + 1) : ℝ) : EReal) := by
  have ht := t.isLt
  have hb := b.isLt
  have hh := h.isLt
  unfold Host.reduceWindowAdd
  rw [Ideal.hostReduceWindowAdd_def, hi]
  unfold Ideal.hostReduceWindowAdd
  unfold Host.reduceWindow
  dsimp only
  rw [← EReal.coe_zero]
  refine (foldl_real _ _ (fun n => if 2047 ≤ t.val + n.val then f b h (t.val + n.val - 2047) else 0) (fun n => ?_) 0).trans ?_
  · obtain ⟨w0, w1, w2⟩ := win_val n
    have hn : n.val < 2048 := lt_of_lt_of_eq n.isLt numel_win
    split
    · next hin =>
      have h0 := hin 2
      change 2047 ≤ t.val * 1 + ((⟨S8x4x2048.rank, ![1, 1, 2048]⟩ : Shape).rowMajor.symm n 2).val
        ∧ t.val * 1 + ((⟨S8x4x2048.rank, ![1, 1, 2048]⟩ : Shape).rowMajor.symm n 2).val - 2047 < 2048 at h0
      rw [w2] at h0
      rw [if_pos (by omega)]
      refine (congrArg x (funext fun a => Fin.ext ?_)).trans (hx b h ⟨t.val + n.val - 2047, by omega⟩)
      match a with
      | ⟨0, _⟩ =>
        show b.val * 1 + ((⟨S8x4x2048.rank, ![1, 1, 2048]⟩ : Shape).rowMajor.symm n 0).val - 0 = b.val
        rw [w0]; omega
      | ⟨1, _⟩ =>
        show h.val * 1 + ((⟨S8x4x2048.rank, ![1, 1, 2048]⟩ : Shape).rowMajor.symm n 1).val - 0 = h.val
        rw [w1]; omega
      | ⟨2, _⟩ =>
        show t.val * 1 + ((⟨S8x4x2048.rank, ![1, 1, 2048]⟩ : Shape).rowMajor.symm n 2).val - 2047 = t.val + n.val - 2047
        rw [w2]; omega
    · next hin =>
      rw [if_neg fun hle => hin fun a => by
        match a with
        | ⟨0, _⟩ =>
          show 0 ≤ b.val * 1 + ((⟨S8x4x2048.rank, ![1, 1, 2048]⟩ : Shape).rowMajor.symm n 0).val
            ∧ b.val * 1 + ((⟨S8x4x2048.rank, ![1, 1, 2048]⟩ : Shape).rowMajor.symm n 0).val - 0 < 8
          rw [w0]; omega
        | ⟨1, _⟩ =>
          show 0 ≤ h.val * 1 + ((⟨S8x4x2048.rank, ![1, 1, 2048]⟩ : Shape).rowMajor.symm n 1).val
            ∧ h.val * 1 + ((⟨S8x4x2048.rank, ![1, 1, 2048]⟩ : Shape).rowMajor.symm n 1).val - 0 < 4
          rw [w1]; omega
        | ⟨2, _⟩ =>
          show 2047 ≤ t.val * 1 + ((⟨S8x4x2048.rank, ![1, 1, 2048]⟩ : Shape).rowMajor.symm n 2).val
            ∧ t.val * 1 + ((⟨S8x4x2048.rank, ![1, 1, 2048]⟩ : Shape).rowMajor.symm n 2).val - 2047 < 2048
          rw [w2]; omega]
  · rw [zero_add, Routing.map_finRange_val _ (fun w => if 2047 ≤ t.val + w then f b h (t.val + w - 2047) else 0), numel_win, window _ _ ht]

/-! ### The entries of the arguments -/

variable {A : FVec Ideal S16384x3584 .bf16} {G : FVec Ideal S64x16x256 .f32} {W : FVec Ideal S1x512 .f32}

/-- The output gates' entries. -/
theorem os_apply (b : Fin 8) (t : Fin 2048) (h : Fin 4) (j : Fin 128) :
    os A (ix4 b t h j) = A (ix2 ⟨2048 * b.val + t.val, by omega⟩ ⟨1536 + 128 * h.val + j.val, by omega⟩) := by
  pointwise [os, rows]
  congr 1
  idx_ext

section

variable (hA : ∀ i, A i = ((A i).toReal : EReal)) (hG : ∀ i, G i = ((G i).toReal : EReal))

include hA in
/-- The queries' entries. -/
theorem qs_apply (b : Fin 8) (t : Fin 2048) (h : Fin 4) (j : Fin 128) :
    qs A (ix4 b t h j) = ((row0 A b 0 h t.val j : ℝ) : EReal) := by
  have e : qs A (ix4 b t h j) = A (ix2 ⟨2048 * b.val + t.val, by omega⟩ ⟨128 * h.val + j.val, by omega⟩) := by
    pointwise [qs, rows]
    congr 1
    idx_ext
  rw [e, hA, row0]
  congr 3
  idx_ext

include hA in
/-- The keys' entries. -/
theorem ks_apply (b : Fin 8) (t : Fin 2048) (h : Fin 4) (j : Fin 128) :
    ks A (ix4 b t h j) = ((row0 A b 512 h t.val j : ℝ) : EReal) := by
  have e : ks A (ix4 b t h j) = A (ix2 ⟨2048 * b.val + t.val, by omega⟩ ⟨512 + 128 * h.val + j.val, by omega⟩) := by
    pointwise [ks, rows]
    congr 1
    idx_ext
  rw [e, hA, row0]
  congr 3
  idx_ext

include hA in
/-- The values' entries. -/
theorem vs_apply (b : Fin 8) (t : Fin 2048) (h : Fin 4) (j : Fin 128) :
    vs A (ix4 b t h j) = ((row0 A b 1024 h t.val j : ℝ) : EReal) := by
  have e : vs A (ix4 b t h j) = A (ix2 ⟨2048 * b.val + t.val, by omega⟩ ⟨1024 + 128 * h.val + j.val, by omega⟩) := by
    pointwise [vs, rows]
    congr 1
    idx_ext
  rw [e, hA, row0]
  congr 3
  idx_ext

include hG in
/-- The forget gates' entries. -/
theorem lf_apply (b : Fin 8) (h : Fin 4) (t : Fin 2048) : lf G (ix3 b h t) = ((gate G b 8 (up h) t.val : ℝ) : EReal) := by
  have e : lf G (ix3 b h t) = G (ix3 ⟨8 * b.val + t.val / 256, by omega⟩ ⟨8 + h.val, by omega⟩ ⟨t.val % 256, by omega⟩) := by
    pointwise [lf, gates]
    congr 1
    idx_ext
  rw [e, hG, gate]
  congr 3
  simp only [up]
  idx_ext

include hG in
/-- The input gates' entries. -/
theorem ig_apply (b : Fin 8) (h : Fin 4) (t : Fin 2048) : ig G (ix3 b h t) = ((gate G b 0 (up h) t.val : ℝ) : EReal) := by
  have e : ig G (ix3 b h t) = G (ix3 ⟨8 * b.val + t.val / 256, by omega⟩ ⟨h.val, by omega⟩ ⟨t.val % 256, by omega⟩) := by
    pointwise [ig, gates]
    congr 1
    idx_ext
  rw [e, hG, gate]
  congr 3
  simp only [up]
  idx_ext

include hG in
/-- The gates' sums. -/
theorem bs_apply (b : Fin 8) (h : Fin 4) (t : Fin 2048) : bs G (ix3 b h t) = ((pre (gate G b 8 (up h)) (t.val + 1) : ℝ) : EReal) := by
  refine cumsum_eq (lf G) (fun b h => gate G b 8 (up h)) (fun b h t => lf_apply hG b h t) _ (fun i => ?_) b h t
  show Ideal.ofBits .f32 0#32 = 0
  simp [Ideal.ofBits, Ideal.ieee]

end

end MLstm.Ref
-- ==== Proof.Ref2.lean ====
module

public import proofs.«01_k».proof.Proof.Ref

@[expose] public section

/-!
The reference's result, entry by entry: the head's value.
-/

set_option maxRecDepth 16384

noncomputable section

namespace MLstm.Ref

open Idealize.ShloMosaic Idealize.SL.Sem
open Cert.ReferenceIdeal Cert.ReferenceIdeal.Gen Idealize.ShloMosaic.TcCoe
open Finset

/-- The lower triangle's entry. -/
theorem sge_nat (r s : Fin 2048) : IntOp.cmpi CmpIPredicate.sge (BitVec.ofNat 32 r.val) (BitVec.ofNat 32 s.val) = if s.val ≤ r.val then 1#1 else 0#1 := by
  rw [WordCmp.cmpi_sge_ofNat (by have := r.isLt; omega) (by have := s.isLt; omega)]
  by_cases h : s.val ≤ r.val <;> simp [h]

/-- A bit chosen by itself. -/
theorem select_self (x : BitVec 1) : Scalar.select x (1#1) (0#1) = x := by
  revert x
  decide

variable {A : FVec Ideal S16384x3584 .bf16} {G : FVec Ideal S64x16x256 .f32} {W : FVec Ideal S1x512 .f32}

section

variable (hA : ∀ i, A i = ((A i).toReal : EReal)) (hG : ∀ i, G i = ((G i).toReal : EReal))

include hG in
/-- The masked logarithms. -/
theorem dmat_apply (b : Fin 8) (h : Fin 4) (t s : Fin 2048) :
    dmat G (bs G) (ix4 b h t s) = if s.val ≤ t.val then ((pre (gate G b 8 (up h)) (t.val + 1) - pre (gate G b 8 (up h)) (s.val + 1)
      + gate G b 0 (up h) s.val : ℝ) : EReal) else ⊥ := by
  have e : dmat G (bs G) (ix4 b h t s) = Scalar.select (Scalar.select (IntOp.cmpi CmpIPredicate.sge (BitVec.ofNat 32 t.val) (BitVec.ofNat 32 s.val)) 1#1 0#1)
      (bs G (ix3 b h t) - bs G (ix3 b h s) + ig G (ix3 b h s)) (Ideal.ofBits .f32 4286578688#32) := by
    pointwise [dmat]
    have z : ∀ x : BitVec 32, IntOp.addi x 0#32 = x := fun x => BitVec.add_zero x
    rw [z]
    rfl
  rw [e, select_self, sge_nat, select_ite, word_bot, bs_apply hG, bs_apply hG, ig_apply hG]
  split
  · rw [← EReal.coe_sub, ← EReal.coe_add]
  · rfl

/-- The greatest of entries that are each real or minus infinity is one of these. -/
theorem fold_real {ι : Type} (w : ι → EReal) (hw : ∀ s, w s = ⊥ ∨ ∃ x : ℝ, w s = ((x : ℝ) : EReal)) (S : Finset ι) :
    S.fold max ⊥ w = ⊥ ∨ ∃ M : ℝ, S.fold max ⊥ w = ((M : ℝ) : EReal) := by
  classical
  induction S using Finset.induction_on with
  | empty => left; simp
  | insert a S ha ih =>
    rw [Finset.fold_insert ha]
    rcases hw a with h | ⟨x, h⟩ <;> rw [h]
    · rw [max_bot_left]; exact ih
    · right
      rcases ih with ih | ⟨M, ih⟩
      · rw [ih]; exact ⟨_, max_bot_right _⟩
      · rw [ih]; exact ⟨_, coe_max _ _⟩

/-- The greater of a maximum along axes, of entries that are each real or minus infinity, and a real is real. -/
theorem reduce_real {s t : Shape} {axes : List (Fin s.rank)} (x : FVec Ideal s .f32) (init : FVec Ideal S_ .f32) (hi : ∀ i, init i = ⊥)
    (h : s.ReducesTo axes t) (hu : 0 < S_.numel) (hx : ∀ i, x i = ⊥ ∨ ∃ y : ℝ, x i = ((y : ℝ) : EReal)) (u : FVec Ideal t .f32) (j : t.Idx)
    (r : ℝ) (hr : u j = ((r : ℝ) : EReal)) :
    ∃ M : ℝ, maximumf (Host.reduce FloatOps.maximumf x init h hu) u j = ((M : ℝ) : EReal) := by
  show ∃ M : ℝ, max (Host.reduce FloatOps.maximumf x init h hu j) (u j) = ((M : ℝ) : EReal)
  rw [Host.reduce_eq_fold, hi, hr]
  rcases fold_real x hx (Finset.univ.filter fun i => h.drop i = j) with hf | ⟨M, hf⟩
  · exact ⟨r, by erw [hf]; exact max_bot_left _⟩
  · exact ⟨max M r, by erw [hf]; exact coe_max _ _⟩

include hG in
/-- The masked logarithms are each real or minus infinity. -/
theorem dmat_real (i : S8x4x2048x2048.Idx) : dmat G (bs G) i = ⊥ ∨ ∃ y : ℝ, dmat G (bs G) i = ((y : ℝ) : EReal) := by
  idx_vars i
  rw [dmat_apply hG]
  split
  · exact Or.inr ⟨_, rfl⟩
  · exact Or.inl rfl

include hG in
/-- The stabilisers are real. -/
theorem mx_real (b : Fin 8) (h : Fin 4) (t : Fin 2048) : ∃ M : ℝ, mx (dmat G (bs G)) (bs G) (ix3 b h t) = ((M : ℝ) : EReal) := by
  unfold mx
  exact reduce_real (dmat G (bs G)) (constant S_ .f32 0xFF800000#32) (fun _ => word_bot) reducesTo_S8x4x2048x2048_S8x4x2048_d3 h_S_ (dmat_real hG) _ _ _ (bs_apply hG b h t)

include hA hG in
/-- The scores. -/
theorem scores_apply (m : FVec Ideal S8x4x2048 .f32) (b : Fin 8) (h : Fin 4) (t s : Fin 2048) (M : ℝ) (hM : m (ix3 b h t) = ((M : ℝ) : EReal)) :
    scores A (dmat G (bs G)) m (ix4 b h t s) = ((qk (row0 A b 0 h) (row0 A b 512 h) t.val s.val
      * (if s.val ≤ t.val then Real.exp (pre (gate G b 8 (up h)) (t.val + 1) - pre (gate G b 8 (up h)) (s.val + 1) + gate G b 0 (up h) s.val - M) else 0) : ℝ) : EReal) := by
  have e : scores A (dmat G (bs G)) m (ix4 b h t s) = (∑ x : Fin 128, qs A (ix4 b t h x) * ks A (ix4 b s h x))
      * Ideal.exp (dmat G (bs G) (ix4 b h t s) - m (ix3 b h t)) := by
    pointwise [scores]
  rw [e, dmat_apply hG, hM, EReal.coe_mul, qk, ← coe_sum]
  congr 1
  · exact sum_congr rfl fun x _ => by rw [qs_apply hA, ks_apply hA, EReal.coe_mul]
  · split
    · rw [← EReal.coe_sub, Ideal.exp_coe]
    · rw [EReal.bot_sub, Ideal.exp_bot, EReal.coe_zero]

include hA hG in
/-- The ratio. -/
theorem quot_apply (m : FVec Ideal S8x4x2048 .f32) (b : Fin 8) (h : Fin 4) (t : Fin 2048) (M : ℝ) (hM : m (ix3 b h t) = ((M : ℝ) : EReal)) (j : Fin 128) :
    quot A (scores A (dmat G (bs G)) m) m (ix4 b h t j)
      = ((core (row0 A b 0 h) (row0 A b 512 h) (row0 A b 1024 h) (gate G b 8 (up h)) (gate G b 0 (up h)) t.val j : ℝ) : EReal) := by
  set q := row0 A b 0 h with hq
  set k := row0 A b 512 h
  set f := gate G b 8 (up h)
  set g := gate G b 0 (up h)
  have e : quot A (scores A (dmat G (bs G)) m) m (ix4 b h t j) = Ideal.div (∑ s : Fin 2048, scores A (dmat G (bs G)) m (ix4 b h t s) * vs A (ix4 b s h j))
      (max (max (∑ s : Fin 2048, scores A (dmat G (bs G)) m (ix4 b h t s)) (-(∑ s : Fin 2048, scores A (dmat G (bs G)) m (ix4 b h t s)))) (Ideal.exp (-(m (ix3 b h t))))) := by
    pointwise [quot]
    rfl
  have hs : (∑ s : Fin 2048, scores A (dmat G (bs G)) m (ix4 b h t s)) = ((Real.exp (-M) * acc q k f g (fun _ => 1) t.val : ℝ) : EReal) := by
    rw [← acc_masked q k f g (fun _ => 1) 2048 t.val t.isLt M,
      ← Fin.sum_univ_eq_sum_range (fun s => (qk q k t.val s * if s ≤ t.val then Real.exp (pre f (t.val + 1) - pre f (s + 1) + g s - M) else 0) * 1) 2048, ← coe_sum]
    exact sum_congr rfl fun s _ => by rw [scores_apply hA hG m b h t s M hM, mul_one]
  have hv : (∑ s : Fin 2048, scores A (dmat G (bs G)) m (ix4 b h t s) * vs A (ix4 b s h j))
      = ((Real.exp (-M) * acc q k f g (fun s => row0 A b 1024 h s j) t.val : ℝ) : EReal) := by
    rw [← acc_masked q k f g (fun s => row0 A b 1024 h s j) 2048 t.val t.isLt M,
      ← Fin.sum_univ_eq_sum_range (fun s => (qk q k t.val s * if s ≤ t.val then Real.exp (pre f (t.val + 1) - pre f (s + 1) + g s - M) else 0) * row0 A b 1024 h s j) 2048, ← coe_sum]
    exact sum_congr rfl fun s _ => by rw [scores_apply hA hG m b h t s M hM, vs_apply hA, EReal.coe_mul _ (row0 A b 1024 h s.val j)]
  rw [e, hs, hv, hM, ← EReal.coe_neg, ← EReal.coe_neg, Ideal.exp_coe, coe_max, coe_max, Ideal.div_coe, ← EReal.coe_mul, mul_one_div, ← abs_eq_max_neg, ratio, core]
  have : 0 < Real.exp (-M) := Real.exp_pos _
  exact (lt_of_lt_of_le this (le_max_right _ _)).ne'

/-- The gate and the norm are the tail. -/
theorem normed_apply (x : FVec Ideal S8x4x2048x128 .f32) (b : Fin 8) (t : Fin 2048) (h : Fin 4) (j : Fin 128) :
    normed W (gated A x) (ix3 b t ⟨128 * h.val + j.val, by omega⟩)
      = tail (fun i => os A (ix4 b t h i)) (fun i => x (ix4 b h t i)) (fun i => W (ix2 0 ⟨128 * h.val + i.val, by omega⟩)) j := by
  unfold tail
  pointwise [normed, gated]

include hA hG in
/-- The reference's entries. -/
theorem result_apply (b : Fin 8) (t : Fin 2048) (h : Fin 4) (j : Fin 128) :
    result A G W (ix3 b t ⟨128 * h.val + j.val, by omega⟩) = layer A G W b t h j := by
  obtain ⟨M, hM⟩ := mx_real hG b h t
  unfold result
  rw [normed_apply, layer]
  have e1 : (fun i => os A (ix4 b t h i)) = fun i : Fin 128 => A (ix2 ⟨2048 * b.val + t.val, by omega⟩ ⟨1536 + 128 * h.val + i.val, by omega⟩) :=
    funext fun i => os_apply b t h i
  have e2 := funext fun i => quot_apply hA hG (mx (dmat G (bs G)) (bs G)) b h t M hM i
  rw [e1, e2]

end

end MLstm.Ref
-- ==== Proof.Tie.lean ====
module

public import proofs.«01_k».proof.Defs
public import proofs.«01_k».proof.Proof.Ref2
public import proofs.«01_k».proof.Proof.Gen.Pre_finite

@[expose] public section

/-!
The precondition makes the arguments real, and then the two results are equal.
-/

set_option maxRecDepth 16384

noncomputable section

namespace MLstm

open Idealize.ShloMosaic Idealize.SL.Sem
open Idealize.ShloMosaic.TcCoe

/-- A number whose magnitude is below infinity is real. -/
theorem real_of_abs (x : EReal) (h : max x (-x) < ⊤) : x = ((x.toReal : ℝ) : EReal) := by
  refine (EReal.coe_toReal ?_ ?_).symm
  · rintro rfl
    simp at h
  · rintro rfl
    simp at h

/-- The word of infinity. -/
theorem word_top : Ideal.ofBits .f32 2139095040#32 = ⊤ := by
  simp [Ideal.ofBits, Ideal.ieee]

/-- A test for being below infinity that gives one. -/
theorem real_of_cmp (x : EReal) (h : FloatOps.cmpf (F := Ideal) (φ := .f32) CmpFPredicate.olt (max x (-x) : EReal) (Ideal.ofBits .f32 2139095040#32) = 1#1) :
    x = ((x.toReal : ℝ) : EReal) := by
  apply real_of_abs
  by_contra hc
  rw [word_top] at h
  have : ¬ (max x (-x) < (⊤ : EReal)) := hc
  simp [FloatOps.cmpf, Ideal.cmp, this] at h

section

variable (A : FVec Ideal Cert.Pre_finite.S16384x3584 .bf16) (G : FVec Ideal Cert.Pre_finite.S64x16x256 .f32) (W : FVec Ideal Cert.Pre_finite.S1x512 .f32)

/-- The first argument is real. -/
theorem real0 (h : (Cert.Pre_finite.fn (F := Ideal) A G W).1 = fun _ => 1#1) (i) : A i = (((A i).toReal : ℝ) : EReal) :=
  real_of_cmp _ (congrFun h i)

/-- The second argument is real. -/
theorem real1 (h : (Cert.Pre_finite.fn (F := Ideal) A G W).2 = fun _ => 1#1) (i) : G i = (((G i).toReal : ℝ) : EReal) :=
  real_of_cmp _ (congrFun h i)

end

/-- The kernel's result is the reference's. -/
theorem tie (m : (b : Loc Cert.KernelIdeal.nD Cert.KernelIdeal.τ Cert.KernelIdeal.sig) → Buf (Elt Ideal) b)
    (m' : (b : Loc Cert.ReferenceIdeal.nD Cert.ReferenceIdeal.τ Cert.ReferenceIdeal.sig) → Buf (Elt Ideal) b)
    (hpre : Cert.Pre_KernelIdeal_finite (hPre_finite := Cert.Pre_finite.Gen.facts) m) (c : Dev Cert.KernelIdeal.nD)
    (hag : m' ((c.tc : Thread Cert.ReferenceIdeal.nD Cert.ReferenceIdeal.τ).loc Cert.ReferenceIdeal.main_arg0) = arg0 m c
      ∧ m' ((c.tc : Thread Cert.ReferenceIdeal.nD Cert.ReferenceIdeal.τ).loc Cert.ReferenceIdeal.main_arg1) = arg1 m c
      ∧ m' ((c.tc : Thread Cert.ReferenceIdeal.nD Cert.ReferenceIdeal.τ).loc Cert.ReferenceIdeal.main_arg2) = arg2 m c) :
    Cert.ReferenceIdeal.Value.res_main_v69 m' c = Cert.KernelIdeal.Value.G6 m c := by
  have h0 := real0 _ _ _ (hpre c).1
  have h1 := real1 _ _ _ (hpre c).2
  rw [Ref.res_eq, hag.1, hag.2.1, hag.2.2]
  funext i
  idx_vars i
  obtain ⟨h, j, rfl⟩ : ∃ (h : Fin 4) (j : Fin 128), i2 = ⟨128 * h.val + j.val, by omega⟩ :=
    ⟨⟨i2.val / 128, by omega⟩, ⟨i2.val % 128, by omega⟩, by ext; simp only; omega⟩
  exact (Ref.result_apply h0 h1 i0 i1 h j).trans (G6_eq m c h0 h1 i0 i1 h j).symm

end MLstm
-- ==== Proof.InSpec.lean ====
module

public import Idealize.ShloMosaic.PureOps.Ideal

@[expose] public section

/-!
What the projections compute, over the extended reals: the modulated rows, their projections, the convolution of
the first columns with its activation, and the gates.
-/

noncomputable section

namespace Inproj

open Idealize.ShloMosaic

/-- The arguments. -/
structure Args where
  /-- the rows of each sequence -/
  X : Fin 8 → Fin 2048 → Fin 1024 → EReal
  /-- the modulation -/
  M : Fin 8 → Fin 6 → Fin 1024 → EReal
  /-- the weights -/
  A : Fin 1024 → Fin 3608 → EReal
  /-- the taps of the convolution -/
  C : Fin 4 → Fin 1024 → EReal
  /-- its bias -/
  B : Fin 1024 → EReal
  /-- the input gates' bias -/
  Bi : Fin 4 → EReal
  /-- the forget gates' bias -/
  Bf : Fin 4 → EReal
  /-- the low rank gate's weights -/
  Ga : Fin 16 → Fin 256 → EReal
  /-- its bias -/
  Gb : Fin 256 → EReal

/-- The log-sigmoid. -/
def lsg (z : EReal) : EReal := min z 0 - Ideal.log (1 + Ideal.exp (0 - max z (-z)))

variable (a : Args)

/-- A modulated row. -/
def uu (b : Fin 8) (s : Fin 2048) (d : Fin 1024) : EReal := a.X b s d * (1 + a.M b 1 d) + a.M b 0 d

/-- A projection. -/
def PP (b : Fin 8) (s : Fin 2048) (c : Fin 3608) : EReal := ∑ d : Fin 1024, uu a b s d * a.A d c

/-- A projection some rows before, zero before the sequence. -/
def pst (k : ℕ) (b : Fin 8) (s : Fin 2048) (j : Fin 1024) : EReal :=
  if s.val < k then 0 else PP a b ⟨s.val - k, by omega⟩ ⟨j.val, by omega⟩

/-- The convolution. -/
def pre (b : Fin 8) (s : Fin 2048) (j : Fin 1024) : EReal :=
  (((a.B j + a.C 3 j * PP a b s ⟨j.val, by omega⟩) + a.C 0 j * pst a 3 b s j) + a.C 1 j * pst a 2 b s j) + a.C 2 j * pst a 1 b s j

/-- Its activation. -/
def act (z : EReal) : EReal := z * Ideal.div 1 (1 + Ideal.exp (0 - z))

/-- The first result. -/
def oa (b : Fin 8) (s : Fin 2048) (c : Fin 3584) : EReal :=
  if h : c.val < 512 then act (pre a b s ⟨c.val, by omega⟩)
  else if h : c.val < 1024 then act (pre a b s ⟨c.val, by omega⟩) * Ideal.ofBits .f32 0x3DB504F3#32
  else if h : c.val < 2048 then PP a b s ⟨c.val, by omega⟩
  else if h : c.val < 2304 then PP a b s ⟨c.val + 8, by omega⟩ * Ideal.ofBits .f32 0x3E000000#32
  else PP a b s ⟨c.val + 8, by omega⟩

/-- The second result. -/
def la (b : Fin 8) (s : Fin 2048) (j : Fin 256) : EReal :=
  lsg ((∑ k : Fin 16, PP a b s ⟨3592 + k.val, by omega⟩ * a.Ga k j) + a.Gb j) * Ideal.ofBits .f32 0x3D800000#32

/-- The third result. -/
def g3 (b : Fin 8) (s : Fin 2048) (g : Fin 16) : EReal :=
  if h : g.val < 4 then PP a b s ⟨2048 + g.val, by omega⟩ + a.Bi ⟨g.val, h⟩
  else if h : g.val < 8 then 0
  else if h : g.val < 12 then lsg (PP a b s ⟨2044 + g.val, by omega⟩ + a.Bf ⟨g.val - 8, by omega⟩)
  else lsg 0

end Inproj
-- ==== Proof.InBody.lean ====
module

public import proofs.«01_k».proof.Proof.Gen.InprojIdeal.Frame

@[expose] public section

/-!
One grid point of the projection kernel: what it reads and the stores of the three cases of its body (the first
point, the first point of a sequence, every other point), which are the same stores of what each case reads.
-/

set_option maxRecDepth 16384
set_option synthInstance.maxSize 4096

noncomputable section

namespace Inproj

open Idealize.ShloMosaic Idealize.SL.Sem Idealize.ShloMosaic.Tactic
open Cert.InprojIdeal Cert.InprojIdeal.Gen

variable {F : FTy → Type} [FloatOps F]

/-- The weights a point loads. -/
structure Wts (F : FTy → Type) where
  /-- the convolved columns -/
  qk : Vec F S1024x1024 .bf16
  /-- the values and output gates -/
  vo : Vec F S1024x1024 .bf16
  /-- the scaled columns of the other layer -/
  gq : Vec F S1024x256 .bf16
  /-- the rest of the other layer -/
  gr : Vec F S1024x1280 .bf16
  /-- the gates -/
  sm : Vec F S1024x128 .bf16

/-- The rows before, loaded from the carried ones: three, two and one before. -/
structure Past (F : FTy → Type) where
  /-- three before -/
  p3 : Vec F S512x1024 .f32
  /-- two before -/
  p2 : Vec F S512x1024 .f32
  /-- one before -/
  p1 : Vec F S512x1024 .f32

/-- Everything a point reads. -/
structure Rd (F : FTy → Type) where
  /-- the rows -/
  x : Vec F S512x1024 .f32
  /-- the modulation -/
  md : Vec F S1x6x1024 .f32
  /-- the first tap -/
  w0 : Vec F S1x1024 .f32
  /-- the second tap -/
  w1 : Vec F S1x1024 .f32
  /-- the third tap -/
  w2 : Vec F S1x1024 .f32
  /-- the last tap -/
  w3 : Vec F S1x1024 .f32
  /-- the convolution's bias -/
  bc : Vec F S1x1024 .f32
  /-- the low rank gate's weights -/
  wa : Vec F S128x256 .bf16
  /-- its bias -/
  ba : Vec F S1x256 .f32
  /-- the input gates' bias -/
  bi : Vec F S8x1 .f32
  /-- the forget gates' bias -/
  bf : Vec F S8x1 .f32
  /-- the weights -/
  W : Wts F
  /-- the rows before -/
  H : Past F

/-- The modulated rows. -/
def uP (R : Rd F) : FVec F S512x1024 .bf16 := k0_pay21 R.md R.x
/-- The rows to convolve. -/
def pP (R : Rd F) : FVec F S512x1024 .f32 := k0_pay22 R.md R.x R.W.qk
/-- The convolved rows. -/
def cP (R : Rd F) : FVec F S512x1024 .f32 := k0_pay25 (pP R) R.bc R.w3 R.w0 R.H.p3 R.w1 R.H.p2 R.w2 R.H.p1

/-- The stores of the first result. -/
def listO (R : Rd F) : List (View.Piece (Elt F) S512x3584 .bf16) :=
  [⟨Rect.unit (s := S512x3584) ![0, 2304] ![512, 1280] inb_S512x3584_S512x1280_0_2304, k0_pay2 (uP R) R.W.gr⟩,
   ⟨Rect.unit (s := S512x3584) ![0, 2048] ![512, 256] inb_S512x3584_S512x256_0_2048, k0_pay1 (uP R) R.W.gq⟩,
   ⟨Rect.unit (s := S512x3584) ![0, 1024] S512x1024.size inb_S512x3584_S512x1024_0_1024, k0_pay39 (uP R) R.W.vo⟩,
   ⟨Rect.unit (s := S512x3584) ![0, 512] S512x512.size inb_S512x3584_S512x512_0_512, k0_pay27 (cP R)⟩,
   ⟨Rect.unit (s := S512x3584) ![0, 0] S512x512.size inb_S512x3584_S512x512_0_0,
     k0_pay26 (pP R) R.bc R.w3 R.w0 R.H.p3 R.w1 R.H.p2 R.w2 R.H.p1⟩]

/-- The store of the second result. -/
def listL (R : Rd F) : List (View.Piece (Elt F) S512x256 .f32) :=
  [⟨Rect.unit (s := S512x256) ![0, 0] S512x256.size inb_S512x256_S512x256_0_0, k0_pay29 (uP R) R.W.sm R.wa R.ba⟩]

/-- The stores of the third result. -/
def listG (R : Rd F) : List (View.Piece (Elt F) S2x16x256 .f32) :=
  [⟨Rect.unit (s := S2x16x256) ![1, 8, 0] S1x8x256.size inb_S2x16x256_S1x8x256_1_8_0, k0_pay38 (k0_pay32 (uP R) R.W.sm) (k0_pay33 R.bf)⟩,
   ⟨Rect.unit (s := S2x16x256) ![1, 0, 0] S1x8x256.size inb_S2x16x256_S1x8x256_1_0_0, k0_pay37 (k0_pay31 (uP R) R.W.sm R.bi)⟩,
   ⟨Rect.unit (s := S2x16x256) ![0, 8, 0] S1x8x256.size inb_S2x16x256_S1x8x256_0_8_0, k0_pay36 (k0_pay32 (uP R) R.W.sm) (k0_pay33 R.bf)⟩,
   ⟨Rect.unit (s := S2x16x256) ![0, 0, 0] S1x8x256.size inb_S2x16x256_S1x8x256_0_0_0, k0_pay35 (k0_pay31 (uP R) R.W.sm R.bi)⟩]

/-- The store of the rows to convolve behind the carried ones. -/
def listP (x : Vec F S512x1024 .f32) (md : Vec F S1x6x1024 .f32) (w : Vec F S1024x1024 .bf16) : List (View.Piece (Elt F) S520x1024 .f32) :=
  [⟨Rect.unit (s := S520x1024) ![8, 0] S512x1024.size inb_S520x1024_S512x1024_8_0, k0_pay23 md x w⟩]
/-- The store of zeroes over the carried rows. -/
def listZ : List (View.Piece (Elt F) S520x1024 .f32) :=
  [⟨Rect.unit (s := S520x1024) ![0, 0] S8x1024.size inb_S520x1024_S8x1024_0_0, k0_pay20⟩]
/-- The store of the rows that are carried on. -/
def listH (R : Rd F) : List (View.Piece (Elt F) S520x1024 .f32) :=
  [⟨Rect.unit (s := S520x1024) ![0, 0] S8x1024.size inb_S520x1024_S8x1024_0_0, k0_pay24 (pP R)⟩]

/-- Reading a rectangle of a buffer's whole contents. -/
abbrev rd {s : Shape} {e : EltTy} {arg : Memref sig .tc .vmem s e} (h : arg.IsWhole) (x : Vec F s e) (r : Rect s) :
    r.shape.Idx → Elt F e := arg.view.readAt (Elt F) r.toLoadRect (h.unread x)

/-- What a point reads, from its input blocks, the weights and the rows before. -/
def reads (arg1 : Memref sig .tc .vmem S512x1024 .f32) (harg1 : arg1.IsWhole) (arg2 : Memref sig .tc .vmem S1x6x1024 .f32) (harg2 : arg2.IsWhole) (arg4 : Memref sig .tc .vmem S4x1024 .f32) (harg4 : arg4.IsWhole) (arg5 : Memref sig .tc .vmem S1x1024 .f32) (harg5 : arg5.IsWhole) (arg6 : Memref sig .tc .vmem S128x256 .bf16) (harg6 : arg6.IsWhole) (arg7 : Memref sig .tc .vmem S1x256 .f32) (harg7 : arg7.IsWhole) (arg8 : Memref sig .tc .vmem S16x1 .f32) (harg8 : arg8.IsWhole) (x0 : Vec F S512x1024 .f32) (x1 : Vec F S1x6x1024 .f32) (x3 : Vec F S4x1024 .f32) (x4 : Vec F S1x1024 .f32) (x5 : Vec F S128x256 .bf16) (x6 : Vec F S1x256 .f32) (x7 : Vec F S16x1 .f32) (W : Wts F) (H : Past F) : Rd F where
  x := rd harg1 x0 (Rect.unit (s := S512x1024) ![0, 0] S512x1024.size inb_S512x1024_S512x1024_0_0)
  md := rd harg2 x1 (Rect.unit (s := S1x6x1024) ![0, 0, 0] S1x6x1024.size inb_S1x6x1024_S1x6x1024_0_0_0)
  w0 := rd harg4 x3 (Rect.unit (s := S4x1024) ![0, 0] S1x1024.size inb_S4x1024_S1x1024_0_0)
  w1 := rd harg4 x3 (Rect.unit (s := S4x1024) ![1, 0] S1x1024.size inb_S4x1024_S1x1024_1_0)
  w2 := rd harg4 x3 (Rect.unit (s := S4x1024) ![2, 0] S1x1024.size inb_S4x1024_S1x1024_2_0)
  w3 := rd harg4 x3 (Rect.unit (s := S4x1024) ![3, 0] S1x1024.size inb_S4x1024_S1x1024_3_0)
  bc := rd harg5 x4 (Rect.unit (s := S1x1024) ![0, 0] S1x1024.size inb_S1x1024_S1x1024_0_0)
  wa := rd harg6 x5 (Rect.unit (s := S128x256) ![0, 0] S128x256.size inb_S128x256_S128x256_0_0)
  ba := rd harg7 x6 (Rect.unit (s := S1x256) ![0, 0] S1x256.size inb_S1x256_S1x256_0_0)
  bi := rd harg8 x7 (Rect.unit (s := S16x1) ![0, 0] S8x1.size inb_S16x1_S8x1_0_0)
  bf := rd harg8 x7 (Rect.unit (s := S16x1) ![8, 0] S8x1.size inb_S16x1_S8x1_8_0)
  W := W
  H := H

/-- The weights a later point loads: the carried ones. -/
def loadsB (arg13 : Memref sig .tc .vmem S1024x3712 .bf16) (harg13 : arg13.IsWhole) (xs1 : Vec F S1024x3712 .bf16) : Wts F where
  qk := rd harg13 xs1 (Rect.unit (s := S1024x3712) ![0, 0] S1024x1024.size inb_S1024x3712_S1024x1024_0_0)
  vo := rd harg13 xs1 (Rect.unit (s := S1024x3712) ![0, 1024] S1024x1024.size inb_S1024x3712_S1024x1024_0_1024)
  gq := rd harg13 xs1 (Rect.unit (s := S1024x3712) ![0, 2048] S1024x256.size inb_S1024x3712_S1024x256_0_2048)
  gr := rd harg13 xs1 (Rect.unit (s := S1024x3712) ![0, 2304] ![1024, 1280] inb_S1024x3712_S1024x1280_0_2304)
  sm := rd harg13 xs1 (Rect.unit (s := S1024x3712) ![0, 3584] S1024x128.size inb_S1024x3712_S1024x128_0_3584)

/-- The weights the first point loads: those it has just stored. -/
def loadsA (c : Dev nD) (arg3 : Memref sig .tc .vmem S1x3608x1024 .f32) (harg3 : arg3.IsWhole) (arg13 : Memref sig .tc .vmem S1024x3712 .bf16) (x2 : Vec F S1x3608x1024 .f32) : Wts F where
  qk := arg13.view.readCov (kernelRun0_A.sl.HS1_15 c arg3 harg3 x2) (Rect.unit (s := S1024x3712) ![0, 0] S1024x1024.size inb_S1024x3712_S1024x1024_0_0).toLoadRect
  vo := arg13.view.readCov (kernelRun0_A.sl.HS1_15 c arg3 harg3 x2) (Rect.unit (s := S1024x3712) ![0, 1024] S1024x1024.size inb_S1024x3712_S1024x1024_0_1024).toLoadRect
  gq := arg13.view.readCov (kernelRun0_A.sl.HS1_15 c arg3 harg3 x2) (Rect.unit (s := S1024x3712) ![0, 2048] S1024x256.size inb_S1024x3712_S1024x256_0_2048).toLoadRect
  gr := arg13.view.readCov (kernelRun0_A.sl.HS1_15 c arg3 harg3 x2) (Rect.unit (s := S1024x3712) ![0, 2304] ![1024, 1280] inb_S1024x3712_S1024x1280_0_2304).toLoadRect
  sm := arg13.view.readCov (kernelRun0_A.sl.HS1_15 c arg3 harg3 x2) (Rect.unit (s := S1024x3712) ![0, 3584] S1024x128.size inb_S1024x3712_S1024x128_0_3584).toLoadRect

/-- The rows before, inside a sequence. -/
def halosB (arg12 : Memref sig .tc .vmem S520x1024 .f32) (harg12 : arg12.IsWhole) (xs0 : Vec F S520x1024 .f32) (L : List (View.Piece (Elt F) S520x1024 .f32)) : Past F where
  p3 := arg12.view.readAt (Elt F) (Rect.unit (s := S520x1024) ![5, 0] S512x1024.size inb_S520x1024_S512x1024_5_0).toLoadRect (arg12.view.writes (Elt F) (harg12.unread xs0) L)
  p2 := arg12.view.readAt (Elt F) (Rect.unit (s := S520x1024) ![6, 0] S512x1024.size inb_S520x1024_S512x1024_6_0).toLoadRect (arg12.view.writes (Elt F) (harg12.unread xs0) L)
  p1 := arg12.view.readAt (Elt F) (Rect.unit (s := S520x1024) ![7, 0] S512x1024.size inb_S520x1024_S512x1024_7_0).toLoadRect (arg12.view.writes (Elt F) (harg12.unread xs0) L)

/-- The rows before, at the first point of a sequence. -/
def halosC (arg12 : Memref sig .tc .vmem S520x1024 .f32) (L : List (View.Piece (Elt F) S520x1024 .f32)) : Past F where
  p3 := arg12.view.readCov L (Rect.unit (s := S520x1024) ![5, 0] S512x1024.size inb_S520x1024_S512x1024_5_0).toLoadRect
  p2 := arg12.view.readCov L (Rect.unit (s := S520x1024) ![6, 0] S512x1024.size inb_S520x1024_S512x1024_6_0).toLoadRect
  p1 := arg12.view.readCov L (Rect.unit (s := S520x1024) ![7, 0] S512x1024.size inb_S520x1024_S512x1024_7_0).toLoadRect

/-- The stores of the rows to convolve, from a point's blocks and weights. -/
def storesP (arg1 : Memref sig .tc .vmem S512x1024 .f32) (harg1 : arg1.IsWhole) (arg2 : Memref sig .tc .vmem S1x6x1024 .f32) (harg2 : arg2.IsWhole) (x0 : Vec F S512x1024 .f32) (x1 : Vec F S1x6x1024 .f32) (W : Wts F) : List (View.Piece (Elt F) S520x1024 .f32) :=
  listP (rd harg1 x0 (Rect.unit (s := S512x1024) ![0, 0] S512x1024.size inb_S512x1024_S512x1024_0_0)) (rd harg2 x1 (Rect.unit (s := S1x6x1024) ![0, 0, 0] S1x6x1024.size inb_S1x6x1024_S1x6x1024_0_0_0)) W.qk

variable (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x3608x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S128x256 .bf16) (harg6 : arg6.IsWhole) (arg7 : Memref sig .tc .vmem S1x256 .f32) (harg7 : arg7.IsWhole) (arg8 : Memref sig .tc .vmem S16x1 .f32) (harg8 : arg8.IsWhole) (arg9 : Memref sig .tc .vmem S512x3584 .bf16) (harg9 : arg9.IsWhole) (arg10 : Memref sig .tc .vmem S512x256 .f32) (harg10 : arg10.IsWhole) (arg11 : Memref sig .tc .vmem S2x16x256 .f32) (harg11 : arg11.IsWhole) (arg12 : Memref sig .tc .vmem S520x1024 .f32) (harg12 : arg12.IsWhole) (arg13 : Memref sig .tc .vmem S1024x3712 .bf16) (harg13 : arg13.IsWhole)
  (x0 : Vec F S512x1024 .f32) (x1 : Vec F S1x6x1024 .f32) (x2 : Vec F S1x3608x1024 .f32) (x3 : Vec F S4x1024 .f32) (x4 : Vec F S1x1024 .f32) (x5 : Vec F S128x256 .bf16) (x6 : Vec F S1x256 .f32) (x7 : Vec F S16x1 .f32)

/-- The first result's stores. -/
theorem listO_B (xs0 : Vec F S520x1024 .f32) (xs1 : Vec F S1024x3712 .bf16) (hc0 : ¬cond0_0 i) (hc1 : ¬cond0_1 i) : (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).1 = listO (reads arg1 harg1 arg2 harg2 arg4 harg4 arg5 harg5 arg6 harg6 arg7 harg7 arg8 harg8 x0 x1 x3 x4 x5 x6 x7 (loadsB arg13 harg13 xs1) (halosB arg12 harg12 xs0 (storesP arg1 harg1 arg2 harg2 x0 x1 (loadsB arg13 harg13 xs1)))) := by
  sl_kernel_rfl

/-- The second result's store. -/
theorem listL_B (xs0 : Vec F S520x1024 .f32) (xs1 : Vec F S1024x3712 .bf16) (hc0 : ¬cond0_0 i) (hc1 : ¬cond0_1 i) : (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.1 = listL (reads arg1 harg1 arg2 harg2 arg4 harg4 arg5 harg5 arg6 harg6 arg7 harg7 arg8 harg8 x0 x1 x3 x4 x5 x6 x7 (loadsB arg13 harg13 xs1) (halosB arg12 harg12 xs0 (storesP arg1 harg1 arg2 harg2 x0 x1 (loadsB arg13 harg13 xs1)))) := by
  sl_kernel_rfl

/-- The third result's stores. -/
theorem listG_B (xs0 : Vec F S520x1024 .f32) (xs1 : Vec F S1024x3712 .bf16) (hc0 : ¬cond0_0 i) (hc1 : ¬cond0_1 i) : (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.1 = listG (reads arg1 harg1 arg2 harg2 arg4 harg4 arg5 harg5 arg6 harg6 arg7 harg7 arg8 harg8 x0 x1 x3 x4 x5 x6 x7 (loadsB arg13 harg13 xs1) (halosB arg12 harg12 xs0 (storesP arg1 harg1 arg2 harg2 x0 x1 (loadsB arg13 harg13 xs1)))) := by
  sl_kernel_rfl

/-- The carried rows' stores. -/
theorem listH_B (xs0 : Vec F S520x1024 .f32) (xs1 : Vec F S1024x3712 .bf16) (hc0 : ¬cond0_0 i) (hc1 : ¬cond0_1 i) : (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1).2.2.2.1 = listH (reads arg1 harg1 arg2 harg2 arg4 harg4 arg5 harg5 arg6 harg6 arg7 harg7 arg8 harg8 x0 x1 x3 x4 x5 x6 x7 (loadsB arg13 harg13 xs1) (halosB arg12 harg12 xs0 (storesP arg1 harg1 arg2 harg2 x0 x1 (loadsB arg13 harg13 xs1)))) ++ (storesP arg1 harg1 arg2 harg2 x0 x1 (loadsB arg13 harg13 xs1)) := by
  sl_kernel_rfl

/-- The first result's stores. -/
theorem listO_C (xs1 : Vec F S1024x3712 .bf16) (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).1 = listO (reads arg1 harg1 arg2 harg2 arg4 harg4 arg5 harg5 arg6 harg6 arg7 harg7 arg8 harg8 x0 x1 x3 x4 x5 x6 x7 (loadsB arg13 harg13 xs1) (halosC arg12 ((storesP arg1 harg1 arg2 harg2 x0 x1 (loadsB arg13 harg13 xs1)) ++ listZ))) := by
  sl_kernel_rfl

/-- The second result's store. -/
theorem listL_C (xs1 : Vec F S1024x3712 .bf16) (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).2.1 = listL (reads arg1 harg1 arg2 harg2 arg4 harg4 arg5 harg5 arg6 harg6 arg7 harg7 arg8 harg8 x0 x1 x3 x4 x5 x6 x7 (loadsB arg13 harg13 xs1) (halosC arg12 ((storesP arg1 harg1 arg2 harg2 x0 x1 (loadsB arg13 harg13 xs1)) ++ listZ))) := by
  sl_kernel_rfl

/-- The third result's stores. -/
theorem listG_C (xs1 : Vec F S1024x3712 .bf16) (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).2.2.1 = listG (reads arg1 harg1 arg2 harg2 arg4 harg4 arg5 harg5 arg6 harg6 arg7 harg7 arg8 harg8 x0 x1 x3 x4 x5 x6 x7 (loadsB arg13 harg13 xs1) (halosC arg12 ((storesP arg1 harg1 arg2 harg2 x0 x1 (loadsB arg13 harg13 xs1)) ++ listZ))) := by
  sl_kernel_rfl

/-- The carried rows' stores. -/
theorem listH_C (xs1 : Vec F S1024x3712 .bf16) (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1).2.2.2.1 = listH (reads arg1 harg1 arg2 harg2 arg4 harg4 arg5 harg5 arg6 harg6 arg7 harg7 arg8 harg8 x0 x1 x3 x4 x5 x6 x7 (loadsB arg13 harg13 xs1) (halosC arg12 ((storesP arg1 harg1 arg2 harg2 x0 x1 (loadsB arg13 harg13 xs1)) ++ listZ))) ++ ((storesP arg1 harg1 arg2 harg2 x0 x1 (loadsB arg13 harg13 xs1)) ++ listZ) := by
  sl_kernel_rfl

/-- The first result's stores. -/
theorem listO_A  (hc0 : cond0_0 i) (hc1 : cond0_1 i) : (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 ).1 = listO (reads arg1 harg1 arg2 harg2 arg4 harg4 arg5 harg5 arg6 harg6 arg7 harg7 arg8 harg8 x0 x1 x3 x4 x5 x6 x7 (loadsA c arg3 harg3 arg13 x2) (halosC arg12 ((storesP arg1 harg1 arg2 harg2 x0 x1 (loadsA c arg3 harg3 arg13 x2)) ++ listZ))) := by
  sl_kernel_rfl

/-- The second result's store. -/
theorem listL_A  (hc0 : cond0_0 i) (hc1 : cond0_1 i) : (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 ).2.1 = listL (reads arg1 harg1 arg2 harg2 arg4 harg4 arg5 harg5 arg6 harg6 arg7 harg7 arg8 harg8 x0 x1 x3 x4 x5 x6 x7 (loadsA c arg3 harg3 arg13 x2) (halosC arg12 ((storesP arg1 harg1 arg2 harg2 x0 x1 (loadsA c arg3 harg3 arg13 x2)) ++ listZ))) := by
  sl_kernel_rfl

/-- The third result's stores. -/
theorem listG_A  (hc0 : cond0_0 i) (hc1 : cond0_1 i) : (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 ).2.2.1 = listG (reads arg1 harg1 arg2 harg2 arg4 harg4 arg5 harg5 arg6 harg6 arg7 harg7 arg8 harg8 x0 x1 x3 x4 x5 x6 x7 (loadsA c arg3 harg3 arg13 x2) (halosC arg12 ((storesP arg1 harg1 arg2 harg2 x0 x1 (loadsA c arg3 harg3 arg13 x2)) ++ listZ))) := by
  sl_kernel_rfl

/-- The carried rows' stores. -/
theorem listH_A  (hc0 : cond0_0 i) (hc1 : cond0_1 i) : (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 ).2.2.2.1 = listH (reads arg1 harg1 arg2 harg2 arg4 harg4 arg5 harg5 arg6 harg6 arg7 harg7 arg8 harg8 x0 x1 x3 x4 x5 x6 x7 (loadsA c arg3 harg3 arg13 x2) (halosC arg12 ((storesP arg1 harg1 arg2 harg2 x0 x1 (loadsA c arg3 harg3 arg13 x2)) ++ listZ))) ++ ((storesP arg1 harg1 arg2 harg2 x0 x1 (loadsA c arg3 harg3 arg13 x2)) ++ listZ) := by
  sl_kernel_rfl

/-- The weights' stores. -/
theorem listW_A (hc0 : cond0_0 i) (hc1 : cond0_1 i) : (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.2.2.1 = kernelRun0_A.sl.HS1_15 c arg3 harg3 x2 := by
  sl_kernel_rfl

end Inproj
-- ==== Proof.InMath.lean ====
module

public import proofs.«01_k».proof.Proof.InSpec
public import proofs.«01_k».proof.Proof.InBody
public import Idealize.ShloMosaic.Lib.Pointwise
public import Idealize.ShloMosaic.PureOps.Ideal

@[expose] public section

/-!
What one grid point of the projection kernel stores, over the extended reals, in terms of what it reads.
-/

set_option maxRecDepth 16384

noncomputable section

namespace Inproj

open Idealize.ShloMosaic Idealize.SL.Sem Idealize.ShloMosaic.Tactic
open Cert.InprojIdeal Cert.InprojIdeal.Gen

/-- The small columns: the gates' weights with gaps, then the low rank gate's, then zeroes. -/
def small (a : Args) (d : Fin 1024) (k : Fin 128) : EReal :=
  if h : k.val < 4 then a.A d ⟨2048 + k.val, by omega⟩
  else if h : k.val < 8 then 0
  else if h : k.val < 12 then a.A d ⟨2044 + k.val, by omega⟩
  else if h : k.val < 16 then 0
  else if h : k.val < 32 then a.A d ⟨3576 + k.val, by omega⟩
  else 0

/-- The transposed weights as they are kept: the gates' columns taken out and put at the end. -/
def WW (a : Args) (d : Fin 1024) (k : Fin 3712) : EReal :=
  if h : k.val < 2048 then a.A d ⟨k.val, by omega⟩
  else if h : k.val < 3584 then a.A d ⟨8 + k.val, by omega⟩
  else small a d ⟨k.val - 3584, by omega⟩

/-- The weights a point loads are the kept ones. -/
structure HoldsW (a : Args) (W : Wts Ideal) : Prop where
  /-- the convolved columns -/
  qk : ∀ d j, W.qk (ix2 d j) = WW a d ⟨j.val, by omega⟩
  /-- the values and output gates -/
  vo : ∀ d j, W.vo (ix2 d j) = WW a d ⟨1024 + j.val, by omega⟩
  /-- the scaled columns -/
  gq : ∀ d j, W.gq (ix2 d j) = WW a d ⟨2048 + j.val, by omega⟩
  /-- the other layer's columns -/
  gr : ∀ d j, W.gr (ix2 d j) = WW a d ⟨2304 + j.val, by omega⟩
  /-- the small columns -/
  sm : ∀ d j, W.sm (ix2 d j) = WW a d ⟨3584 + j.val, by omega⟩

/-- What a point of a sequence reads. -/
structure Holds (a : Args) (b : Fin 8) (q : Fin 4) (R : Rd Ideal) : Prop where
  /-- the rows -/
  x : ∀ r d, R.x (ix2 r d) = a.X b ⟨512 * q.val + r.val, by omega⟩ d
  /-- the modulation -/
  md : ∀ k d, R.md (ix3 0 k d) = a.M b k d
  /-- the taps -/
  w0 : ∀ j, R.w0 (ix2 0 j) = a.C 0 j
  /-- the taps -/
  w1 : ∀ j, R.w1 (ix2 0 j) = a.C 1 j
  /-- the taps -/
  w2 : ∀ j, R.w2 (ix2 0 j) = a.C 2 j
  /-- the taps -/
  w3 : ∀ j, R.w3 (ix2 0 j) = a.C 3 j
  /-- the convolution's bias -/
  bc : ∀ j, R.bc (ix2 0 j) = a.B j
  /-- the low rank gate's weights, between zero rows -/
  wa : ∀ k j, R.wa (ix2 k j) = if h : 16 ≤ k.val ∧ k.val < 32 then a.Ga ⟨k.val - 16, by omega⟩ j else 0
  /-- its bias -/
  ba : ∀ j, R.ba (ix2 0 j) = a.Gb j
  /-- the input gates' bias -/
  bi : ∀ k, R.bi (ix2 k 0) = if h : k.val < 4 then a.Bi ⟨k.val, h⟩ else 0
  /-- the forget gates' bias -/
  bf : ∀ k, R.bf (ix2 k 0) = if h : k.val < 4 then a.Bf ⟨k.val, h⟩ else 0
  /-- the weights -/
  W : HoldsW a R.W
  /-- three rows before -/
  p3 : ∀ r j, R.H.p3 (ix2 r j) = pst a 3 b ⟨512 * q.val + r.val, by omega⟩ j
  /-- two rows before -/
  p2 : ∀ r j, R.H.p2 (ix2 r j) = pst a 2 b ⟨512 * q.val + r.val, by omega⟩ j
  /-- one row before -/
  p1 : ∀ r j, R.H.p1 (ix2 r j) = pst a 1 b ⟨512 * q.val + r.val, by omega⟩ j

/-- Columns of zeroes project to zero. -/
theorem zero_col {n : ℕ} (f : Fin n → EReal) : (∑ d, f d * (0 : EReal)) = 0 := by
  simp only [mul_zero, Finset.sum_const_zero]

variable {a : Args} {b : Fin 8} {q : Fin 4} {R : Rd Ideal}

/-- A row of the point as a position of its sequence. -/
abbrev at_ (q : Fin 4) (r : Fin 512) : Fin 2048 := ⟨512 * q.val + r.val, by omega⟩

/-- The modulated rows, given only what they are made of. -/
theorem pay21_apply (md : Vec Ideal S1x6x1024 .f32) (x : Vec Ideal S512x1024 .f32)
    (hx : ∀ r d, x (ix2 r d) = a.X b (at_ q r) d) (hm : ∀ k d, md (ix3 0 k d) = a.M b k d) (r : Fin 512) (d : Fin 1024) :
    k0_pay21 md x (ix2 r d) = uu a b (at_ q r) d := by
  unfold uu
  rw [← hx, ← hm, ← hm]
  pointwise [k0_pay21]

/-- The rows to convolve, given only what they are made of. -/
theorem pay22_apply (md : Vec Ideal S1x6x1024 .f32) (x : Vec Ideal S512x1024 .f32) (w : Vec Ideal S1024x1024 .bf16)
    (hx : ∀ r d, x (ix2 r d) = a.X b (at_ q r) d) (hm : ∀ k d, md (ix3 0 k d) = a.M b k d)
    (hw : ∀ d j, w (ix2 d j) = WW a d ⟨j.val, by omega⟩) (r : Fin 512) (j : Fin 1024) :
    k0_pay22 md x w (ix2 r j) = PP a b (at_ q r) ⟨j.val, by omega⟩ := by
  unfold PP
  refine Eq.trans ?_ (Finset.sum_congr rfl fun d _ => congrArg₂ (· * ·) (pay21_apply md x hx hm r d) ((hw d j).trans ?_))
  · pointwise [k0_pay22]
  · unfold WW
    rw [dif_pos (by show j.val < 2048; omega)]

/-- The modulated rows. -/
theorem uP_apply (h : Holds a b q R) (r : Fin 512) (d : Fin 1024) : uP R (ix2 r d) = uu a b (at_ q r) d :=
  pay21_apply _ _ h.x h.md r d

/-- The rows to convolve. -/
theorem pP_apply (h : Holds a b q R) (r : Fin 512) (j : Fin 1024) : pP R (ix2 r j) = PP a b (at_ q r) ⟨j.val, by omega⟩ :=
  pay22_apply _ _ _ h.x h.md h.W.qk r j

/-- The convolved rows. -/
theorem cP_apply (h : Holds a b q R) (r : Fin 512) (j : Fin 1024) : cP R (ix2 r j) = act (pre a b (at_ q r) j) := by
  unfold pre act
  rw [← pP_apply h, ← h.p3, ← h.p2, ← h.p1, ← h.w0, ← h.w1, ← h.w2, ← h.w3, ← h.bc]
  unfold cP
  generalize pP R = P
  pointwise [k0_pay25]

/-- The values and output gates. -/
theorem vo_apply (h : Holds a b q R) (r : Fin 512) (j : Fin 1024) : k0_pay39 (uP R) R.W.vo (ix2 r j) = PP a b (at_ q r) ⟨1024 + j.val, by omega⟩ := by
  unfold PP
  refine Eq.trans ?_ (Finset.sum_congr rfl fun d _ => congrArg₂ (· * ·) (uP_apply h r d) ((h.W.vo d j).trans ?_))
  · generalize uP R = U
    pointwise [k0_pay39]
  · unfold WW
    rw [dif_pos (by show 1024 + j.val < 2048; omega)]

/-- The scaled columns. -/
theorem gq_apply (h : Holds a b q R) (r : Fin 512) (j : Fin 256) :
    k0_pay1 (uP R) R.W.gq (ix2 r j) = PP a b (at_ q r) ⟨2056 + j.val, by omega⟩ * Ideal.ofBits .f32 0x3E000000#32 := by
  unfold PP
  refine Eq.trans ?_ (congrArg (· * Ideal.ofBits .f32 0x3E000000#32) (Finset.sum_congr rfl fun d _ => congrArg₂ (· * ·) (uP_apply h r d) ((h.W.gq d j).trans ?_)))
  · generalize uP R = U
    pointwise [k0_pay1]
  · unfold WW
    rw [dif_neg (by show ¬(2048 + j.val < 2048); omega), dif_pos (by show 2048 + j.val < 3584; omega)]
    exact congrArg (a.A d) (Fin.ext (by show 8 + (2048 + j.val) = 2056 + j.val; omega))

/-- The other layer's columns. -/
theorem gr_apply (h : Holds a b q R) (r : Fin 512) (j : Fin 1280) :
    k0_pay2 (uP R) R.W.gr (ix2 r j) = PP a b (at_ q r) ⟨2312 + j.val, by omega⟩ := by
  unfold PP
  refine Eq.trans ?_ (Finset.sum_congr rfl fun d _ => congrArg₂ (· * ·) (uP_apply h r d) ((h.W.gr d j).trans ?_))
  · generalize uP R = U
    pointwise [k0_pay2]
  · unfold WW
    rw [dif_neg (by show ¬(2304 + j.val < 2048); omega), dif_pos (by show 2304 + j.val < 3584; omega)]
    exact congrArg (a.A d) (Fin.ext (by show 8 + (2304 + j.val) = 2312 + j.val; omega))

/-- The small columns. -/
theorem sm_apply (h : Holds a b q R) (r : Fin 512) (k : Fin 128) :
    k0_pay28 (uP R) R.W.sm (ix2 r k) = ∑ d : Fin 1024, uu a b (at_ q r) d * small a d k := by
  refine Eq.trans ?_ (Finset.sum_congr rfl fun d _ => congrArg₂ (· * ·) (uP_apply h r d) ((h.W.sm d k).trans ?_))
  · generalize uP R = U
    pointwise [k0_pay28]
  · unfold WW
    rw [dif_neg (by show ¬(3584 + k.val < 2048); omega), dif_neg (by show ¬(3584 + k.val < 3584); omega)]
    exact congrArg (small a d) (Fin.ext (by show 3584 + k.val - 3584 = k.val; omega))

/-- The input gates' columns, then zeroes. -/
theorem sm_i (h : Holds a b q R) (r : Fin 512) (k : Fin 8) : k0_pay28 (uP R) R.W.sm (ix2 r ⟨k.val, by omega⟩)
    = if h : k.val < 4 then PP a b (at_ q r) ⟨2048 + k.val, by omega⟩ else 0 := by
  rw [sm_apply h]
  unfold small PP
  by_cases h1 : k.val < 4
  · simp only [dif_pos h1]
  · simp only [dif_neg h1, dif_pos k.isLt, zero_col]

/-- The forget gates' columns, then zeroes. -/
theorem sm_f (h : Holds a b q R) (r : Fin 512) (k : Fin 8) : k0_pay28 (uP R) R.W.sm (ix2 r ⟨8 + k.val, by omega⟩)
    = if h : k.val < 4 then PP a b (at_ q r) ⟨2052 + k.val, by omega⟩ else 0 := by
  rw [sm_apply h]
  unfold small PP
  simp only [dif_neg (by omega : ¬8 + k.val < 4), dif_neg (by omega : ¬8 + k.val < 8)]
  by_cases h1 : k.val < 4
  · simp only [dif_pos h1, dif_pos (by omega : 8 + k.val < 12)]
    refine Finset.sum_congr rfl fun d _ => congrArg (uu a b (at_ q r) d * a.A d ·) (Fin.ext ?_)
    show 2044 + (8 + k.val) = 2052 + k.val
    omega
  · simp only [dif_neg h1, dif_neg (by omega : ¬8 + k.val < 12), dif_pos (by omega : 8 + k.val < 16), zero_col]

/-- The low rank gate's columns. -/
theorem sm_a (h : Holds a b q R) (r : Fin 512) (k : Fin 16) : k0_pay28 (uP R) R.W.sm (ix2 r ⟨16 + k.val, by omega⟩)
    = PP a b (at_ q r) ⟨3592 + k.val, by omega⟩ := by
  rw [sm_apply h]
  unfold small PP
  simp only [dif_neg (by omega : ¬16 + k.val < 4), dif_neg (by omega : ¬16 + k.val < 8), dif_neg (by omega : ¬16 + k.val < 12),
    dif_neg (by omega : ¬16 + k.val < 16), dif_pos (by omega : 16 + k.val < 32)]
  refine Finset.sum_congr rfl fun d _ => congrArg (uu a b (at_ q r) d * a.A d ·) (Fin.ext ?_)
  show 3576 + (16 + k.val) = 3592 + k.val
  omega

/-- A sum over the 128 rows of which only sixteen are not zero. -/
theorem sum16 (f : Fin 128 → EReal) (g : Fin 16 → EReal) :
    (∑ k : Fin 128, f k * (if h : 16 ≤ k.val ∧ k.val < 32 then g ⟨k.val - 16, by omega⟩ else 0))
      = ∑ k : Fin 16, f ⟨16 + k.val, by omega⟩ * g k := by
  symm
  refine Finset.sum_of_injOn (fun k : Fin 16 => (⟨16 + k.val, by omega⟩ : Fin 128)) ?_ (fun _ _ => Finset.mem_coe.2 (Finset.mem_univ _)) ?_ ?_
  · intro x _ y _ e
    have := congrArg Fin.val e
    exact Fin.ext (by simp only at this; omega)
  · intro k _ hk
    rw [dif_neg, mul_zero]
    intro h
    exact hk ⟨⟨k.val - 16, by omega⟩, by simp, Fin.ext (by simp only; omega)⟩
  · intro k _
    rw [dif_pos (by simp only; omega)]
    exact congrArg (f _ * g ·) (Fin.ext (by simp only; omega))

/-- The low rank gate. -/
theorem la_apply (h : Holds a b q R) (r : Fin 512) (j : Fin 256) : k0_pay29 (uP R) R.W.sm R.wa R.ba (ix2 r j) = la a b (at_ q r) j := by
  unfold la lsg
  have e : (∑ k : Fin 16, PP a b (at_ q r) ⟨3592 + k.val, by omega⟩ * a.Ga k j) = ∑ k : Fin 128, k0_pay28 (uP R) R.W.sm (ix2 r k) * R.wa (ix2 k j) := by
    simp only [h.wa, ← sm_a h]
    exact (sum16 (fun k => k0_pay28 (uP R) R.W.sm (ix2 r k)) (fun k => a.Ga k j)).symm
  rw [e, ← h.ba]
  unfold k0_pay29
  generalize k0_pay28 (uP R) R.W.sm = S
  pointwise []
  rfl

/-- The input gates. -/
theorem gi_apply (h : Holds a b q R) (k : Fin 8) (r : Fin 512) :
    k0_pay31 (uP R) R.W.sm R.bi (ix2 k r) = g3 a b (at_ q r) ⟨k.val, by omega⟩ := by
  have e : k0_pay31 (uP R) R.W.sm R.bi (ix2 k r) = k0_pay28 (uP R) R.W.sm (ix2 r ⟨k.val, by omega⟩) + R.bi (ix2 k 0) := by
    unfold k0_pay31 k0_pay30
    generalize k0_pay28 (uP R) R.W.sm = S
    pointwise []
  rw [e, sm_i h, h.bi]
  unfold g3
  by_cases h1 : k.val < 4
  · simp only [dif_pos h1]
  · simp only [dif_neg h1, dif_pos k.isLt, add_zero]

/-- The forget gates. -/
theorem gf_apply (h : Holds a b q R) (k : Fin 8) (r : Fin 512) :
    k0_pay34 (k0_pay32 (uP R) R.W.sm) (k0_pay33 R.bf) (ix2 k r) = g3 a b (at_ q r) ⟨8 + k.val, by omega⟩ := by
  have e : k0_pay34 (k0_pay32 (uP R) R.W.sm) (k0_pay33 R.bf) (ix2 k r) = lsg (k0_pay28 (uP R) R.W.sm (ix2 r ⟨8 + k.val, by omega⟩) + R.bf (ix2 k 0)) := by
    unfold k0_pay34 k0_pay32 k0_pay33 k0_pay30 lsg
    generalize k0_pay28 (uP R) R.W.sm = S
    pointwise []
    rfl
  rw [e, sm_f h, h.bf]
  unfold g3
  simp only [dif_neg (by omega : ¬8 + k.val < 4), dif_neg (by omega : ¬8 + k.val < 8)]
  by_cases h1 : k.val < 4
  · simp only [dif_pos h1, dif_pos (by omega : 8 + k.val < 12)]
    refine congrArg lsg (congrArg₂ (· + ·) (congrArg _ (Fin.ext ?_)) (congrArg _ (Fin.ext ?_)))
    · show 2052 + k.val = 2044 + (8 + k.val)
      omega
    · show k.val = 8 + k.val - 8
      omega
  · simp only [dif_neg h1, dif_neg (by omega : ¬8 + k.val < 12), add_zero]

end Inproj
-- ==== Proof.InStores.lean ====
module

public import proofs.«01_k».proof.Proof.InMath
public import Idealize.ShloMosaic.Lib.Pipeline.FrameBody
public import Idealize.ShloMosaic.Lib.Pipeline.ReadBack
public import Idealize.ShloMosaic.Lib.WholeRead
public import Idealize.ShloMosaic.Lib.WritesUnit

@[expose] public section

/-!
What the stores of one grid point of the projection kernel leave, entry by entry.
-/

set_option maxRecDepth 16384

noncomputable section

namespace Inproj

open Idealize.ShloMosaic Idealize.SL.Sem Idealize.ShloMosaic.Tactic
open Cert.InprojIdeal Cert.InprojIdeal.Gen

/-- Under the last store's rectangle lies what it stored. -/
theorem canon_hit {s : Shape} {e : EltTy} {Val : EltTy → Type} [∀ e, Nonempty (Val e)] (r : Rect s) (w : r.shape.Idx → Val e)
    (L : List (View.Piece Val s e)) (y : s.Idx) (x : r.shape.Idx) (h : y = r.emb x) : View.canon (⟨r, w⟩ :: L) y = w x := by
  rw [h]; exact View.canon_cons_emb r w L x

/-- Off it, on some axis, lies what the earlier stores left. -/
theorem canon_miss {s : Shape} {e : EltTy} {Val : EltTy → Type} [∀ e, Nonempty (Val e)] (off size : Fin s.rank → ℕ) (inb : ∀ a, off a + size a ≤ s.size a)
    (w : (Rect.unit off size inb).shape.Idx → Val e)
    (L : List (View.Piece Val s e)) (y : s.Idx) (a : Fin s.rank) (h : (y a).val < off a ∨ off a + size a ≤ (y a).val) :
    View.canon ((⟨Rect.unit off size inb, w⟩ : View.Piece Val s e) :: L) y = View.canon L y := by
  refine View.canon_cons_of_not_mem _ _ ?_
  rw [Rect.mem_set_unit]
  intro hall
  have := hall a
  omega

variable {a : Args} {b : Fin 8} {q : Fin 4} {R : Rd Ideal}

/-- The first result's stores. -/
theorem canonO (h : Holds a b q R) (r : Fin 512) (c : Fin 3584) : View.canon (listO R) (ix2 r c) = oa a b (at_ q r) c := by
  unfold listO oa
  by_cases h1 : c.val < 512
  · rw [dif_pos h1, canon_miss _ _ _ _ _ _ 1 (Or.inl (by show c.val < 2304; omega)), canon_miss _ _ _ _ _ _ 1 (Or.inl (by show c.val < 2048; omega)),
      canon_miss _ _ _ _ _ _ 1 (Or.inl (by show c.val < 1024; omega)), canon_miss _ _ _ _ _ _ 1 (Or.inl (by show c.val < 512; omega)),
      canon_hit _ _ _ _ (ix2 r ⟨c.val, h1⟩) (by idx_ext)]
    refine Eq.trans ?_ (cP_apply h r ⟨c.val, by omega⟩)
    pointwise [k0_pay26]
    rfl
  rw [dif_neg h1]
  by_cases h2 : c.val < 1024
  · rw [dif_pos h2, canon_miss _ _ _ _ _ _ 1 (Or.inl (by show c.val < 2304; omega)), canon_miss _ _ _ _ _ _ 1 (Or.inl (by show c.val < 2048; omega)),
      canon_miss _ _ _ _ _ _ 1 (Or.inl (by show c.val < 1024; omega)),
      canon_hit _ _ _ _ (ix2 r ⟨c.val - 512, by omega⟩) (by idx_ext)]
    refine Eq.trans ?_ (congrArg (· * Ideal.ofBits .f32 0x3DB504F3#32) (cP_apply h r ⟨c.val, by omega⟩))
    generalize cP R = C
    pointwise [k0_pay27]
    exact congrArg (fun i => C i * _) (by idx_ext)
  rw [dif_neg h2]
  by_cases h3 : c.val < 2048
  · rw [dif_pos h3, canon_miss _ _ _ _ _ _ 1 (Or.inl (by show c.val < 2304; omega)), canon_miss _ _ _ _ _ _ 1 (Or.inl (by show c.val < 2048; omega)),
      canon_hit _ _ _ _ (ix2 r ⟨c.val - 1024, by omega⟩) (by idx_ext), vo_apply h]
    exact congrArg (PP a b _) (Fin.ext (by show 1024 + (c.val - 1024) = c.val; omega))
  rw [dif_neg h3]
  by_cases h4 : c.val < 2304
  · rw [dif_pos h4, canon_miss _ _ _ _ _ _ 1 (Or.inl (by show c.val < 2304; omega)),
      canon_hit _ _ _ _ (ix2 r ⟨c.val - 2048, by omega⟩) (by idx_ext), gq_apply h]
    exact congrArg (PP a b _ · * _) (Fin.ext (by show 2056 + (c.val - 2048) = c.val + 8; omega))
  rw [dif_neg h4, canon_hit _ _ _ _ (ix2 r ⟨c.val - 2304, by omega⟩) (by idx_ext), gr_apply h]
  exact congrArg (PP a b _) (Fin.ext (by show 2312 + (c.val - 2304) = c.val + 8; omega))

/-- The second result's store. -/
theorem canonL (h : Holds a b q R) (r : Fin 512) (j : Fin 256) : View.canon (listL R) (ix2 r j) = la a b (at_ q r) j := by
  unfold listL
  rw [canon_hit _ _ _ _ (ix2 r j) (by idx_ext), la_apply h]

/-- The third result's stores. -/
theorem canonG (h : Holds a b q R) (k : Fin 2) (g : Fin 16) (r : Fin 256) :
    View.canon (listG R) (ix3 k g r) = g3 a b (at_ q ⟨256 * k.val + r.val, by omega⟩) g := by
  unfold listG
  by_cases hk : k.val = 0
  · rw [canon_miss _ _ _ _ _ _ 0 (Or.inl (by show k.val < 1; omega)), canon_miss _ _ _ _ _ _ 0 (Or.inl (by show k.val < 1; omega))]
    by_cases hg : g.val < 8
    · rw [canon_miss _ _ _ _ _ _ 1 (Or.inl (by show g.val < 8; omega)), canon_hit _ _ _ _ (ix3 0 ⟨g.val, hg⟩ r) (by idx_ext)]
      refine Eq.trans ?_ (gi_apply h ⟨g.val, hg⟩ ⟨256 * k.val + r.val, by omega⟩)
      generalize k0_pay31 (uP R) R.W.sm R.bi = S
      pointwise [k0_pay35]
      exact congrArg S (by idx_ext)
    · rw [canon_hit _ _ _ _ (ix3 0 ⟨g.val - 8, by omega⟩ r) (by idx_ext)]
      refine Eq.trans ?_ ((gf_apply h ⟨g.val - 8, by omega⟩ ⟨256 * k.val + r.val, by omega⟩).trans (congrArg _ (Fin.ext (by show 8 + (g.val - 8) = g.val; omega))))
      unfold k0_pay36
      generalize k0_pay34 (k0_pay32 (uP R) R.W.sm) (k0_pay33 R.bf) = S
      pointwise []
      exact congrArg S (by idx_ext)
  · by_cases hg : g.val < 8
    · rw [canon_miss _ _ _ _ _ _ 1 (Or.inl (by show g.val < 8; omega)), canon_hit _ _ _ _ (ix3 0 ⟨g.val, hg⟩ r) (by idx_ext)]
      refine Eq.trans ?_ (gi_apply h ⟨g.val, hg⟩ ⟨256 * k.val + r.val, by omega⟩)
      generalize k0_pay31 (uP R) R.W.sm R.bi = S
      pointwise [k0_pay37]
      exact congrArg S (by idx_ext)
    · rw [canon_hit _ _ _ _ (ix3 0 ⟨g.val - 8, by omega⟩ r) (by idx_ext)]
      refine Eq.trans ?_ ((gf_apply h ⟨g.val - 8, by omega⟩ ⟨256 * k.val + r.val, by omega⟩).trans (congrArg _ (Fin.ext (by show 8 + (g.val - 8) = g.val; omega))))
      unfold k0_pay38
      generalize k0_pay34 (k0_pay32 (uP R) R.W.sm) (k0_pay33 R.bf) = S
      pointwise []
      exact congrArg S (by idx_ext)

/-- The rows that are carried on. -/
theorem canonH (h : Holds a b q R) (T : List (View.Piece (Elt Ideal) S520x1024 .f32)) (x : Fin 8) (j : Fin 1024) :
    View.canon (listH R ++ T) (ix2 ⟨x.val, by omega⟩ j) = PP a b (at_ q ⟨504 + x.val, by omega⟩) ⟨j.val, by omega⟩ := by
  unfold listH
  rw [List.cons_append, canon_hit _ _ _ _ (ix2 x j) (by idx_ext), ← pP_apply h]
  generalize pP R = P
  pointwise [k0_pay24]

/-! ## The rows before -/

/-- Rows whose first eight are the carried ones and whose others are the point's are the shifted rows. -/
theorem shifted (f : Fin 520 → Fin 1024 → EReal)
    (h0 : ∀ (x : Fin 520) j, x.val < 8 → f x j = if q.val = 0 then 0 else PP a b ⟨512 * q.val + x.val - 8, by omega⟩ ⟨j.val, by omega⟩)
    (h8 : ∀ (x : Fin 520) j, 8 ≤ x.val → f x j = PP a b ⟨512 * q.val + x.val - 8, by omega⟩ ⟨j.val, by omega⟩)
    (k : ℕ) (hk : 0 < k) (hk3 : k ≤ 3) (r : Fin 512) (j : Fin 1024) : f ⟨8 - k + r.val, by omega⟩ j = pst a k b (at_ q r) j := by
  unfold pst
  by_cases hr : r.val < k
  · rw [h0 _ _ (by simp only; omega)]
    by_cases hq : q.val = 0
    · rw [if_pos hq, if_pos (by simp only; omega)]
    · rw [if_neg hq, if_neg (by simp only; omega)]
      exact congrArg (PP a b · _) (Fin.ext (by simp only; omega))
  · rw [h8 _ _ (by simp only; omega), if_neg (by simp only; omega)]
    exact congrArg (PP a b · _) (Fin.ext (by simp only; omega))

/-- The first thousand and twenty-four of the kept weights' columns. -/
def Qk (a : Args) (w : Vec Ideal S1024x1024 .bf16) : Prop := ∀ (d j : Fin 1024), w (ix2 d j) = WW a d ⟨j.val, by omega⟩

section halo

variable (arg12 : Memref sig .tc .vmem S520x1024 .f32) (harg12 : arg12.IsWhole) (xs0 : Vec Ideal S520x1024 .f32)
  (x : Vec Ideal S512x1024 .f32) (md : Vec Ideal S1x6x1024 .f32) (w : Vec Ideal S1024x1024 .bf16)
  (hx : ∀ r d, x (ix2 r d) = a.X b (at_ q r) d) (hm : ∀ k d, md (ix3 0 k d) = a.M b k d)
  (hw : Qk a w)

/-- What the point stores behind the carried rows. -/
theorem pay23_apply (r : Fin 512) (j : Fin 1024) : k0_pay23 md x w (ix2 r j) = k0_pay22 md x w (ix2 r j) := by
  unfold k0_pay23
  generalize k0_pay22 md x w = P
  pointwise []

include hx hm hw

/-- At the first point of a sequence: the cleared rows and the point's. -/
theorem canonC0 (y : Fin 520) (j : Fin 1024) (h : y.val < 8) : View.canon (listP x md w ++ listZ) (ix2 y j) = (0 : EReal) := by
  unfold listP listZ
  rw [List.cons_append, canon_miss _ _ _ _ _ _ 0 (Or.inl (by show y.val < 8; omega)), List.nil_append, canon_hit _ _ _ _ (ix2 ⟨y.val, h⟩ j) (by idx_ext)]
  pointwise [k0_pay20]

/-- The point's rows. -/
theorem canonC8 (T : List (View.Piece (Elt Ideal) S520x1024 .f32)) (y : Fin 520) (j : Fin 1024) (h : 8 ≤ y.val) :
    View.canon (listP x md w ++ T) (ix2 y j) = PP a b ⟨512 * q.val + y.val - 8, by omega⟩ ⟨j.val, by omega⟩ := by
  unfold listP
  rw [List.cons_append, canon_hit _ _ _ _ (ix2 ⟨y.val - 8, by omega⟩ j) (by idx_ext), pay23_apply, pay22_apply md x w hx hm hw]
  exact congrArg (PP a b · _) (Fin.ext (by show 512 * q.val + (y.val - 8) = 512 * q.val + y.val - 8; omega))

/-- Inside a sequence: the carried rows. -/
theorem readB0 (y : Fin 520) (j : Fin 1024) (h : y.val < 8) :
    arg12.view.read (Elt Ideal) (arg12.view.writes (Elt Ideal) (harg12.unread xs0) (listP x md w)) (ix2 y j) = xs0 (ix2 y j) := by
  unfold listP
  rw [View.read_writes_cons_unit_of_not_mem _ _ _ _ _ _ rfl 0 (Or.inl (by show y.val < 8; omega))]
  exact congrFun (harg12.read_unread xs0) _

/-- The point's rows. -/
theorem readB8 (y : Fin 520) (j : Fin 1024) (h : 8 ≤ y.val) :
    arg12.view.read (Elt Ideal) (arg12.view.writes (Elt Ideal) (harg12.unread xs0) (listP x md w)) (ix2 y j)
      = PP a b ⟨512 * q.val + y.val - 8, by omega⟩ ⟨j.val, by omega⟩ := by
  unfold listP
  rw [View.read_writes_cons_unit_of_mem _ _ _ _ _ _ (ix2 ⟨y.val - 8, by omega⟩ j) rfl (by
    intro a; fin_cases a
    · show y.val = 8 + (y.val - 8)
      omega
    · show j.val = 0 + j.val
      omega), pay23_apply, pay22_apply md x w hx hm hw]
  exact congrArg (PP a b · _) (Fin.ext (by show 512 * q.val + (y.val - 8) = 512 * q.val + y.val - 8; omega))

/-- The rows before at the first point of a sequence. -/
theorem halosC_apply (hq : q.val = 0) :
    (∀ r j, (halosC arg12 (listP x md w ++ listZ)).p3 (ix2 r j) = pst a 3 b (at_ q r) j) ∧
    (∀ r j, (halosC arg12 (listP x md w ++ listZ)).p2 (ix2 r j) = pst a 2 b (at_ q r) j) ∧
    (∀ r j, (halosC arg12 (listP x md w ++ listZ)).p1 (ix2 r j) = pst a 1 b (at_ q r) j) := by
  have S := shifted (a := a) (b := b) (q := q) (fun y j => View.canon (listP x md w ++ listZ) (ix2 y j))
    (fun y j h => (canonC0 x md w hx hm hw y j h).trans (if_pos hq).symm) (fun y j h => canonC8 x md w hx hm hw listZ y j h)
  refine ⟨fun r j => ?_, fun r j => ?_, fun r j => ?_⟩
  · refine Eq.trans ?_ (S 3 (by omega) (by omega) r j)
    refine (congrFun (View.readCov_eq_canon' _ _ _) _).trans (congrArg _ (by idx_ext))
  · refine Eq.trans ?_ (S 2 (by omega) (by omega) r j)
    refine (congrFun (View.readCov_eq_canon' _ _ _) _).trans (congrArg _ (by idx_ext))
  · refine Eq.trans ?_ (S 1 (by omega) (by omega) r j)
    refine (congrFun (View.readCov_eq_canon' _ _ _) _).trans (congrArg _ (by idx_ext))

/-- The rows before inside a sequence. -/
theorem halosB_apply (hq : ¬q.val = 0) (hxs : ∀ (y : Fin 8) (j : Fin 1024), xs0 (ix2 ⟨y.val, by omega⟩ j) = PP a b ⟨512 * q.val + y.val - 8, by omega⟩ ⟨j.val, by omega⟩) :
    (∀ r j, (halosB arg12 harg12 xs0 (listP x md w)).p3 (ix2 r j) = pst a 3 b (at_ q r) j) ∧
    (∀ r j, (halosB arg12 harg12 xs0 (listP x md w)).p2 (ix2 r j) = pst a 2 b (at_ q r) j) ∧
    (∀ r j, (halosB arg12 harg12 xs0 (listP x md w)).p1 (ix2 r j) = pst a 1 b (at_ q r) j) := by
  have S := shifted (a := a) (b := b) (q := q) (fun y j => arg12.view.read (Elt Ideal) (arg12.view.writes (Elt Ideal) (harg12.unread xs0) (listP x md w)) (ix2 y j))
    (fun y j h => (readB0 arg12 harg12 xs0 x md w hx hm hw y j h).trans ((hxs ⟨y.val, h⟩ j).trans (if_neg hq).symm))
    (fun y j h => readB8 arg12 harg12 xs0 x md w hx hm hw y j h)
  refine ⟨fun r j => ?_, fun r j => ?_, fun r j => ?_⟩
  · refine Eq.trans ?_ (S 3 (by omega) (by omega) r j)
    exact congrArg (arg12.view.read (Elt Ideal) (arg12.view.writes (Elt Ideal) (harg12.unread xs0) (listP x md w))) (by idx_ext)
  · refine Eq.trans ?_ (S 2 (by omega) (by omega) r j)
    exact congrArg (arg12.view.read (Elt Ideal) (arg12.view.writes (Elt Ideal) (harg12.unread xs0) (listP x md w))) (by idx_ext)
  · refine Eq.trans ?_ (S 1 (by omega) (by omega) r j)
    exact congrArg (arg12.view.read (Elt Ideal) (arg12.view.writes (Elt Ideal) (harg12.unread xs0) (listP x md w))) (by idx_ext)

end halo

/-! ## The weights -/

section weights

variable (c : Dev nD) (arg3 : Memref sig .tc .vmem S1x3608x1024 .f32) (harg3 : arg3.IsWhole) (arg13 : Memref sig .tc .vmem S1024x3712 .bf16) (harg13 : arg13.IsWhole)

/-- A later point's weights. -/
theorem loadsB_apply (xs1 : Vec Ideal S1024x3712 .bf16) (h : ∀ d k, xs1 (ix2 d k) = WW a d k) : HoldsW a (loadsB arg13 harg13 xs1) := by
  refine ⟨fun d j => ?_, fun d j => ?_, fun d j => ?_, fun d j => ?_, fun d j => ?_⟩ <;>
    exact (harg13.readAt_unread xs1 _ _).trans ((congrArg xs1 (by idx_ext)).trans (h d _))

/-- The first point's stores of the weights. -/
def listW (x2 : Vec Ideal S1x3608x1024 .f32) : List (View.Piece (Elt Ideal) S1024x3712 .bf16) :=
  [⟨Rect.unit (s := S1024x3712) ![0, 3584] S1024x128.size inb_S1024x3712_S1024x128_0_3584,
     k0_pay19 (rd harg3 x2 (Rect.unit (s := S1x3608x1024) ![0, 2048, 0] S1x8x1024.size inb_S1x3608x1024_S1x8x1024_0_2048_0))
       (rd harg3 x2 (Rect.unit (s := S1x3608x1024) ![0, 3592, 0] S1x16x1024.size inb_S1x3608x1024_S1x16x1024_0_3592_0))⟩,
   ⟨Rect.unit (s := S1024x3712) ![0, 3328] S1024x256.size inb_S1024x3712_S1024x256_0_3328,
     k0_pay3 (rd harg3 x2 (Rect.unit (s := S1x3608x1024) ![0, 3336, 0] S1x256x1024.size inb_S1x3608x1024_S1x256x1024_0_3336_0))⟩,
   ⟨Rect.unit (s := S1024x3712) ![0, 3072] S1024x256.size inb_S1024x3712_S1024x256_0_3072,
     k0_pay3 (rd harg3 x2 (Rect.unit (s := S1x3608x1024) ![0, 3080, 0] S1x256x1024.size inb_S1x3608x1024_S1x256x1024_0_3080_0))⟩,
   ⟨Rect.unit (s := S1024x3712) ![0, 2816] S1024x256.size inb_S1024x3712_S1024x256_0_2816,
     k0_pay3 (rd harg3 x2 (Rect.unit (s := S1x3608x1024) ![0, 2824, 0] S1x256x1024.size inb_S1x3608x1024_S1x256x1024_0_2824_0))⟩,
   ⟨Rect.unit (s := S1024x3712) ![0, 2560] S1024x256.size inb_S1024x3712_S1024x256_0_2560,
     k0_pay3 (rd harg3 x2 (Rect.unit (s := S1x3608x1024) ![0, 2568, 0] S1x256x1024.size inb_S1x3608x1024_S1x256x1024_0_2568_0))⟩,
   ⟨Rect.unit (s := S1024x3712) ![0, 2304] S1024x256.size inb_S1024x3712_S1024x256_0_2304,
     k0_pay3 (rd harg3 x2 (Rect.unit (s := S1x3608x1024) ![0, 2312, 0] S1x256x1024.size inb_S1x3608x1024_S1x256x1024_0_2312_0))⟩,
   ⟨Rect.unit (s := S1024x3712) ![0, 2048] S1024x256.size inb_S1024x3712_S1024x256_0_2048,
     k0_pay3 (rd harg3 x2 (Rect.unit (s := S1x3608x1024) ![0, 2056, 0] S1x256x1024.size inb_S1x3608x1024_S1x256x1024_0_2056_0))⟩,
   ⟨Rect.unit (s := S1024x3712) ![0, 1792] S1024x256.size inb_S1024x3712_S1024x256_0_1792,
     k0_pay3 (rd harg3 x2 (Rect.unit (s := S1x3608x1024) ![0, 1792, 0] S1x256x1024.size inb_S1x3608x1024_S1x256x1024_0_1792_0))⟩,
   ⟨Rect.unit (s := S1024x3712) ![0, 1536] S1024x256.size inb_S1024x3712_S1024x256_0_1536,
     k0_pay3 (rd harg3 x2 (Rect.unit (s := S1x3608x1024) ![0, 1536, 0] S1x256x1024.size inb_S1x3608x1024_S1x256x1024_0_1536_0))⟩,
   ⟨Rect.unit (s := S1024x3712) ![0, 1280] S1024x256.size inb_S1024x3712_S1024x256_0_1280,
     k0_pay3 (rd harg3 x2 (Rect.unit (s := S1x3608x1024) ![0, 1280, 0] S1x256x1024.size inb_S1x3608x1024_S1x256x1024_0_1280_0))⟩,
   ⟨Rect.unit (s := S1024x3712) ![0, 1024] S1024x256.size inb_S1024x3712_S1024x256_0_1024,
     k0_pay3 (rd harg3 x2 (Rect.unit (s := S1x3608x1024) ![0, 1024, 0] S1x256x1024.size inb_S1x3608x1024_S1x256x1024_0_1024_0))⟩,
   ⟨Rect.unit (s := S1024x3712) ![0, 768] S1024x256.size inb_S1024x3712_S1024x256_0_768,
     k0_pay3 (rd harg3 x2 (Rect.unit (s := S1x3608x1024) ![0, 768, 0] S1x256x1024.size inb_S1x3608x1024_S1x256x1024_0_768_0))⟩,
   ⟨Rect.unit (s := S1024x3712) ![0, 512] S1024x256.size inb_S1024x3712_S1024x256_0_512,
     k0_pay3 (rd harg3 x2 (Rect.unit (s := S1x3608x1024) ![0, 512, 0] S1x256x1024.size inb_S1x3608x1024_S1x256x1024_0_512_0))⟩,
   ⟨Rect.unit (s := S1024x3712) ![0, 256] S1024x256.size inb_S1024x3712_S1024x256_0_256,
     k0_pay3 (rd harg3 x2 (Rect.unit (s := S1x3608x1024) ![0, 256, 0] S1x256x1024.size inb_S1x3608x1024_S1x256x1024_0_256_0))⟩,
   ⟨Rect.unit (s := S1024x3712) ![0, 0] S1024x256.size inb_S1024x3712_S1024x256_0_0,
     k0_pay3 (rd harg3 x2 (Rect.unit (s := S1x3608x1024) ![0, 0, 0] S1x256x1024.size inb_S1x3608x1024_S1x256x1024_0_0_0))⟩]

/-- They are what the first point stores. -/
theorem listW_eq (x2 : Vec Ideal S1x3608x1024 .f32) : kernelRun0_A.sl.HS1_15 c arg3 harg3 x2 = listW arg3 harg3 x2 := by
  sl_kernel_rfl

variable (x2 : Vec Ideal S1x3608x1024 .f32) (hx2 : ∀ k d, x2 (ix3 0 k d) = a.A d k)
include hx2

/-- A block of transposed weights. -/
theorem wcol (r : ℕ) (hr : ∀ a, (![0, r, 0] : Fin 3 → ℕ) a + S1x256x1024.size a ≤ S1x3608x1024.size a) (hr' : r + 256 ≤ 3608) (d : Fin 1024) (k : Fin 256) :
    k0_pay3 (rd harg3 x2 (Rect.unit (s := S1x3608x1024) ![0, r, 0] S1x256x1024.size hr)) (ix2 d k) = a.A d ⟨r + k.val, by omega⟩ := by
  have e : rd harg3 x2 (Rect.unit (s := S1x3608x1024) ![0, r, 0] S1x256x1024.size hr) (ix3 0 k d) = a.A d ⟨r + k.val, by omega⟩ :=
    (harg3.readAt_unread x2 (Rect.unit (s := S1x3608x1024) ![0, r, 0] S1x256x1024.size hr).toLoadRect (ix3 0 k d)).trans ((congrArg x2 (by idx_ext)).trans (hx2 _ d))
  rw [← e]
  generalize rd harg3 x2 (Rect.unit (s := S1x3608x1024) ![0, r, 0] S1x256x1024.size hr) = v
  pointwise [k0_pay3]

/-- The small columns. -/
theorem wsmall (d : Fin 1024) (k : Fin 128) :
    k0_pay19 (rd harg3 x2 (Rect.unit (s := S1x3608x1024) ![0, 2048, 0] S1x8x1024.size inb_S1x3608x1024_S1x8x1024_0_2048_0))
       (rd harg3 x2 (Rect.unit (s := S1x3608x1024) ![0, 3592, 0] S1x16x1024.size inb_S1x3608x1024_S1x16x1024_0_3592_0)) (ix2 d k) = small a d k := by
  have e8 : ∀ k : Fin 8, rd harg3 x2 (Rect.unit (s := S1x3608x1024) ![0, 2048, 0] S1x8x1024.size inb_S1x3608x1024_S1x8x1024_0_2048_0) (ix3 0 k d) = a.A d ⟨2048 + k.val, by omega⟩ :=
    fun k => (harg3.readAt_unread x2 _ _).trans ((congrArg x2 (by idx_ext)).trans (hx2 _ d))
  have e16 : ∀ k : Fin 16, rd harg3 x2 (Rect.unit (s := S1x3608x1024) ![0, 3592, 0] S1x16x1024.size inb_S1x3608x1024_S1x16x1024_0_3592_0) (ix3 0 k d) = a.A d ⟨3592 + k.val, by omega⟩ :=
    fun k => (harg3.readAt_unread x2 _ _).trans ((congrArg x2 (by idx_ext)).trans (hx2 _ d))
  generalize rd harg3 x2 (Rect.unit (s := S1x3608x1024) ![0, 2048, 0] S1x8x1024.size inb_S1x3608x1024_S1x8x1024_0_2048_0) = v at e8 ⊢
  generalize rd harg3 x2 (Rect.unit (s := S1x3608x1024) ![0, 3592, 0] S1x16x1024.size inb_S1x3608x1024_S1x16x1024_0_3592_0) = w at e16 ⊢
  pointwise [k0_pay19]
  unfold small
  by_cases h1 : k.val < 4
  · rw [dif_pos h1, dif_pos h1]
    exact e8 ⟨k.val, by omega⟩
  rw [dif_neg h1, dif_neg h1]
  by_cases h2 : k.val < 8
  · rw [dif_pos (by omega), dif_pos h2]
  rw [dif_neg (by omega), dif_neg h2]
  by_cases h3 : k.val < 12
  · rw [dif_pos (by omega), dif_pos h3]
    exact (e8 ⟨4 + (k.val - 4 - 4), by omega⟩).trans (congrArg (a.A d) (Fin.ext (by simp only; omega)))
  rw [dif_neg (by omega), dif_neg h3]
  by_cases h4 : k.val < 16
  · rw [dif_pos (by omega), dif_pos h4]
  rw [dif_neg (by omega), dif_neg h4]
  by_cases h5 : k.val < 32
  · rw [dif_pos (by omega), dif_pos h5]
    exact (e16 ⟨k.val - 4 - 4 - 4 - 4, by omega⟩).trans (congrArg (a.A d) (Fin.ext (by simp only; omega)))
  rw [dif_neg (by omega), dif_neg h5]

set_option maxHeartbeats 2000000 in
/-- What the first point leaves in the weights' scratch. -/
theorem canonW (d : Fin 1024) (k : Fin 3712) : View.canon (listW arg3 harg3 x2) (ix2 d k) = WW a d k := by
  unfold listW WW
  by_cases h0 : 3584 ≤ k.val
  · rw [canon_hit _ _ _ _ (ix2 d ⟨k.val - 3584, by omega⟩) (by idx_ext), wsmall arg3 harg3 x2 hx2, dif_neg (by omega), dif_neg (by omega)]
  rw [canon_miss _ _ _ _ _ _ 1 (Or.inl (by show k.val < 3584; omega))]
  by_cases h1 : 3328 ≤ k.val
  · rw [canon_hit _ _ _ _ (ix2 d ⟨k.val - 3328, by omega⟩) (by idx_ext), wcol arg3 harg3 x2 hx2 _ _ (by omega)]
    rw [dif_neg (by omega), dif_pos (by omega)]
    exact congrArg (a.A d) (Fin.ext (by show 3336 + (k.val - 3328) = 8 + k.val; omega))
  rw [canon_miss _ _ _ _ _ _ 1 (Or.inl (by show k.val < 3328; omega))]
  by_cases h2 : 3072 ≤ k.val
  · rw [canon_hit _ _ _ _ (ix2 d ⟨k.val - 3072, by omega⟩) (by idx_ext), wcol arg3 harg3 x2 hx2 _ _ (by omega)]
    rw [dif_neg (by omega), dif_pos (by omega)]
    exact congrArg (a.A d) (Fin.ext (by show 3080 + (k.val - 3072) = 8 + k.val; omega))
  rw [canon_miss _ _ _ _ _ _ 1 (Or.inl (by show k.val < 3072; omega))]
  by_cases h3 : 2816 ≤ k.val
  · rw [canon_hit _ _ _ _ (ix2 d ⟨k.val - 2816, by omega⟩) (by idx_ext), wcol arg3 harg3 x2 hx2 _ _ (by omega)]
    rw [dif_neg (by omega), dif_pos (by omega)]
    exact congrArg (a.A d) (Fin.ext (by show 2824 + (k.val - 2816) = 8 + k.val; omega))
  rw [canon_miss _ _ _ _ _ _ 1 (Or.inl (by show k.val < 2816; omega))]
  by_cases h4 : 2560 ≤ k.val
  · rw [canon_hit _ _ _ _ (ix2 d ⟨k.val - 2560, by omega⟩) (by idx_ext), wcol arg3 harg3 x2 hx2 _ _ (by omega)]
    rw [dif_neg (by omega), dif_pos (by omega)]
    exact congrArg (a.A d) (Fin.ext (by show 2568 + (k.val - 2560) = 8 + k.val; omega))
  rw [canon_miss _ _ _ _ _ _ 1 (Or.inl (by show k.val < 2560; omega))]
  by_cases h5 : 2304 ≤ k.val
  · rw [canon_hit _ _ _ _ (ix2 d ⟨k.val - 2304, by omega⟩) (by idx_ext), wcol arg3 harg3 x2 hx2 _ _ (by omega)]
    rw [dif_neg (by omega), dif_pos (by omega)]
    exact congrArg (a.A d) (Fin.ext (by show 2312 + (k.val - 2304) = 8 + k.val; omega))
  rw [canon_miss _ _ _ _ _ _ 1 (Or.inl (by show k.val < 2304; omega))]
  by_cases h6 : 2048 ≤ k.val
  · rw [canon_hit _ _ _ _ (ix2 d ⟨k.val - 2048, by omega⟩) (by idx_ext), wcol arg3 harg3 x2 hx2 _ _ (by omega)]
    rw [dif_neg (by omega), dif_pos (by omega)]
    exact congrArg (a.A d) (Fin.ext (by show 2056 + (k.val - 2048) = 8 + k.val; omega))
  rw [canon_miss _ _ _ _ _ _ 1 (Or.inl (by show k.val < 2048; omega))]
  by_cases h7 : 1792 ≤ k.val
  · rw [canon_hit _ _ _ _ (ix2 d ⟨k.val - 1792, by omega⟩) (by idx_ext), wcol arg3 harg3 x2 hx2 _ _ (by omega)]
    rw [dif_pos (by omega)]
    exact congrArg (a.A d) (Fin.ext (by show 1792 + (k.val - 1792) = k.val; omega))
  rw [canon_miss _ _ _ _ _ _ 1 (Or.inl (by show k.val < 1792; omega))]
  by_cases h8 : 1536 ≤ k.val
  · rw [canon_hit _ _ _ _ (ix2 d ⟨k.val - 1536, by omega⟩) (by idx_ext), wcol arg3 harg3 x2 hx2 _ _ (by omega)]
    rw [dif_pos (by omega)]
    exact congrArg (a.A d) (Fin.ext (by show 1536 + (k.val - 1536) = k.val; omega))
  rw [canon_miss _ _ _ _ _ _ 1 (Or.inl (by show k.val < 1536; omega))]
  by_cases h9 : 1280 ≤ k.val
  · rw [canon_hit _ _ _ _ (ix2 d ⟨k.val - 1280, by omega⟩) (by idx_ext), wcol arg3 harg3 x2 hx2 _ _ (by omega)]
    rw [dif_pos (by omega)]
    exact congrArg (a.A d) (Fin.ext (by show 1280 + (k.val - 1280) = k.val; omega))
  rw [canon_miss _ _ _ _ _ _ 1 (Or.inl (by show k.val < 1280; omega))]
  by_cases h10 : 1024 ≤ k.val
  · rw [canon_hit _ _ _ _ (ix2 d ⟨k.val - 1024, by omega⟩) (by idx_ext), wcol arg3 harg3 x2 hx2 _ _ (by omega)]
    rw [dif_pos (by omega)]
    exact congrArg (a.A d) (Fin.ext (by show 1024 + (k.val - 1024) = k.val; omega))
  rw [canon_miss _ _ _ _ _ _ 1 (Or.inl (by show k.val < 1024; omega))]
  by_cases h11 : 768 ≤ k.val
  · rw [canon_hit _ _ _ _ (ix2 d ⟨k.val - 768, by omega⟩) (by idx_ext), wcol arg3 harg3 x2 hx2 _ _ (by omega)]
    rw [dif_pos (by omega)]
    exact congrArg (a.A d) (Fin.ext (by show 768 + (k.val - 768) = k.val; omega))
  rw [canon_miss _ _ _ _ _ _ 1 (Or.inl (by show k.val < 768; omega))]
  by_cases h12 : 512 ≤ k.val
  · rw [canon_hit _ _ _ _ (ix2 d ⟨k.val - 512, by omega⟩) (by idx_ext), wcol arg3 harg3 x2 hx2 _ _ (by omega)]
    rw [dif_pos (by omega)]
    exact congrArg (a.A d) (Fin.ext (by show 512 + (k.val - 512) = k.val; omega))
  rw [canon_miss _ _ _ _ _ _ 1 (Or.inl (by show k.val < 512; omega))]
  by_cases h13 : 256 ≤ k.val
  · rw [canon_hit _ _ _ _ (ix2 d ⟨k.val - 256, by omega⟩) (by idx_ext), wcol arg3 harg3 x2 hx2 _ _ (by omega)]
    rw [dif_pos (by omega)]
    exact congrArg (a.A d) (Fin.ext (by show 256 + (k.val - 256) = k.val; omega))
  rw [canon_miss _ _ _ _ _ _ 1 (Or.inl (by show k.val < 256; omega))]
  rw [canon_hit _ _ _ _ (ix2 d ⟨k.val - 0, by omega⟩) (by idx_ext), wcol arg3 harg3 x2 hx2 _ _ (by omega)]
  rw [dif_pos (by omega)]
  exact congrArg (a.A d) (Fin.ext (by show 0 + (k.val - 0) = k.val; omega))

/-- The first point's weights. -/
theorem loadsA_apply : HoldsW a (loadsA c arg3 harg3 arg13 x2) := by
  have e := canonW arg3 harg3 x2 hx2
  rw [← listW_eq c arg3 harg3 x2] at e
  refine ⟨fun d j => ?_, fun d j => ?_, fun d j => ?_, fun d j => ?_, fun d j => ?_⟩ <;>
    exact (congrFun (View.readCov_eq_canon' _ _ _) _).trans ((congrArg _ (by idx_ext)).trans (e d _))

end weights

end Inproj
-- ==== Proof.InPieces.lean ====
module

public import proofs.«01_k».proof.Proof.InStores

@[expose] public section

/-!
What a grid point of the projection kernel leaves in each case, as what its stores leave.
-/

set_option maxRecDepth 16384

noncomputable section

namespace Inproj

open Idealize.ShloMosaic Idealize.SL.Sem Idealize.ShloMosaic.Tactic
open Cert.InprojIdeal Cert.InprojIdeal.Gen

variable (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x3608x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S128x256 .bf16) (harg6 : arg6.IsWhole) (arg7 : Memref sig .tc .vmem S1x256 .f32) (harg7 : arg7.IsWhole) (arg8 : Memref sig .tc .vmem S16x1 .f32) (harg8 : arg8.IsWhole) (arg9 : Memref sig .tc .vmem S512x3584 .bf16) (harg9 : arg9.IsWhole) (arg10 : Memref sig .tc .vmem S512x256 .f32) (harg10 : arg10.IsWhole) (arg11 : Memref sig .tc .vmem S2x16x256 .f32) (harg11 : arg11.IsWhole) (arg12 : Memref sig .tc .vmem S520x1024 .f32) (harg12 : arg12.IsWhole) (arg13 : Memref sig .tc .vmem S1024x3712 .bf16) (harg13 : arg13.IsWhole)
  (x0 : Vec Ideal S512x1024 .f32) (x1 : Vec Ideal S1x6x1024 .f32) (x2 : Vec Ideal S1x3608x1024 .f32) (x3 : Vec Ideal S4x1024 .f32) (x4 : Vec Ideal S1x1024 .f32) (x5 : Vec Ideal S128x256 .bf16) (x6 : Vec Ideal S1x256 .f32) (x7 : Vec Ideal S16x1 .f32)

/-- The first result. -/
theorem out0_B_8_eq (xs0 : Vec Ideal S520x1024 .f32) (xs1 : Vec Ideal S1024x3712 .bf16) (hc0 : ¬cond0_0 i) (hc1 : ¬cond0_1 i) : out0_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = View.canon (listO (reads arg1 harg1 arg2 harg2 arg4 harg4 arg5 harg5 arg6 harg6 arg7 harg7 arg8 harg8 x0 x1 x3 x4 x5 x6 x7 (loadsB arg13 harg13 xs1) (halosB arg12 harg12 xs0 (storesP arg1 harg1 arg2 harg2 x0 x1 (loadsB arg13 harg13 xs1))))) := by
  unfold out0_B_8
  rw [View.read_writes_junk_eq_canon, listO_B]

/-- The second result. -/
theorem out0_B_9_eq (xs0 : Vec Ideal S520x1024 .f32) (xs1 : Vec Ideal S1024x3712 .bf16) (hc0 : ¬cond0_0 i) (hc1 : ¬cond0_1 i) : out0_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = View.canon (listL (reads arg1 harg1 arg2 harg2 arg4 harg4 arg5 harg5 arg6 harg6 arg7 harg7 arg8 harg8 x0 x1 x3 x4 x5 x6 x7 (loadsB arg13 harg13 xs1) (halosB arg12 harg12 xs0 (storesP arg1 harg1 arg2 harg2 x0 x1 (loadsB arg13 harg13 xs1))))) := by
  unfold out0_B_9
  rw [View.read_writes_junk_eq_canon, listL_B]

/-- The third result. -/
theorem out0_B_10_eq (xs0 : Vec Ideal S520x1024 .f32) (xs1 : Vec Ideal S1024x3712 .bf16) (hc0 : ¬cond0_0 i) (hc1 : ¬cond0_1 i) : out0_B_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = View.canon (listG (reads arg1 harg1 arg2 harg2 arg4 harg4 arg5 harg5 arg6 harg6 arg7 harg7 arg8 harg8 x0 x1 x3 x4 x5 x6 x7 (loadsB arg13 harg13 xs1) (halosB arg12 harg12 xs0 (storesP arg1 harg1 arg2 harg2 x0 x1 (loadsB arg13 harg13 xs1))))) := by
  unfold out0_B_10
  rw [View.read_writes_junk_eq_canon, listG_B]

/-- The carried rows. -/
theorem sout0_B_0_eq (xs0 : Vec Ideal S520x1024 .f32) (xs1 : Vec Ideal S1024x3712 .bf16) (hc0 : ¬cond0_0 i) (hc1 : ¬cond0_1 i) : sout0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = View.canon (listH (reads arg1 harg1 arg2 harg2 arg4 harg4 arg5 harg5 arg6 harg6 arg7 harg7 arg8 harg8 x0 x1 x3 x4 x5 x6 x7 (loadsB arg13 harg13 xs1) (halosB arg12 harg12 xs0 (storesP arg1 harg1 arg2 harg2 x0 x1 (loadsB arg13 harg13 xs1)))) ++ storesP arg1 harg1 arg2 harg2 x0 x1 (loadsB arg13 harg13 xs1)) := by
  unfold sout0_B_0
  rw [View.read_writes_junk_eq_canon, listH_B]

/-- The first result. -/
theorem out0_C_8_eq (xs1 : Vec Ideal S1024x3712 .bf16) (hc0 : ¬cond0_0 i) (hc1 : cond0_1 i) : out0_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1 = View.canon (listO (reads arg1 harg1 arg2 harg2 arg4 harg4 arg5 harg5 arg6 harg6 arg7 harg7 arg8 harg8 x0 x1 x3 x4 x5 x6 x7 (loadsB arg13 harg13 xs1) (halosC arg12 (storesP arg1 harg1 arg2 harg2 x0 x1 (loadsB arg13 harg13 xs1) ++ listZ)))) := by
  unfold out0_C_8
  rw [View.read_writes_junk_eq_canon, listO_C]

/-- The second result. -/
theorem out0_C_9_eq (xs1 : Vec Ideal S1024x3712 .bf16) (hc0 : ¬cond0_0 i) (hc1 : cond0_1 i) : out0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1 = View.canon (listL (reads arg1 harg1 arg2 harg2 arg4 harg4 arg5 harg5 arg6 harg6 arg7 harg7 arg8 harg8 x0 x1 x3 x4 x5 x6 x7 (loadsB arg13 harg13 xs1) (halosC arg12 (storesP arg1 harg1 arg2 harg2 x0 x1 (loadsB arg13 harg13 xs1) ++ listZ)))) := by
  unfold out0_C_9
  rw [View.read_writes_junk_eq_canon, listL_C]

/-- The third result. -/
theorem out0_C_10_eq (xs1 : Vec Ideal S1024x3712 .bf16) (hc0 : ¬cond0_0 i) (hc1 : cond0_1 i) : out0_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1 = View.canon (listG (reads arg1 harg1 arg2 harg2 arg4 harg4 arg5 harg5 arg6 harg6 arg7 harg7 arg8 harg8 x0 x1 x3 x4 x5 x6 x7 (loadsB arg13 harg13 xs1) (halosC arg12 (storesP arg1 harg1 arg2 harg2 x0 x1 (loadsB arg13 harg13 xs1) ++ listZ)))) := by
  unfold out0_C_10
  rw [View.read_writes_junk_eq_canon, listG_C]

/-- The carried rows. -/
theorem sout0_C_0_eq (xs1 : Vec Ideal S1024x3712 .bf16) (hc0 : ¬cond0_0 i) (hc1 : cond0_1 i) : sout0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1 = View.canon (listH (reads arg1 harg1 arg2 harg2 arg4 harg4 arg5 harg5 arg6 harg6 arg7 harg7 arg8 harg8 x0 x1 x3 x4 x5 x6 x7 (loadsB arg13 harg13 xs1) (halosC arg12 (storesP arg1 harg1 arg2 harg2 x0 x1 (loadsB arg13 harg13 xs1) ++ listZ))) ++ (storesP arg1 harg1 arg2 harg2 x0 x1 (loadsB arg13 harg13 xs1) ++ listZ)) := by
  unfold sout0_C_0
  rw [View.read_writes_junk_eq_canon, listH_C]

/-- The first result. -/
theorem out0_A_8_eq  (hc0 : cond0_0 i) (hc1 : cond0_1 i) : out0_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7  = View.canon (listO (reads arg1 harg1 arg2 harg2 arg4 harg4 arg5 harg5 arg6 harg6 arg7 harg7 arg8 harg8 x0 x1 x3 x4 x5 x6 x7 (loadsA c arg3 harg3 arg13 x2) (halosC arg12 (storesP arg1 harg1 arg2 harg2 x0 x1 (loadsA c arg3 harg3 arg13 x2) ++ listZ)))) := by
  unfold out0_A_8
  rw [View.read_writes_junk_eq_canon, listO_A]

/-- The second result. -/
theorem out0_A_9_eq  (hc0 : cond0_0 i) (hc1 : cond0_1 i) : out0_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7  = View.canon (listL (reads arg1 harg1 arg2 harg2 arg4 harg4 arg5 harg5 arg6 harg6 arg7 harg7 arg8 harg8 x0 x1 x3 x4 x5 x6 x7 (loadsA c arg3 harg3 arg13 x2) (halosC arg12 (storesP arg1 harg1 arg2 harg2 x0 x1 (loadsA c arg3 harg3 arg13 x2) ++ listZ)))) := by
  unfold out0_A_9
  rw [View.read_writes_junk_eq_canon, listL_A]

/-- The third result. -/
theorem out0_A_10_eq  (hc0 : cond0_0 i) (hc1 : cond0_1 i) : out0_A_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7  = View.canon (listG (reads arg1 harg1 arg2 harg2 arg4 harg4 arg5 harg5 arg6 harg6 arg7 harg7 arg8 harg8 x0 x1 x3 x4 x5 x6 x7 (loadsA c arg3 harg3 arg13 x2) (halosC arg12 (storesP arg1 harg1 arg2 harg2 x0 x1 (loadsA c arg3 harg3 arg13 x2) ++ listZ)))) := by
  unfold out0_A_10
  rw [View.read_writes_junk_eq_canon, listG_A]

/-- The carried rows. -/
theorem sout0_A_0_eq  (hc0 : cond0_0 i) (hc1 : cond0_1 i) : sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7  = View.canon (listH (reads arg1 harg1 arg2 harg2 arg4 harg4 arg5 harg5 arg6 harg6 arg7 harg7 arg8 harg8 x0 x1 x3 x4 x5 x6 x7 (loadsA c arg3 harg3 arg13 x2) (halosC arg12 (storesP arg1 harg1 arg2 harg2 x0 x1 (loadsA c arg3 harg3 arg13 x2) ++ listZ))) ++ (storesP arg1 harg1 arg2 harg2 x0 x1 (loadsA c arg3 harg3 arg13 x2) ++ listZ)) := by
  unfold sout0_A_0
  rw [View.read_writes_junk_eq_canon, listH_A]

/-- The weights. -/
theorem sout0_A_1_eq (hc0 : cond0_0 i) (hc1 : cond0_1 i) : sout0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = View.canon (listW arg3 harg3 x2) := by
  unfold sout0_A_1
  rw [View.read_writes_junk_eq_canon, listW_A, listW_eq]

end Inproj
-- ==== Proof.InRefDefs.lean ====
module

public import proofs.«01_k».proof.Proof.InSpec
public import proofs.«01_k».proof.Proof.Gen.InprojRefIdeal.Run
public import Idealize.ShloMosaic.Lib.ShapeFacts
public import Idealize.ShloMosaic.Lib.Routing.Ops

@[expose] public section

/-!
The reference's three results, cut into their steps.
-/

set_option maxRecDepth 16384

noncomputable section

namespace Inproj.Ref

open Idealize.ShloMosaic Idealize.SL.Sem
open Cert.InprojRefIdeal Cert.InprojRefIdeal.Gen Idealize.ShloMosaic.TcCoe

/-- The projections. -/
def projR (A0 : FVec Ideal S16384x1024 .f32) (A1 : FVec Ideal S8x6x1024 .f32) (A2 : FVec Ideal S1x1024x3608 .f32) : FVec Ideal S8x2048x3608 .f32 :=
  Host.dotGeneral dot_S8x2048x1024_S1024x3608_S8x2048x3608_2_0_01_1_n_n none (addf (mulf (shapeCast _ A0 shapeCasts_S16384x1024_S8x2048x1024) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1024 ![0, 1, 0] A1 slices_S8x6x1024_S8x1x1024_0_1_0) shapeCasts_S8x1x1024_S8x1024))))) (broadcastInDim S8x2048x1024 ![0, 1, 2] bcast_S8x1x1024_S8x2048x1024_0_1_2 (broadcastInDim S8x1x1024 ![0, 2] bcast_S8x1024_S8x1x1024_0_2 (shapeCast _ (extractStridedSlice S8x1x1024 ![0, 0, 0] A1 slices_S8x6x1024_S8x1x1024_0_0_0) shapeCasts_S8x1x1024_S8x1024)))) (shapeCast _ A2 shapeCasts_S1x1024x3608_S1024x3608)

/-- The convolution. -/
def preR (A0 : FVec Ideal S16384x1024 .f32) (A1 : FVec Ideal S8x6x1024 .f32) (A2 : FVec Ideal S1x1024x3608 .f32) (A3 : FVec Ideal S4x1024 .f32) (A4 : FVec Ideal S1024 .f32) : FVec Ideal S8x2048x1024 .f32 :=
  addf (addf (addf (addf (mulf (broadcastInDim S8x2048x1024 ![0, 1, 2] bcast_S1x1x1024_S8x2048x1024_0_1_2 (broadcastInDim S1x1x1024 ![2] bcast_S1024_S1x1x1024_2 (shapeCast _ (extractStridedSlice S1x1024 ![0, 0] A3 slices_S4x1024_S1x1024_0_0) shapeCasts_S1x1024_S1024))) (extractStridedSlice S8x2048x1024 ![0, 0, 0] (pad S8x2051x1024 ![0, 3, 0] ![0, 0, 0] ![0, 0, 0] (extractStridedSlice S8x2048x1024 ![0, 0, 0] (projR A0 A1 A2) slices_S8x2048x3608_S8x2048x1024_0_0_0) (sitofp .f32 (constantI S_ 32 0#32)) pads_S8x2048x1024_S8x2051x1024_000_300_000 h_S_) slices_S8x2051x1024_S8x2048x1024_0_0_0)) (mulf (broadcastInDim S8x2048x1024 ![0, 1, 2] bcast_S1x1x1024_S8x2048x1024_0_1_2 (broadcastInDim S1x1x1024 ![2] bcast_S1024_S1x1x1024_2 (shapeCast _ (extractStridedSlice S1x1024 ![1, 0] A3 slices_S4x1024_S1x1024_1_0) shapeCasts_S1x1024_S1024))) (extractStridedSlice S8x2048x1024 ![0, 1, 0] (pad S8x2051x1024 ![0, 3, 0] ![0, 0, 0] ![0, 0, 0] (extractStridedSlice S8x2048x1024 ![0, 0, 0] (projR A0 A1 A2) slices_S8x2048x3608_S8x2048x1024_0_0_0) (sitofp .f32 (constantI S_ 32 0#32)) pads_S8x2048x1024_S8x2051x1024_000_300_000 h_S_) slices_S8x2051x1024_S8x2048x1024_0_1_0))) (mulf (broadcastInDim S8x2048x1024 ![0, 1, 2] bcast_S1x1x1024_S8x2048x1024_0_1_2 (broadcastInDim S1x1x1024 ![2] bcast_S1024_S1x1x1024_2 (shapeCast _ (extractStridedSlice S1x1024 ![2, 0] A3 slices_S4x1024_S1x1024_2_0) shapeCasts_S1x1024_S1024))) (extractStridedSlice S8x2048x1024 ![0, 2, 0] (pad S8x2051x1024 ![0, 3, 0] ![0, 0, 0] ![0, 0, 0] (extractStridedSlice S8x2048x1024 ![0, 0, 0] (projR A0 A1 A2) slices_S8x2048x3608_S8x2048x1024_0_0_0) (sitofp .f32 (constantI S_ 32 0#32)) pads_S8x2048x1024_S8x2051x1024_000_300_000 h_S_) slices_S8x2051x1024_S8x2048x1024_0_2_0))) (mulf (broadcastInDim S8x2048x1024 ![0, 1, 2] bcast_S1x1x1024_S8x2048x1024_0_1_2 (broadcastInDim S1x1x1024 ![2] bcast_S1024_S1x1x1024_2 (shapeCast _ (extractStridedSlice S1x1024 ![3, 0] A3 slices_S4x1024_S1x1024_3_0) shapeCasts_S1x1024_S1024))) (extractStridedSlice S8x2048x1024 ![0, 0, 0] (projR A0 A1 A2) slices_S8x2048x3608_S8x2048x1024_0_0_0))) (broadcastInDim S8x2048x1024 ![0, 1, 2] bcast_S1x1x1024_S8x2048x1024_0_1_2 (broadcastInDim S1x1x1024 ![2] bcast_S1024_S1x1x1024_2 A4))

/-- Its activation. -/
def actR (P : FVec Ideal S8x2048x1024 .f32) : FVec Ideal S8x2048x1024 .f32 :=
  mulf P (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf P))))

/-- The low rank gate before the log-sigmoid. -/
def zaR (A0 : FVec Ideal S16384x1024 .f32) (A1 : FVec Ideal S8x6x1024 .f32) (A2 : FVec Ideal S1x1024x3608 .f32) (A7 : FVec Ideal S16x256 .f32) (A8 : FVec Ideal S256 .f32) : FVec Ideal S8x2048x256 .f32 :=
  addf (Host.dotGeneral dot_S8x2048x16_S16x256_S8x2048x256_2_0_01_1_n_n none (extractStridedSlice S8x2048x16 ![0, 0, 3592] (projR A0 A1 A2) slices_S8x2048x3608_S8x2048x16_0_0_3592) A7) (broadcastInDim S8x2048x256 ![0, 1, 2] bcast_S1x1x256_S8x2048x256_0_1_2 (broadcastInDim S1x1x256 ![2] bcast_S256_S1x1x256_2 A8))

/-- The log-sigmoid of the low rank gate. -/
def lsL (Z : FVec Ideal S8x2048x256 .f32) : FVec Ideal S8x2048x256 .f32 :=
  Host.negf (select (cmpf .une (subf (Host.negf Z) (broadcastInDim S8x2048x256 ![] bcast_S_S8x2048x256 (constant S_ .f32 0x00000000#32))) (subf (Host.negf Z) (broadcastInDim S8x2048x256 ![] bcast_S_S8x2048x256 (constant S_ .f32 0x00000000#32)))) (addf (Host.negf Z) (broadcastInDim S8x2048x256 ![] bcast_S_S8x2048x256 (constant S_ .f32 0x00000000#32))) (addf (maximumf (Host.negf Z) (broadcastInDim S8x2048x256 ![] bcast_S_S8x2048x256 (constant S_ .f32 0x00000000#32))) (Host.log1p (Host.exp (Host.negf (Host.absf (subf (Host.negf Z) (broadcastInDim S8x2048x256 ![] bcast_S_S8x2048x256 (constant S_ .f32 0x00000000#32)))))))))

/-- The forget gates before the log-sigmoid. -/
def zfR (A0 : FVec Ideal S16384x1024 .f32) (A1 : FVec Ideal S8x6x1024 .f32) (A2 : FVec Ideal S1x1024x3608 .f32) (A6 : FVec Ideal S4 .f32) : FVec Ideal S8x2048x4 .f32 :=
  addf (extractStridedSlice S8x2048x4 ![0, 0, 2052] (projR A0 A1 A2) slices_S8x2048x3608_S8x2048x4_0_0_2052) (broadcastInDim S8x2048x4 ![0, 1, 2] bcast_S1x1x4_S8x2048x4_0_1_2 (broadcastInDim S1x1x4 ![2] bcast_S4_S1x1x4_2 A6))

/-- The log-sigmoid of four gates. -/
def lsR (Z : FVec Ideal S8x2048x4 .f32) : FVec Ideal S8x2048x4 .f32 :=
  Host.negf (select (cmpf .une (subf (Host.negf Z) (broadcastInDim S8x2048x4 ![] bcast_S_S8x2048x4 (constant S_ .f32 0x00000000#32))) (subf (Host.negf Z) (broadcastInDim S8x2048x4 ![] bcast_S_S8x2048x4 (constant S_ .f32 0x00000000#32)))) (addf (Host.negf Z) (broadcastInDim S8x2048x4 ![] bcast_S_S8x2048x4 (constant S_ .f32 0x00000000#32))) (addf (maximumf (Host.negf Z) (broadcastInDim S8x2048x4 ![] bcast_S_S8x2048x4 (constant S_ .f32 0x00000000#32))) (Host.log1p (Host.exp (Host.negf (Host.absf (subf (Host.negf Z) (broadcastInDim S8x2048x4 ![] bcast_S_S8x2048x4 (constant S_ .f32 0x00000000#32)))))))))

/-- The first result. -/
def out0 (A0 : FVec Ideal S16384x1024 .f32) (A1 : FVec Ideal S8x6x1024 .f32) (A2 : FVec Ideal S1x1024x3608 .f32) (A3 : FVec Ideal S4x1024 .f32) (A4 : FVec Ideal S1024 .f32) : FVec Ideal S16384x3584 .bf16 :=
  shapeCast _ (truncf .bf16 ((concatenate S8x2048x3584 2 [⟨S8x2048x512, ((extractStridedSlice S8x2048x512 ![0, 0, 0] (actR (preR A0 A1 A2 A3 A4)) slices_S8x2048x1024_S8x2048x512_0_0_0))⟩, ⟨S8x2048x512, ((mulf (extractStridedSlice S8x2048x512 ![0, 0, 512] (actR (preR A0 A1 A2 A3 A4)) slices_S8x2048x1024_S8x2048x512_0_0_512) (broadcastInDim S8x2048x512 ![] bcast_S_S8x2048x512 (constant S_ .f32 0x3DB504F3#32))))⟩, ⟨S8x2048x1024, ((extractStridedSlice S8x2048x1024 ![0, 0, 1024] (projR A0 A1 A2) slices_S8x2048x3608_S8x2048x1024_0_0_1024))⟩, ⟨S8x2048x256, ((mulf (extractStridedSlice S8x2048x256 ![0, 0, 2056] (projR A0 A1 A2) slices_S8x2048x3608_S8x2048x256_0_0_2056) (broadcastInDim S8x2048x256 ![] bcast_S_S8x2048x256 (constant S_ .f32 0x3E000000#32))))⟩, ⟨S8x2048x1280, ((extractStridedSlice S8x2048x1280 ![0, 0, 2312] (projR A0 A1 A2) slices_S8x2048x3608_S8x2048x1280_0_0_2312))⟩] concatenates_S8x2048x512_S8x2048x512_S8x2048x1024_S8x2048x256_S8x2048x1280_S8x2048x3584_d2)) bitsLt_bf16_f32) shapeCasts_S8x2048x3584_S16384x3584

/-- The second result. -/
def out1 (A0 : FVec Ideal S16384x1024 .f32) (A1 : FVec Ideal S8x6x1024 .f32) (A2 : FVec Ideal S1x1024x3608 .f32) (A7 : FVec Ideal S16x256 .f32) (A8 : FVec Ideal S256 .f32) : FVec Ideal S16384x256 .f32 :=
  shapeCast _ (Host.divf (lsL (zaR A0 A1 A2 A7 A8)) (broadcastInDim S8x2048x256 ![] bcast_S_S8x2048x256 (constant S_ .f32 0x41800000#32))) shapeCasts_S8x2048x256_S16384x256

/-- The third result. -/
def out2 (A0 : FVec Ideal S16384x1024 .f32) (A1 : FVec Ideal S8x6x1024 .f32) (A2 : FVec Ideal S1x1024x3608 .f32) (A5 : FVec Ideal S4 .f32) (A6 : FVec Ideal S4 .f32) : FVec Ideal S64x16x256 .f32 :=
  transpose S64x16x256 [0, 2, 1] (shapeCast _ ((concatenate S8x2048x16 2 [⟨S8x2048x4, ((addf (extractStridedSlice S8x2048x4 ![0, 0, 2048] (projR A0 A1 A2) slices_S8x2048x3608_S8x2048x4_0_0_2048) (broadcastInDim S8x2048x4 ![0, 1, 2] bcast_S1x1x4_S8x2048x4_0_1_2 (broadcastInDim S1x1x4 ![2] bcast_S4_S1x1x4_2 A5))))⟩, ⟨S8x2048x4, ((broadcastInDim S8x2048x4 ![] bcast_S_S8x2048x4 (constant S_ .f32 0x00000000#32)))⟩, ⟨S8x2048x4, ((lsR (zfR A0 A1 A2 A6)))⟩, ⟨S8x2048x4, ((lsR (broadcastInDim S8x2048x4 ![] bcast_S_S8x2048x4 (constant S_ .f32 0x00000000#32))))⟩] concatenates_S8x2048x4_S8x2048x4_S8x2048x4_S8x2048x4_S8x2048x16_d2)) shapeCasts_S8x2048x16_S64x256x16) transposes_S64x256x16_S64x16x256_0_2_1

variable (m : (b : Loc nD τ sig) → Buf (Elt Ideal) b) (c : Dev nD)

/-- The first result in steps. -/
theorem res0 : Value.res_main_v78 m c = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
/-- The second result in steps. -/
theorem res1 : Value.res_main_v79 m c = out1 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) := rfl
/-- The third result in steps. -/
theorem res2 : Value.res_main_v81 m c = out2 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := rfl

end Inproj.Ref
-- ==== Proof.InRef.lean ====
module

public import proofs.«01_k».proof.Proof.InRefDefs
public import Idealize.ShloMosaic.Lib.Pointwise

@[expose] public section

/-!
The reference's results, entry by entry.
-/

set_option maxRecDepth 16384

noncomputable section

namespace Inproj

open Idealize.ShloMosaic Idealize.SL.Sem

/-- The arguments of the call. -/
def argsOf (A0 : FVec Ideal Cert.InprojRefIdeal.S16384x1024 .f32) (A1 : FVec Ideal Cert.InprojRefIdeal.S8x6x1024 .f32)
    (A2 : FVec Ideal Cert.InprojRefIdeal.S1x1024x3608 .f32) (A3 : FVec Ideal Cert.InprojRefIdeal.S4x1024 .f32)
    (A4 : FVec Ideal Cert.InprojRefIdeal.S1024 .f32) (A5 A6 : FVec Ideal Cert.InprojRefIdeal.S4 .f32)
    (A7 : FVec Ideal Cert.InprojRefIdeal.S16x256 .f32) (A8 : FVec Ideal Cert.InprojRefIdeal.S256 .f32) : Args where
  X b s d := A0 (ix2 ⟨b.val * 2048 + s.val, by omega⟩ d)
  M b k d := A1 (ix3 b k d)
  A d c := A2 (ix3 0 d c)
  C k j := A3 (ix2 k j)
  B j := A4 (ix1 j)
  Bi k := A5 (ix1 k)
  Bf k := A6 (ix1 k)
  Ga k j := A7 (ix2 k j)
  Gb j := A8 (ix1 j)

namespace Ref

open Cert.InprojRefIdeal Cert.InprojRefIdeal.Gen Idealize.ShloMosaic.TcCoe

variable (A0 : FVec Ideal S16384x1024 .f32) (A1 : FVec Ideal S8x6x1024 .f32) (A2 : FVec Ideal S1x1024x3608 .f32) (A3 : FVec Ideal S4x1024 .f32)
  (A4 : FVec Ideal S1024 .f32) (A5 A6 : FVec Ideal S4 .f32) (A7 : FVec Ideal S16x256 .f32) (A8 : FVec Ideal S256 .f32)

local notation "AA" => argsOf A0 A1 A2 A3 A4 A5 A6 A7 A8

/-- The projections. -/
theorem projR_apply (b : Fin 8) (s : Fin 2048) (c : Fin 3608) : projR A0 A1 A2 (ix3 b s c) = PP (AA) b s c := by
  pointwise [projR]
  rfl

/-- The log-sigmoid as the reference writes it. -/
theorem lsg_ref (z : EReal) : -(Scalar.select (Ideal.cmp .une (-z - 0) (-z - 0)) (-z + 0)
    (max (-z) 0 + Ideal.log1p (Ideal.exp (-(max (-z - 0) (-(-z - 0))))))) = lsg z := by
  have e : Ideal.cmp .une (-z - 0) (-z - 0) = 0#1 := by simp [Ideal.cmp]
  rw [e]
  have e2 : ∀ x y : EReal, Scalar.select 0#1 x y = y := fun x y => by simp [Scalar.select]
  rw [e2, sub_zero, neg_neg, max_comm (-z) z]
  unfold lsg Ideal.log1p
  rw [zero_sub]
  have hl : Ideal.log 1 = 0 := by rw [← EReal.coe_one, Ideal.log_coe, if_neg (by norm_num), Real.log_one, EReal.coe_zero]
  have hr : ∃ r : ℝ, Ideal.log (1 + Ideal.exp (-(max z (-z)))) = (r : EReal) := by
    induction z with
    | bot => exact ⟨0, by simp [hl]⟩
    | top => exact ⟨0, by simp [hl]⟩
    | coe x =>
      have hm : max (x : EReal) (-(x : EReal)) = ((max x (-x) : ℝ) : EReal) := by
        rw [← EReal.coe_neg]; exact (EReal.coe_strictMono.monotone.map_max).symm
      rw [hm, ← EReal.coe_neg, Ideal.exp_coe, ← EReal.coe_one, ← EReal.coe_add, Ideal.log_coe, if_neg (by have := Real.exp_pos (-(max x (-x))); linarith)]
      exact ⟨_, rfl⟩
  obtain ⟨r, hr⟩ := hr
  rw [hr, EReal.neg_add (Or.inr (EReal.coe_ne_top r)) (Or.inr (EReal.coe_ne_bot r))]
  congr 1
  rcases le_total z 0 with h | h
  · rw [min_eq_left h, max_eq_left (by simpa using h), neg_neg]
  · rw [min_eq_right h, max_eq_right (by simpa using h), neg_zero]

/-- The log-sigmoid of the low rank gate. -/
theorem lsL_apply (Z : FVec Ideal S8x2048x256 .f32) (b : Fin 8) (s : Fin 2048) (j : Fin 256) : lsL Z (ix3 b s j) = lsg (Z (ix3 b s j)) := by
  rw [← lsg_ref]
  pointwise [lsL]
  rfl

/-- The log-sigmoid of the gates. -/
theorem lsR_apply (Z : FVec Ideal S8x2048x4 .f32) (b : Fin 8) (s : Fin 2048) (j : Fin 4) : lsR Z (ix3 b s j) = lsg (Z (ix3 b s j)) := by
  rw [← lsg_ref]
  pointwise [lsR]
  rfl

/-- The activation. -/
theorem actR_apply (P : FVec Ideal S8x2048x1024 .f32) (b : Fin 8) (s : Fin 2048) (j : Fin 1024) : actR P (ix3 b s j) = act (P (ix3 b s j)) := by
  unfold act
  rw [zero_sub]
  pointwise [actR]

/-- The low rank gate. -/
theorem zaR_apply (b : Fin 8) (s : Fin 2048) (j : Fin 256) : zaR A0 A1 A2 A7 A8 (ix3 b s j)
    = (∑ k : Fin 16, PP (AA) b s ⟨3592 + k.val, by omega⟩ * (AA).Ga k j) + (AA).Gb j := by
  simp only [← projR_apply]
  unfold zaR
  generalize projR A0 A1 A2 = P
  pointwise []
  rfl

/-- The forget gates. -/
theorem zfR_apply (b : Fin 8) (s : Fin 2048) (j : Fin 4) : zfR A0 A1 A2 A6 (ix3 b s j)
    = PP (AA) b s ⟨2052 + j.val, by omega⟩ + (AA).Bf j := by
  simp only [← projR_apply]
  unfold zfR
  generalize projR A0 A1 A2 = P
  pointwise []
  rfl

/-- The convolution. -/
theorem preR_apply (b : Fin 8) (s : Fin 2048) (j : Fin 1024) : preR A0 A1 A2 A3 A4 (ix3 b s j) = pre (AA) b s j := by
  unfold pre pst
  simp only [← projR_apply]
  unfold preR
  generalize projR A0 A1 A2 = P
  pointwise []
  have hz : (FloatOps.sitofp (F := Ideal) FTy.f32 0#32 : EReal) = 0 := by simp [FloatOps.sitofp]
  have hp : ∀ (k v : ℕ) (hv : v + k = s.val + 3) (hk : 0 < k) (f : Fin 2048 → EReal),
      (if h : 3 ≤ v ∧ v - 3 < 2048 then f ⟨v - 3, h.2⟩ else FloatOps.sitofp (F := Ideal) FTy.f32 0#32)
        = if s.val < k then 0 else f ⟨s.val - k, by omega⟩ := by
    intro k v hv hk f
    by_cases h : s.val < k
    · rw [dif_neg (by omega), if_pos h, hz]
    · rw [dif_pos (by omega), if_neg h]
      exact congrArg f (Fin.ext (by show v - 3 = s.val - k; omega))
  have e3 := hp 3 s.val (by omega) (by omega) (fun x => P (ix3 b x ⟨j.val, by omega⟩))
  have e2 := hp 2 (1 + s.val) (by omega) (by omega) (fun x => P (ix3 b x ⟨j.val, by omega⟩))
  have e1 := hp 1 (2 + s.val) (by omega) (by omega) (fun x => P (ix3 b x ⟨j.val, by omega⟩))
  rw [e3, e2, e1]
  simp only [argsOf]
  abel

/-- The first result. -/
theorem out0_apply (b : Fin 8) (s : Fin 2048) (c : Fin 3584) : out0 A0 A1 A2 A3 A4 (ix2 ⟨2048 * b.val + s.val, by omega⟩ c) = oa (AA) b s c := by
  unfold oa
  simp only [← projR_apply, ← preR_apply, ← actR_apply]
  unfold out0
  generalize actR (preR A0 A1 A2 A3 A4) = Q
  generalize projR A0 A1 A2 = P
  pointwise []
  by_cases h1 : c.val < 512
  · rw [dif_pos h1, dif_pos h1]
  rw [dif_neg h1, dif_neg h1]
  by_cases h2 : c.val < 1024
  · rw [dif_pos (by omega : c.val - 512 < 512), dif_pos h2]
    exact congrArg (fun i => Q i * _) (by idx_ext)
  rw [dif_neg (by omega : ¬c.val - 512 < 512), dif_neg h2]
  by_cases h3 : c.val < 2048
  · rw [dif_pos (by omega : c.val - 512 - 512 < 1024), dif_pos h3]
    exact congrArg P (by idx_ext)
  rw [dif_neg (by omega : ¬c.val - 512 - 512 < 1024), dif_neg h3]
  by_cases h4 : c.val < 2304
  · rw [dif_pos (by omega : c.val - 512 - 512 - 1024 < 256), dif_pos h4]
    exact congrArg (fun i => P i * _) (by idx_ext)
  rw [dif_neg (by omega : ¬c.val - 512 - 512 - 1024 < 256), dif_neg h4]
  exact congrArg P (by idx_ext)

/-- The second result. -/
theorem out1_apply (b : Fin 8) (s : Fin 2048) (j : Fin 256) : out1 A0 A1 A2 A7 A8 (ix2 ⟨2048 * b.val + s.val, by omega⟩ j) = la (AA) b s j := by
  unfold la
  simp only [← zaR_apply, ← lsL_apply]
  unfold out1
  generalize lsL (zaR A0 A1 A2 A7 A8) = Q
  pointwise []
  have e : Ideal.ofBits FTy.f32 1098907648#32 = ((16 : ℝ) : EReal) := by
    simp [Ideal.ofBits, Ideal.ieee]; rw [← EReal.coe_mul]; norm_num
  have e2 : Ideal.ofBits FTy.f32 1031798784#32 = ((1 / 16 : ℝ) : EReal) := by
    simp [Ideal.ofBits, Ideal.ieee]; rw [← EReal.coe_mul]; norm_num
  rw [e, e2, Ideal.div_coe (by norm_num)]

/-- The third result. -/
theorem out2_apply (b : Fin 8) (k : Fin 8) (g : Fin 16) (r : Fin 256) : out2 A0 A1 A2 A5 A6 (ix3 ⟨8 * b.val + k.val, by omega⟩ g r)
    = g3 (AA) b ⟨256 * k.val + r.val, by omega⟩ g := by
  unfold g3
  simp only [← projR_apply]
  unfold out2
  pointwise []
  have hk : (8 * b.val + k.val) % 8 * 256 + r.val = 256 * k.val + r.val := by omega
  simp only [hk, lsR_apply, zfR_apply A0 A1 A2 A3 A4 A5 A6 A7 A8]
  by_cases h1 : g.val < 4
  · rw [dif_pos h1, dif_pos h1]
    rfl
  rw [dif_neg h1, dif_neg h1]
  by_cases h2 : g.val < 8
  · rw [dif_pos (by omega : g.val - 4 < 4), dif_pos h2]
  rw [dif_neg (by omega : ¬g.val - 4 < 4), dif_neg h2]
  by_cases h3 : g.val < 12
  · rw [dif_pos (by omega : g.val - 4 - 4 < 4), dif_pos h3, projR_apply A0 A1 A2 A3 A4 A5 A6 A7 A8]
    refine congrArg lsg (congrArg₂ (· + ·) (congrArg _ (Fin.ext ?_)) (congrArg _ (Fin.ext ?_)))
    · show 2052 + (g.val - 4 - 4) = 2044 + g.val
      omega
    · show g.val - 4 - 4 = g.val - 8
      omega
  rw [dif_neg (by omega : ¬g.val - 4 - 4 < 4), dif_neg h3]
  refine congrArg lsg ?_
  pointwise []

end Ref

end Inproj
-- ==== Proof.InBlocks.lean ====
module

public import proofs.«01_k».proof.Proof.InRef
public import proofs.«01_k».proof.Proof.InMath
public import proofs.«01_k».proof.Proof.Gen.InprojIdeal.Value
public import Idealize.ShloMosaic.Lib.Pipeline.ValueKit
public import Idealize.ShloMosaic.Lib.Pointwise

@[expose] public section

/-!
The input blocks of a grid point of the projection kernel as entries of the arguments.
-/

set_option maxRecDepth 16384

noncomputable section

namespace Inproj

open Idealize.ShloMosaic Idealize.SL.Sem
open Cert.InprojIdeal Cert.InprojIdeal.Gen Idealize.ShloMosaic.TcCoe

variable (m : (b : Loc nD τ sig) → Buf (Elt Ideal) b) (c : Dev nD)

/-- Which block each window takes at a point. -/
theorem idx : ∀ t : Fin cfg0.N, win0_0.index t = ![t.val, 0] ∧ win0_1.index t = ![t.val / 4, 0, 0]
    ∧ win0_2.index t = ![0, 0, 0] ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, _)

/-- There are thirty-two points. -/
theorem lt32 (t : Fin cfg0.N) : t.val < 32 := lt_of_lt_of_eq t.isLt N_0

/-- Argument 0. -/
def arg0 : FVec Ideal S16384x1024 .f32 := m ((c.tc : Thread nD τ).loc main_arg0)
/-- Argument 1. -/
def arg1 : FVec Ideal S8x6x1024 .f32 := m ((c.tc : Thread nD τ).loc main_arg1)
/-- Argument 2. -/
def arg2 : FVec Ideal S1x1024x3608 .f32 := m ((c.tc : Thread nD τ).loc main_arg2)
/-- Argument 3. -/
def arg3 : FVec Ideal S4x1024 .f32 := m ((c.tc : Thread nD τ).loc main_arg3)
/-- Argument 4. -/
def arg4 : FVec Ideal S1024 .f32 := m ((c.tc : Thread nD τ).loc main_arg4)
/-- Argument 5. -/
def arg5 : FVec Ideal S4 .f32 := m ((c.tc : Thread nD τ).loc main_arg5)
/-- Argument 6. -/
def arg6 : FVec Ideal S4 .f32 := m ((c.tc : Thread nD τ).loc main_arg6)
/-- Argument 7. -/
def arg7 : FVec Ideal S16x256 .f32 := m ((c.tc : Thread nD τ).loc main_arg7)
/-- Argument 8. -/
def arg8 : FVec Ideal S256 .f32 := m ((c.tc : Thread nD τ).loc main_arg8)

/-- The arguments as functions of their coordinates. -/
def aa : Args := argsOf (arg0 m c) (arg1 m c) (arg2 m c) (arg3 m c) (arg4 m c) (arg5 m c) (arg6 m c) (arg7 m c) (arg8 m c)

/-- The padding's word. -/
theorem zero_word : (FloatOps.sitofp .f32 0#32 : Ideal .f32) = (0 : EReal) := by
  simp [FloatOps.sitofp]

/-- The padded decay projection. -/
theorem V1 (k : Fin 128) (j : Fin 256) :
    (show FVec Ideal S128x256 .bf16 from V m c main_v1) (ix2 k j) = if h : 16 ≤ k.val ∧ k.val < 32 then arg7 m c (ix2 ⟨k.val - 16, by omega⟩ j) else 0 := by
  simp only [V, hostOps0, hostOps0_1, hostOps0_2, hostOps0_3, hostOps0_4, hostOps0_5, hostOps0_6, List.flatten_cons, List.flatten_nil, List.cons_append, List.nil_append, List.append_nil]
  entry_read
  try simp -implicitDefEqProofs only [StableHlo.TRef.toBuf, StableHlo.TRef.ofBuf, cast_cast, cast_eq]
  pointwise [arg7]
  by_cases h : 16 ≤ k.val ∧ k.val < 32
  · rw [dif_pos ⟨h.1, by omega⟩, dif_pos h]
  · rw [dif_neg (fun h' => h ⟨h'.1, by omega⟩), dif_neg h]
    exact zero_word

/-- The gates' biases. -/
theorem V5 (k : Fin 16) :
    (show FVec Ideal S16x1 .f32 from V m c main_v5) (ix2 k 0) = if h : k.val < 4 then arg5 m c (ix1 ⟨k.val, h⟩)
      else if h : 8 ≤ k.val ∧ k.val < 12 then arg6 m c (ix1 ⟨k.val - 8, by omega⟩) else 0 := by
  simp only [V, hostOps0, hostOps0_1, hostOps0_2, hostOps0_3, hostOps0_4, hostOps0_5, hostOps0_6, List.flatten_cons, List.flatten_nil, List.cons_append, List.nil_append, List.append_nil]
  entry_read
  try simp -implicitDefEqProofs only [StableHlo.TRef.toBuf, StableHlo.TRef.ofBuf, cast_cast, cast_eq]
  pointwise [arg5, arg6]
  by_cases h1 : k.val < 4
  · rw [dif_pos (by omega), dif_pos h1, dif_pos h1]
  rw [dif_neg h1]
  by_cases h2 : k.val < 8
  · rw [dif_pos h2, dif_neg h1, dif_neg (by omega)]
    exact zero_word
  rw [dif_neg h2]
  by_cases h3 : k.val < 12
  · rw [dif_pos (by omega), dif_pos ⟨by omega, h3⟩]
  · rw [dif_neg (by omega), dif_neg (by omega)]
    exact zero_word

/-- The transposed weights. -/
theorem V6 (k : Fin 3608) (d : Fin 1024) :
    (show FVec Ideal S1x3608x1024 .f32 from V m c main_v6) (ix3 0 k d) = arg2 m c (ix3 0 d k) := by
  simp only [V, hostOps0, hostOps0_1, hostOps0_2, hostOps0_3, hostOps0_4, hostOps0_5, hostOps0_6, List.flatten_cons, List.flatten_nil, List.cons_append, List.nil_append, List.append_nil]
  entry_read
  try simp -implicitDefEqProofs only [StableHlo.TRef.toBuf, StableHlo.TRef.ofBuf, cast_cast, cast_eq]
  pointwise [arg2]

/-- The convolution's bias. -/
theorem V7 (j : Fin 1024) : (show FVec Ideal S1x1024 .f32 from V m c main_v7) (ix2 0 j) = arg4 m c (ix1 j) := by
  simp only [V, hostOps0, hostOps0_1, hostOps0_2, hostOps0_3, hostOps0_4, hostOps0_5, hostOps0_6, List.flatten_cons, List.flatten_nil, List.cons_append, List.nil_append, List.append_nil]
  entry_read
  try simp -implicitDefEqProofs only [StableHlo.TRef.toBuf, StableHlo.TRef.ofBuf, cast_cast, cast_eq]
  pointwise [arg4]

/-- The decay's bias. -/
theorem V8 (j : Fin 256) : (show FVec Ideal S1x256 .f32 from V m c main_v8) (ix2 0 j) = arg8 m c (ix1 j) := by
  simp only [V, hostOps0, hostOps0_1, hostOps0_2, hostOps0_3, hostOps0_4, hostOps0_5, hostOps0_6, List.flatten_cons, List.flatten_nil, List.cons_append, List.nil_append, List.append_nil]
  entry_read
  try simp -implicitDefEqProofs only [StableHlo.TRef.toBuf, StableHlo.TRef.ofBuf, cast_cast, cast_eq]
  pointwise [arg8]

/-- The rows. -/
theorem blk0 (t : Fin cfg0.N) (r : Fin 512) (d : Fin 1024) :
    iblk m c 0 t (ix2 r d) = (aa m c).X ⟨t.val / 4, by have := lt32 t; omega⟩ (at_ ⟨t.val % 4, by omega⟩ r) d := by
  have h := lt32 t
  have e : V m c main_arg0 = arg0 m c := V_main_arg0 m c
  show _ = arg0 m c (ix2 ⟨t.val / 4 * 2048 + (512 * (t.val % 4) + r.val), by omega⟩ d)
  rw [← e]
  blk_ext [iblk, idx t]

/-- The modulation. -/
theorem blk1 (t : Fin cfg0.N) (k : Fin 6) (d : Fin 1024) :
    iblk m c 1 t (ix3 0 k d) = (aa m c).M ⟨t.val / 4, by have := lt32 t; omega⟩ k d := by
  have h := lt32 t
  have e : V m c main_arg1 = arg1 m c := V_main_arg1 m c
  show _ = arg1 m c (ix3 ⟨t.val / 4, by omega⟩ k d)
  rw [← e]
  blk_ext [iblk, idx t]

/-- The weights. -/
theorem blk2 (t : Fin cfg0.N) (k : Fin 3608) (d : Fin 1024) : iblk m c 2 t (ix3 0 k d) = (aa m c).A d k := by
  refine Eq.trans ?_ (V6 m c k d)
  blk_ext [iblk, idx t]

/-- The convolution's taps. -/
theorem blk3 (t : Fin cfg0.N) (k : Fin 4) (j : Fin 1024) : iblk m c 3 t (ix2 k j) = (aa m c).C k j := by
  have e : V m c main_arg3 = arg3 m c := V_main_arg3 m c
  show _ = arg3 m c (ix2 k j)
  rw [← e]
  blk_ext [iblk, idx t]

/-- The convolution's bias. -/
theorem blk4 (t : Fin cfg0.N) (j : Fin 1024) : iblk m c 4 t (ix2 0 j) = (aa m c).B j := by
  refine Eq.trans ?_ (V7 m c j)
  blk_ext [iblk, idx t]

/-- The decay's projection. -/
theorem blk5 (t : Fin cfg0.N) (k : Fin 128) (j : Fin 256) :
    iblk m c 5 t (ix2 k j) = if h : 16 ≤ k.val ∧ k.val < 32 then (aa m c).Ga ⟨k.val - 16, by omega⟩ j else 0 := by
  refine Eq.trans ?_ (V1 m c k j)
  blk_ext [iblk, idx t]

/-- The decay's bias. -/
theorem blk6 (t : Fin cfg0.N) (j : Fin 256) : iblk m c 6 t (ix2 0 j) = (aa m c).Gb j := by
  refine Eq.trans ?_ (V8 m c j)
  blk_ext [iblk, idx t]

/-- The gates' biases. -/
theorem blk7 (t : Fin cfg0.N) (k : Fin 16) :
    iblk m c 7 t (ix2 k 0) = if h : k.val < 4 then (aa m c).Bi ⟨k.val, h⟩
      else if h : 8 ≤ k.val ∧ k.val < 12 then (aa m c).Bf ⟨k.val - 8, by omega⟩ else 0 := by
  refine Eq.trans ?_ (V5 m c k)
  blk_ext [iblk, idx t]

end Inproj
-- ==== Proof.InSweep.lean ====
module

public import proofs.«01_k».proof.Proof.InPieces
public import proofs.«01_k».proof.Proof.InBlocks

@[expose] public section

/-!
The projection kernel's results: by induction over the grid points, every entry is the stated one.
-/

set_option maxRecDepth 16384

noncomputable section

namespace Inproj

open Idealize.ShloMosaic Idealize.SL.Sem Idealize.ShloMosaic.Tactic
open Cert.InprojIdeal Cert.InprojIdeal.Gen Cert.InprojIdeal.Value Idealize.ShloMosaic.TcCoe

variable (m : (b : Loc nD τ sig) → Buf (Elt Ideal) b) (c : Dev nD)

/-- The sequence of a point. -/
def sq (t : Fin cfg0.N) : Fin 8 := ⟨t.val / 4, by have := lt32 t; omega⟩
/-- Its place in it. -/
def pl (t : Fin cfg0.N) : Fin 4 := ⟨t.val % 4, by omega⟩

/-- What a point reads. -/
abbrev rdAt (t : Fin cfg0.N) (W : Wts Ideal) (H : Past Ideal) : Rd Ideal := reads (ms0_0 t) (hs0_0 t) (ms0_1 t) (hs0_1 t) (ms0_3 t) (hs0_3 t) (ms0_4 t) (hs0_4 t) (ms0_5 t) (hs0_5 t) (ms0_6 t) (hs0_6 t) (ms0_7 t) (hs0_7 t) (iblk m c 0 t) (iblk m c 1 t) (iblk m c 3 t) (iblk m c 4 t) (iblk m c 5 t) (iblk m c 6 t) (iblk m c 7 t) W H

/-- A point reads its rows, the weights and the rows before. -/
theorem holds (t : Fin cfg0.N) (W : Wts Ideal) (H : Past Ideal) (hW : HoldsW (aa m c) W)
    (hH : (∀ r j, H.p3 (ix2 r j) = pst (aa m c) 3 (sq t) (at_ (pl t) r) j) ∧ (∀ r j, H.p2 (ix2 r j) = pst (aa m c) 2 (sq t) (at_ (pl t) r) j)
      ∧ (∀ r j, H.p1 (ix2 r j) = pst (aa m c) 1 (sq t) (at_ (pl t) r) j)) :
    Holds (aa m c) (sq t) (pl t) (rdAt m c t W H) := by
  refine ⟨fun r d => ?_, fun k d => ?_, fun j => ?_, fun j => ?_, fun j => ?_, fun j => ?_, fun j => ?_, fun k j => ?_, fun j => ?_, fun k => ?_, fun k => ?_,
    hW, hH.1, hH.2.1, hH.2.2⟩
  · exact ((hs0_0 t).readAt_unread (iblk m c 0 t) _ _).trans ((congrArg (iblk m c 0 t) (by idx_ext)).trans (blk0 m c t r d))
  · exact ((hs0_1 t).readAt_unread (iblk m c 1 t) _ _).trans ((congrArg (iblk m c 1 t) (by idx_ext)).trans (blk1 m c t k d))
  · exact ((hs0_3 t).readAt_unread (iblk m c 3 t) _ _).trans ((congrArg (iblk m c 3 t) (by idx_ext)).trans (blk3 m c t 0 j))
  · exact ((hs0_3 t).readAt_unread (iblk m c 3 t) _ _).trans ((congrArg (iblk m c 3 t) (by idx_ext)).trans (blk3 m c t 1 j))
  · exact ((hs0_3 t).readAt_unread (iblk m c 3 t) _ _).trans ((congrArg (iblk m c 3 t) (by idx_ext)).trans (blk3 m c t 2 j))
  · exact ((hs0_3 t).readAt_unread (iblk m c 3 t) _ _).trans ((congrArg (iblk m c 3 t) (by idx_ext)).trans (blk3 m c t 3 j))
  · exact ((hs0_4 t).readAt_unread (iblk m c 4 t) _ _).trans ((congrArg (iblk m c 4 t) (by idx_ext)).trans (blk4 m c t j))
  · exact ((hs0_5 t).readAt_unread (iblk m c 5 t) _ _).trans ((congrArg (iblk m c 5 t) (by idx_ext)).trans (blk5 m c t k j))
  · exact ((hs0_6 t).readAt_unread (iblk m c 6 t) _ _).trans ((congrArg (iblk m c 6 t) (by idx_ext)).trans (blk6 m c t j))
  · refine ((hs0_7 t).readAt_unread (iblk m c 7 t) _ _).trans ((congrArg (iblk m c 7 t) (by idx_ext)).trans ((blk7 m c t ⟨k.val, by omega⟩).trans ?_))
    by_cases h : k.val < 4
    · rw [dif_pos h, dif_pos h]
    · rw [dif_neg h, dif_neg h, dif_neg (by simp only; omega)]
  · refine ((hs0_7 t).readAt_unread (iblk m c 7 t) _ _).trans ((congrArg (iblk m c 7 t) (by idx_ext)).trans ((blk7 m c t ⟨8 + k.val, by omega⟩).trans ?_))
    by_cases h : k.val < 4
    · rw [dif_neg (by simp only; omega), dif_pos (by simp only; omega), dif_pos h]
      exact congrArg (aa m c).Bf (Fin.ext (by simp only; omega))
    · rw [dif_neg (by simp only; omega), dif_neg (by simp only; omega), dif_neg h]

/-- The rows a point stores are made of its blocks. -/
theorem rx (t : Fin cfg0.N) (r : Fin 512) (d : Fin 1024) :
    rd (hs0_0 t) (iblk m c 0 t) (Rect.unit (s := S512x1024) ![0, 0] S512x1024.size inb_S512x1024_S512x1024_0_0) (ix2 r d) = (aa m c).X (sq t) (at_ (pl t) r) d :=
  ((hs0_0 t).readAt_unread (iblk m c 0 t) _ _).trans ((congrArg (iblk m c 0 t) (by idx_ext)).trans (blk0 m c t r d))

/-- And of the modulation. -/
theorem rm (t : Fin cfg0.N) (k : Fin 6) (d : Fin 1024) :
    rd (hs0_1 t) (iblk m c 1 t) (Rect.unit (s := S1x6x1024) ![0, 0, 0] S1x6x1024.size inb_S1x6x1024_S1x6x1024_0_0_0) (ix3 0 k d) = (aa m c).M (sq t) k d :=
  ((hs0_1 t).readAt_unread (iblk m c 1 t) _ _).trans ((congrArg (iblk m c 1 t) (by idx_ext)).trans (blk1 m c t k d))

/-- What a point leaves: its results, the rows carried on and the kept weights. -/
def Left (t : Fin cfg0.N) (o : Vec Ideal S512x3584 .bf16 × Vec Ideal S512x256 .f32 × Vec Ideal S2x16x256 .f32 × Vec Ideal S520x1024 .f32 × Vec Ideal S1024x3712 .bf16) : Prop :=
  (∀ (r : Fin 512) (j : Fin 3584), o.1 (ix2 r j) = oa (aa m c) (sq t) (at_ (pl t) r) j) ∧
  (∀ (r : Fin 512) (j : Fin 256), o.2.1 (ix2 r j) = la (aa m c) (sq t) (at_ (pl t) r) j) ∧
  (∀ (k : Fin 2) (g : Fin 16) (r : Fin 256), o.2.2.1 (ix3 k g r) = g3 (aa m c) (sq t) (at_ (pl t) ⟨256 * k.val + r.val, by omega⟩) g) ∧
  (∀ (y : Fin 8) (j : Fin 1024), o.2.2.2.1 (ix2 ⟨y.val, by omega⟩ j) = PP (aa m c) (sq t) (at_ (pl t) ⟨504 + y.val, by omega⟩) ⟨j.val, by omega⟩) ∧
  (∀ (d : Fin 1024) (k : Fin 3712), o.2.2.2.2 (ix2 d k) = WW (aa m c) d k)

set_option maxHeartbeats 1000000 in
/-- The first point. -/
theorem left_A (t : Fin cfg0.N) (h0 : t.val % 32 = 0) (h1 : t.val % 4 = 0) : Left m c t (outsAt0 m c t.val t.isLt) := by
  rw [outsAt0_A m c t h0 h1]
  have hW := loadsA_apply c (ms0_2 t) (hs0_2 t) scM0_1 (iblk m c 2 t) (blk2 m c t)
  have hH := holds m c t _ _ hW (halosC_apply scM0_0 _ _ _ (rx m c t) (rm m c t) hW.qk h1)
  refine ⟨fun r j => ?_, fun r j => ?_, fun k g r => ?_, fun y j => ?_, fun d k => ?_⟩
  · dsimp only
    have e := (congrFun (out0_A_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) ((hcond0_1 t).mpr h1)) _).trans (canonO hH r j)
    exact e
  · dsimp only
    have e := (congrFun (out0_A_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) ((hcond0_1 t).mpr h1)) _).trans (canonL hH r j)
    exact e
  · dsimp only
    have e := (congrFun (out0_A_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) ((hcond0_1 t).mpr h1)) _).trans (canonG hH k g r)
    exact e
  · dsimp only
    have e := (congrFun (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) ((hcond0_1 t).mpr h1)) _).trans (canonH hH _ y j)
    exact e
  · dsimp only
    have e := (congrFun (sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) ((hcond0_1 t).mpr h1)) _).trans (canonW (ms0_2 t) (hs0_2 t) (iblk m c 2 t) (blk2 m c t) d k)
    exact e

set_option maxHeartbeats 1000000 in
/-- A point inside a sequence. -/
theorem left_B (t : Fin cfg0.N) (h0 : ¬t.val % 32 = 0) (h1 : ¬t.val % 4 = 0)
    (ih : Left m c ⟨t.val - 1, Nat.lt_of_le_of_lt (Nat.sub_le _ _) t.isLt⟩ (outsAt0 m c (t.val - 1) (Nat.lt_of_le_of_lt (Nat.sub_le _ _) t.isLt))) :
    Left m c t (outsAt0 m c t.val t.isLt) := by
  rw [outsAt0_B m c t h0 h1]
  obtain ⟨-, -, -, hP, hW0⟩ := ih
  generalize outsAt0 m c (t.val - 1) (Nat.lt_of_le_of_lt (Nat.sub_le _ _) t.isLt) = o at hP hW0 ⊢
  have hW := loadsB_apply scM0_1 (Memref.isWhole_whole _) o.2.2.2.2 hW0
  have hP' : ∀ (y : Fin 8) (j : Fin 1024), o.2.2.2.1 (ix2 ⟨y.val, by omega⟩ j) = PP (aa m c) (sq t) ⟨512 * (pl t).val + y.val - 8, by have := (pl t).isLt; omega⟩ ⟨j.val, by omega⟩ := by
    intro y j
    refine (hP y j).trans ?_
    have h8 := lt32 t
    congr 1
    · apply Fin.ext; simp only [sq]; omega
    · apply Fin.ext; simp only [pl, at_]; omega
  have hH := holds m c t _ _ hW (halosB_apply scM0_0 (Memref.isWhole_whole _) o.2.2.2.1 _ _ _ (rx m c t) (rm m c t) hW.qk h1 hP')
  refine ⟨fun r j => ?_, fun r j => ?_, fun k g r => ?_, fun y j => ?_, fun d k => ?_⟩
  · dsimp only
    have e := (congrFun (out0_B_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) o.2.2.2.1 o.2.2.2.2 (fun h => h0 ((hcond0_0 t).mp h)) (fun h => h1 ((hcond0_1 t).mp h))) _).trans (canonO hH r j)
    exact e
  · dsimp only
    have e := (congrFun (out0_B_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) o.2.2.2.1 o.2.2.2.2 (fun h => h0 ((hcond0_0 t).mp h)) (fun h => h1 ((hcond0_1 t).mp h))) _).trans (canonL hH r j)
    exact e
  · dsimp only
    have e := (congrFun (out0_B_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) o.2.2.2.1 o.2.2.2.2 (fun h => h0 ((hcond0_0 t).mp h)) (fun h => h1 ((hcond0_1 t).mp h))) _).trans (canonG hH k g r)
    exact e
  · dsimp only
    have e := (congrFun (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) o.2.2.2.1 o.2.2.2.2 (fun h => h0 ((hcond0_0 t).mp h)) (fun h => h1 ((hcond0_1 t).mp h))) _).trans (canonH hH _ y j)
    exact e
  · dsimp only
    exact hW0 d k

set_option maxHeartbeats 1000000 in
/-- The first point of a later sequence. -/
theorem left_C (t : Fin cfg0.N) (h0 : ¬t.val % 32 = 0) (h1 : t.val % 4 = 0)
    (ih : Left m c ⟨t.val - 1, Nat.lt_of_le_of_lt (Nat.sub_le _ _) t.isLt⟩ (outsAt0 m c (t.val - 1) (Nat.lt_of_le_of_lt (Nat.sub_le _ _) t.isLt))) :
    Left m c t (outsAt0 m c t.val t.isLt) := by
  rw [outsAt0_C m c t h0 h1]
  obtain ⟨-, -, -, hP, hW0⟩ := ih
  generalize outsAt0 m c (t.val - 1) (Nat.lt_of_le_of_lt (Nat.sub_le _ _) t.isLt) = o at hP hW0 ⊢
  have hW := loadsB_apply scM0_1 (Memref.isWhole_whole _) o.2.2.2.2 hW0
  have hH := holds m c t _ _ hW (halosC_apply scM0_0 _ _ _ (rx m c t) (rm m c t) hW.qk h1)
  refine ⟨fun r j => ?_, fun r j => ?_, fun k g r => ?_, fun y j => ?_, fun d k => ?_⟩
  · dsimp only
    have e := (congrFun (out0_C_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) o.2.2.2.2 (fun h => h0 ((hcond0_0 t).mp h)) ((hcond0_1 t).mpr h1)) _).trans (canonO hH r j)
    exact e
  · dsimp only
    have e := (congrFun (out0_C_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) o.2.2.2.2 (fun h => h0 ((hcond0_0 t).mp h)) ((hcond0_1 t).mpr h1)) _).trans (canonL hH r j)
    exact e
  · dsimp only
    have e := (congrFun (out0_C_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) o.2.2.2.2 (fun h => h0 ((hcond0_0 t).mp h)) ((hcond0_1 t).mpr h1)) _).trans (canonG hH k g r)
    exact e
  · dsimp only
    have e := (congrFun (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) o.2.2.2.2 (fun h => h0 ((hcond0_0 t).mp h)) ((hcond0_1 t).mpr h1)) _).trans (canonH hH _ y j)
    exact e
  · dsimp only
    exact hW0 d k

/-- Every point. -/
theorem left (n : ℕ) : ∀ hn : n < cfg0.N, Left m c ⟨n, hn⟩ (outsAt0 m c n hn) := by
  induction n with
  | zero => exact fun hn => left_A m c ⟨0, hn⟩ (Nat.zero_mod 32) (Nat.zero_mod 4)
  | succ n ih =>
    intro hn
    by_cases h0 : (n + 1) % 32 = 0
    · exact left_A m c ⟨n + 1, hn⟩ h0 (by simp only; omega)
    · by_cases h1 : (n + 1) % 4 = 0
      · exact left_C m c ⟨n + 1, hn⟩ h0 h1 (ih (Nat.lt_of_succ_lt hn))
      · exact left_B m c ⟨n + 1, hn⟩ h0 h1 (ih (Nat.lt_of_succ_lt hn))

/-- Every entry of the first result. -/
theorem G8_eq (b : Fin 8) (s : Fin 2048) (j : Fin 3584) :
    (show FVec Ideal S16384x3584 .bf16 from G8 m c) (ix2 ⟨2048 * b.val + s.val, by omega⟩ j) = oa (aa m c) b s j := by
  have hp : pt8Of (ix2 ⟨2048 * b.val + s.val, by omega⟩ j : S16384x3584.Idx) = 4 * b.val + s.val / 512 := by
    show 1 * ((2048 * b.val + s.val) / 512 - 0) + 1 * (j.val / 3584 - 0) = _
    omega
  have hlt : 4 * b.val + s.val / 512 < cfg0.N := by have e : cfg0.N = 32 := N_0; omega
  have hl : loc8Of (ix2 ⟨2048 * b.val + s.val, by omega⟩ j : S16384x3584.Idx) = ix2 ⟨s.val % 512, by omega⟩ j := by
    idx_ext
  show G8 m c (ix2 ⟨2048 * b.val + s.val, by omega⟩ j : S16384x3584.Idx) = _
  unfold G8
  rw [dif_pos (by rw [hp]; exact hlt), hl, fold0_congr m c _ _ _ (by omega) hp, ← outsAt0_sweep m c _ hlt]
  refine ((left m c _ hlt).1 _ _).trans ?_
  congr 1
  · apply Fin.ext; simp only [sq]; omega
  · apply Fin.ext; simp only [pl, at_]; omega

/-- Every entry of the second result. -/
theorem G9_eq (b : Fin 8) (s : Fin 2048) (j : Fin 256) :
    (show FVec Ideal S16384x256 .f32 from G9 m c) (ix2 ⟨2048 * b.val + s.val, by omega⟩ j) = la (aa m c) b s j := by
  have hp : pt9Of (ix2 ⟨2048 * b.val + s.val, by omega⟩ j : S16384x256.Idx) = 4 * b.val + s.val / 512 := by
    show 1 * ((2048 * b.val + s.val) / 512 - 0) + 1 * (j.val / 256 - 0) = _
    omega
  have hlt : 4 * b.val + s.val / 512 < cfg0.N := by have e : cfg0.N = 32 := N_0; omega
  have hl : loc9Of (ix2 ⟨2048 * b.val + s.val, by omega⟩ j : S16384x256.Idx) = ix2 ⟨s.val % 512, by omega⟩ j := by
    idx_ext
  show G9 m c (ix2 ⟨2048 * b.val + s.val, by omega⟩ j : S16384x256.Idx) = _
  unfold G9
  rw [dif_pos (by rw [hp]; exact hlt), hl, fold0_congr m c _ _ _ (by omega) hp, ← outsAt0_sweep m c _ hlt]
  refine ((left m c _ hlt).2.1 _ _).trans ?_
  congr 1
  · apply Fin.ext; simp only [sq]; omega
  · apply Fin.ext; simp only [pl, at_]; omega

/-- Every entry of the third result. -/
theorem G10_eq (b k : Fin 8) (g : Fin 16) (r : Fin 256) :
    (show FVec Ideal S64x16x256 .f32 from G10 m c) (ix3 ⟨8 * b.val + k.val, by omega⟩ g r) = g3 (aa m c) b ⟨256 * k.val + r.val, by omega⟩ g := by
  have hp : pt10Of (ix3 ⟨8 * b.val + k.val, by omega⟩ g r : S64x16x256.Idx) = 4 * b.val + k.val / 2 := by
    show 1 * ((8 * b.val + k.val) / 2 - 0) + 1 * (g.val / 16 - 0) + 1 * (r.val / 256 - 0) = _
    omega
  have hlt : 4 * b.val + k.val / 2 < cfg0.N := by have e : cfg0.N = 32 := N_0; omega
  have hl : loc10Of (ix3 ⟨8 * b.val + k.val, by omega⟩ g r : S64x16x256.Idx) = ix3 ⟨k.val % 2, by omega⟩ g r := by
    idx_ext
  show G10 m c (ix3 ⟨8 * b.val + k.val, by omega⟩ g r : S64x16x256.Idx) = _
  unfold G10
  rw [dif_pos (by rw [hp]; exact hlt), hl, fold0_congr m c _ _ _ (by omega) hp, ← outsAt0_sweep m c _ hlt]
  refine ((left m c _ hlt).2.2.1 _ _ _).trans ?_
  congr 1
  · apply Fin.ext; simp only [sq]; omega
  · apply Fin.ext; simp only [pl, at_]; omega

end Inproj
-- ==== Proof.InTie.lean ====
module

public import proofs.«01_k».proof.Proof.InSweep

@[expose] public section

/-!
The projection kernel's three results are the reference's.
-/

set_option maxRecDepth 16384

noncomputable section

namespace Inproj

open Idealize.ShloMosaic Idealize.SL.Sem
open Idealize.ShloMosaic.TcCoe

variable (m : (b : Loc Cert.InprojIdeal.nD Cert.InprojIdeal.τ Cert.InprojIdeal.sig) → Buf (Elt Ideal) b)
  (m' : (b : Loc Cert.InprojRefIdeal.nD Cert.InprojRefIdeal.τ Cert.InprojRefIdeal.sig) → Buf (Elt Ideal) b)
  (c : Dev Cert.InprojIdeal.nD)

/-- The two programs are given the same arguments. -/
def Agree : Prop :=
  m' ((c.tc : Thread Cert.InprojRefIdeal.nD Cert.InprojRefIdeal.τ).loc Cert.InprojRefIdeal.main_arg0) = arg0 m c
  ∧ m' ((c.tc : Thread Cert.InprojRefIdeal.nD Cert.InprojRefIdeal.τ).loc Cert.InprojRefIdeal.main_arg1) = arg1 m c
  ∧ m' ((c.tc : Thread Cert.InprojRefIdeal.nD Cert.InprojRefIdeal.τ).loc Cert.InprojRefIdeal.main_arg2) = arg2 m c
  ∧ m' ((c.tc : Thread Cert.InprojRefIdeal.nD Cert.InprojRefIdeal.τ).loc Cert.InprojRefIdeal.main_arg3) = arg3 m c
  ∧ m' ((c.tc : Thread Cert.InprojRefIdeal.nD Cert.InprojRefIdeal.τ).loc Cert.InprojRefIdeal.main_arg4) = arg4 m c
  ∧ m' ((c.tc : Thread Cert.InprojRefIdeal.nD Cert.InprojRefIdeal.τ).loc Cert.InprojRefIdeal.main_arg5) = arg5 m c
  ∧ m' ((c.tc : Thread Cert.InprojRefIdeal.nD Cert.InprojRefIdeal.τ).loc Cert.InprojRefIdeal.main_arg6) = arg6 m c
  ∧ m' ((c.tc : Thread Cert.InprojRefIdeal.nD Cert.InprojRefIdeal.τ).loc Cert.InprojRefIdeal.main_arg7) = arg7 m c
  ∧ m' ((c.tc : Thread Cert.InprojRefIdeal.nD Cert.InprojRefIdeal.τ).loc Cert.InprojRefIdeal.main_arg8) = arg8 m c

variable (hag : Agree m m' c)
include hag

/-- The first result. -/
theorem tie0 : Cert.InprojRefIdeal.Value.res_main_v78 m' c = Cert.InprojIdeal.Value.G8 m c := by
  obtain ⟨h0, h1, h2, h3, h4, h5, h6, h7, h8⟩ := hag
  rw [Ref.res0, h0, h1, h2, h3, h4]
  funext i
  idx_vars i
  obtain ⟨b, s, rfl⟩ : ∃ (b : Fin 8) (s : Fin 2048), i0 = ⟨2048 * b.val + s.val, by omega⟩ :=
    ⟨⟨i0.val / 2048, by omega⟩, ⟨i0.val % 2048, by omega⟩, by ext; simp only; omega⟩
  exact (Ref.out0_apply (arg0 m c) (arg1 m c) (arg2 m c) (arg3 m c) (arg4 m c) (arg5 m c) (arg6 m c) (arg7 m c) (arg8 m c) b s i1).trans (G8_eq m c b s i1).symm

/-- The second result. -/
theorem tie1 : Cert.InprojRefIdeal.Value.res_main_v79 m' c = Cert.InprojIdeal.Value.G9 m c := by
  obtain ⟨h0, h1, h2, h3, h4, h5, h6, h7, h8⟩ := hag
  rw [Ref.res1, h0, h1, h2, h7, h8]
  funext i
  idx_vars i
  obtain ⟨b, s, rfl⟩ : ∃ (b : Fin 8) (s : Fin 2048), i0 = ⟨2048 * b.val + s.val, by omega⟩ :=
    ⟨⟨i0.val / 2048, by omega⟩, ⟨i0.val % 2048, by omega⟩, by ext; simp only; omega⟩
  exact (Ref.out1_apply (arg0 m c) (arg1 m c) (arg2 m c) (arg3 m c) (arg4 m c) (arg5 m c) (arg6 m c) (arg7 m c) (arg8 m c) b s i1).trans (G9_eq m c b s i1).symm

/-- The third result. -/
theorem tie2 : Cert.InprojRefIdeal.Value.res_main_v81 m' c = Cert.InprojIdeal.Value.G10 m c := by
  obtain ⟨h0, h1, h2, h3, h4, h5, h6, h7, h8⟩ := hag
  rw [Ref.res2, h0, h1, h2, h5, h6]
  funext i
  idx_vars i
  obtain ⟨b, k, rfl⟩ : ∃ (b k : Fin 8), i0 = ⟨8 * b.val + k.val, by omega⟩ :=
    ⟨⟨i0.val / 8, by omega⟩, ⟨i0.val % 8, by omega⟩, by ext; simp only; omega⟩
  exact (Ref.out2_apply (arg0 m c) (arg1 m c) (arg2 m c) (arg3 m c) (arg4 m c) (arg5 m c) (arg6 m c) (arg7 m c) (arg8 m c) b k i1 i2).trans (G10_eq m c b k i1 i2).symm

end Inproj
-- ==== Proof.OutSpec.lean ====
module

public import Idealize.ShloMosaic.PureOps.Ideal

@[expose] public section

/-!
What the output projection computes, over the extended reals: the mixed rows projected, added to the residual, and
normalized over the features; and the normalized rows modulated for the next half of the layer.
-/

set_option maxRecDepth 16384

noncomputable section

namespace Outproj

open Idealize.ShloMosaic

/-- The arguments. -/
structure Args where
  /-- the first half of the mixed rows -/
  P : Fin 8 → Fin 2048 → Fin 512 → EReal
  /-- the second half of the mixed rows -/
  Q : Fin 8 → Fin 2048 → Fin 512 → EReal
  /-- the weights -/
  W : Fin 1024 → Fin 1024 → EReal
  /-- the residual -/
  X : Fin 8 → Fin 2048 → Fin 1024 → EReal
  /-- the modulation -/
  M : Fin 8 → Fin 6 → Fin 1024 → EReal
  /-- the normalization's scale -/
  G : Fin 1024 → EReal
  /-- the normalization's shift -/
  B : Fin 1024 → EReal

/-- The mean over the features. -/
def mean (f : Fin 1024 → EReal) : EReal := Ideal.div (∑ d, f d) (Ideal.ofBits .f32 0x44800000#32)
/-- What is left after the mean. -/
def cen (f : Fin 1024 → EReal) (d : Fin 1024) : EReal := f d - mean f
/-- The variance over the features. -/
def var (f : Fin 1024 → EReal) : EReal := mean (fun d => cen f d * cen f d)
/-- The reciprocal of the deviation. -/
def rs (f : Fin 1024 → EReal) : EReal := Ideal.rsqrt (var f + Ideal.ofBits .f32 0x3727C5AC#32)

variable (a : Args)

/-- The two halves side by side. -/
def hh (b : Fin 8) (s : Fin 2048) (k : Fin 1024) : EReal :=
  if h : k.val < 512 then a.P b s ⟨k.val, h⟩ else a.Q b s ⟨k.val - 512, by omega⟩
/-- Their projection. -/
def yy (b : Fin 8) (s : Fin 2048) (d : Fin 1024) : EReal := ∑ k : Fin 1024, hh a b s k * a.W k d
/-- The residual with the gated projection. -/
def zz (b : Fin 8) (s : Fin 2048) (d : Fin 1024) : EReal :=
  Ideal.ofBits .f32 0x3F9837F0#32 * a.X b s d + (1 + a.M b 2 d) * yy a b s d
/-- The first result: the normalized rows. -/
def x1 (b : Fin 8) (s : Fin 2048) (d : Fin 1024) : EReal := cen (zz a b s) d * rs (zz a b s) * a.G d + a.B d
/-- The second result: the modulated rows. -/
def uu (b : Fin 8) (s : Fin 2048) (d : Fin 1024) : EReal := x1 a b s d * (1 + a.M b 4 d) + a.M b 3 d

/-- The projection as the sum of the two halves' projections. -/
theorem yy_split (b : Fin 8) (s : Fin 2048) (d : Fin 1024) :
    yy a b s d = (∑ k : Fin 512, a.P b s k * a.W ⟨k.val, by omega⟩ d) + ∑ k : Fin 512, a.Q b s k * a.W ⟨512 + k.val, by omega⟩ d := by
  unfold yy
  refine (Fin.sum_univ_add (a := 512) (b := 512) (fun k : Fin (512 + 512) => hh a b s k * a.W k d)).trans ?_
  refine congrArg₂ (· + ·) (Finset.sum_congr rfl fun k _ => ?_) (Finset.sum_congr rfl fun k _ => ?_)
  · refine congrArg₂ (· * ·) ?_ rfl
    unfold hh
    exact dif_pos k.isLt
  · refine congrArg₂ (· * ·) ?_ rfl
    unfold hh
    refine (dif_neg (by show ¬ 512 + k.val < 512; omega)).trans (congrArg (a.Q b s) (Fin.ext (by show 512 + k.val - 512 = k.val; omega)))

end Outproj
-- ==== Proof.OutBody.lean ====
module

public import proofs.«01_k».proof.Proof.Gen.OutprojIdeal.Frame

@[expose] public section

/-!
One grid point of the output projection kernel: what it reads and the stores of the two cases of its body (the first
point and every other point), which are the same stores of what each case reads.
-/

set_option maxRecDepth 16384

noncomputable section

namespace Outproj

open Idealize.ShloMosaic Idealize.SL.Sem Idealize.ShloMosaic.Tactic
open Cert.OutprojIdeal Cert.OutprojIdeal.Gen

variable {F : FTy → Type} [FloatOps F]

/-- The weights a point loads, in two halves. -/
structure Wts (F : FTy → Type) where
  /-- the rows of the first half -/
  lo : Vec F S512x1024 .bf16
  /-- the rows of the second half -/
  hi : Vec F S512x1024 .bf16

/-- Everything a point reads. -/
structure Rd (F : FTy → Type) where
  /-- the modulation -/
  md : Vec F S1x6x1024 .f32
  /-- the normalization's scale -/
  g : Vec F S1x1024 .f32
  /-- the normalization's shift -/
  b : Vec F S1x1024 .f32
  /-- block 0 of the first half -/
  p0 : Vec F S256x512 .bf16
  /-- block 1 of the first half -/
  p1 : Vec F S256x512 .bf16
  /-- block 2 of the first half -/
  p2 : Vec F S256x512 .bf16
  /-- block 3 of the first half -/
  p3 : Vec F S256x512 .bf16
  /-- block 0 of the second half -/
  q0 : Vec F S256x512 .bf16
  /-- block 1 of the second half -/
  q1 : Vec F S256x512 .bf16
  /-- block 2 of the second half -/
  q2 : Vec F S256x512 .bf16
  /-- block 3 of the second half -/
  q3 : Vec F S256x512 .bf16
  /-- block 0 of the residual -/
  x0 : Vec F S256x1024 .f32
  /-- block 1 of the residual -/
  x1 : Vec F S256x1024 .f32
  /-- block 2 of the residual -/
  x2 : Vec F S256x1024 .f32
  /-- block 3 of the residual -/
  x3 : Vec F S256x1024 .f32
  /-- the weights -/
  W : Wts F

/-- The modulation's rows. -/
def m4 (R : Rd F) : FVec F S6x1024 .f32 := k0_pay7 R.md
/-- The projection of block 0. -/
def y0 (R : Rd F) : FVec F S256x1024 .f32 := k0_pay8 R.p0 R.W.lo R.q0 R.W.hi
/-- The projection of block 1. -/
def y1 (R : Rd F) : FVec F S256x1024 .f32 := k0_pay9 R.p1 R.W.lo R.q1 R.W.hi
/-- The projection of block 2. -/
def y2 (R : Rd F) : FVec F S256x1024 .f32 := k0_pay11 (k0_pay10 R.p2 R.W.lo) R.q2 R.W.hi
/-- The projection of block 3. -/
def y3 (R : Rd F) : FVec F S256x1024 .f32 := k0_pay12 R.p3 R.W.lo R.q3 R.W.hi
/-- Block 0 centred and scaled. -/
def n0 (R : Rd F) : FVec F S256x1024 .f32 := k0_pay13 (m4 R) (y0 R) R.x0
/-- Block 1 centred. -/
def z1 (R : Rd F) : FVec F S256x1024 .f32 := k0_pay17 (m4 R) (y1 R) R.x1
/-- The reciprocal deviations of block 1. -/
def r1 (R : Rd F) : FVec F S256x1 .f32 := k0_pay18 (m4 R) (y1 R) R.x1
/-- Block 2 centred. -/
def z2 (R : Rd F) : FVec F S256x1024 .f32 := k0_pay22 (m4 R) (y2 R) R.x2
/-- The variances of block 2. -/
def v2 (R : Rd F) : FVec F S256x1 .f32 := k0_pay23 (m4 R) (y2 R) R.x2
/-- Block 3 centred. -/
def z3 (R : Rd F) : FVec F S256x1024 .f32 := k0_pay28 (m4 R) (y3 R) R.x3
/-- The variances of block 3. -/
def v3 (R : Rd F) : FVec F S256x1 .f32 := k0_pay29 (m4 R) (y3 R) R.x3

/-- The stores of the first result. -/
def listX (R : Rd F) : List (View.Piece (Elt F) S1024x1024 .f32) :=
  [⟨Rect.unit (s := S1024x1024) ![768, 0] S256x1024.size inb_S1024x1024_S256x1024_768_0, k0_pay30 R.g R.b (z3 R) (v3 R)⟩,
   ⟨Rect.unit (s := S1024x1024) ![512, 0] S256x1024.size inb_S1024x1024_S256x1024_512_0, k0_pay25 R.g R.b (z2 R) (v2 R) k0_pay24⟩,
   ⟨Rect.unit (s := S1024x1024) ![256, 0] S256x1024.size inb_S1024x1024_S256x1024_256_0, k0_pay19 R.g R.b (z1 R) (r1 R)⟩,
   ⟨Rect.unit (s := S1024x1024) ![0, 0] S256x1024.size inb_S1024x1024_S256x1024_0_0, k0_pay14 R.g R.b (n0 R)⟩]
/-- The stores of the second result. -/
def listU (R : Rd F) : List (View.Piece (Elt F) S1024x1024 .bf16) :=
  [⟨Rect.unit (s := S1024x1024) ![768, 0] S256x1024.size inb_S1024x1024_S256x1024_768_0, k0_pay32 (m4 R) R.g R.b (z3 R) (v3 R)⟩,
   ⟨Rect.unit (s := S1024x1024) ![512, 0] S256x1024.size inb_S1024x1024_S256x1024_512_0, k0_pay27 (m4 R) R.g R.b (z2 R) (v2 R) k0_pay24⟩,
   ⟨Rect.unit (s := S1024x1024) ![256, 0] S256x1024.size inb_S1024x1024_S256x1024_256_0, k0_pay21 (m4 R) R.g R.b (z1 R) (r1 R)⟩,
   ⟨Rect.unit (s := S1024x1024) ![0, 0] S256x1024.size inb_S1024x1024_S256x1024_0_0, k0_pay16 (m4 R) R.g R.b (n0 R)⟩]

/-- Reading a rectangle of a buffer's whole contents. -/
abbrev rd {s : Shape} {e : EltTy} {arg : Memref sig .tc .vmem s e} (h : arg.IsWhole) (x : Vec F s e) (r : Rect s) :
    r.shape.Idx → Elt F e := arg.view.readAt (Elt F) r.toLoadRect (h.unread x)

/-- What a point reads, from its input blocks and the weights. -/
def reads (arg1 : Memref sig .tc .vmem S1024x512 .bf16) (harg1 : arg1.IsWhole) (arg2 : Memref sig .tc .vmem S1024x512 .bf16) (harg2 : arg2.IsWhole) (arg4 : Memref sig .tc .vmem S1024x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x1024 .f32) (harg7 : arg7.IsWhole) (x0 : Vec F S1024x512 .bf16) (x1 : Vec F S1024x512 .bf16) (x3 : Vec F S1024x1024 .f32) (x4 : Vec F S1x6x1024 .f32) (x5 : Vec F S1x1024 .f32) (x6 : Vec F S1x1024 .f32) (W : Wts F) : Rd F where
  md := rd harg5 x4 (Rect.unit (s := S1x6x1024) ![0, 0, 0] S1x6x1024.size inb_S1x6x1024_S1x6x1024_0_0_0)
  g := rd harg6 x5 (Rect.unit (s := S1x1024) ![0, 0] S1x1024.size inb_S1x1024_S1x1024_0_0)
  b := rd harg7 x6 (Rect.unit (s := S1x1024) ![0, 0] S1x1024.size inb_S1x1024_S1x1024_0_0)
  p0 := rd harg1 x0 (Rect.unit (s := S1024x512) ![0, 0] S256x512.size inb_S1024x512_S256x512_0_0)
  p1 := rd harg1 x0 (Rect.unit (s := S1024x512) ![256, 0] S256x512.size inb_S1024x512_S256x512_256_0)
  p2 := rd harg1 x0 (Rect.unit (s := S1024x512) ![512, 0] S256x512.size inb_S1024x512_S256x512_512_0)
  p3 := rd harg1 x0 (Rect.unit (s := S1024x512) ![768, 0] S256x512.size inb_S1024x512_S256x512_768_0)
  q0 := rd harg2 x1 (Rect.unit (s := S1024x512) ![0, 0] S256x512.size inb_S1024x512_S256x512_0_0)
  q1 := rd harg2 x1 (Rect.unit (s := S1024x512) ![256, 0] S256x512.size inb_S1024x512_S256x512_256_0)
  q2 := rd harg2 x1 (Rect.unit (s := S1024x512) ![512, 0] S256x512.size inb_S1024x512_S256x512_512_0)
  q3 := rd harg2 x1 (Rect.unit (s := S1024x512) ![768, 0] S256x512.size inb_S1024x512_S256x512_768_0)
  x0 := rd harg4 x3 (Rect.unit (s := S1024x1024) ![0, 0] S256x1024.size inb_S1024x1024_S256x1024_0_0)
  x1 := rd harg4 x3 (Rect.unit (s := S1024x1024) ![256, 0] S256x1024.size inb_S1024x1024_S256x1024_256_0)
  x2 := rd harg4 x3 (Rect.unit (s := S1024x1024) ![512, 0] S256x1024.size inb_S1024x1024_S256x1024_512_0)
  x3 := rd harg4 x3 (Rect.unit (s := S1024x1024) ![768, 0] S256x1024.size inb_S1024x1024_S256x1024_768_0)
  W := W

/-- The weights a later point loads: the carried ones. -/
def loadsB (arg14 : Memref sig .tc .vmem S1024x1024 .bf16) (harg14 : arg14.IsWhole) (xs0 : Vec F S1024x1024 .bf16) : Wts F where
  lo := rd harg14 xs0 (Rect.unit (s := S1024x1024) ![0, 0] S512x1024.size inb_S1024x1024_S512x1024_0_0)
  hi := rd harg14 xs0 (Rect.unit (s := S1024x1024) ![512, 0] S512x1024.size inb_S1024x1024_S512x1024_512_0)

/-- The weights the first point loads: those it has just stored. -/
def loadsA (c : Dev nD) (arg3 : Memref sig .tc .vmem S1024x1024 .f32) (harg3 : arg3.IsWhole) (arg14 : Memref sig .tc .vmem S1024x1024 .bf16) (x2 : Vec F S1024x1024 .f32) : Wts F where
  lo := arg14.view.readCov (kernelRun0_A.sl.HS0_1 c arg3 harg3 x2) (Rect.unit (s := S1024x1024) ![0, 0] S512x1024.size inb_S1024x1024_S512x1024_0_0).toLoadRect
  hi := arg14.view.readCov (kernelRun0_A.sl.HS0_1 c arg3 harg3 x2) (Rect.unit (s := S1024x1024) ![512, 0] S512x1024.size inb_S1024x1024_S512x1024_512_0).toLoadRect

variable (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x4x1024 .f32) (harg8 : arg8.IsWhole) (arg9 : Memref sig .tc .vmem S1x32x1024 .f32) (harg9 : arg9.IsWhole) (arg10 : Memref sig .tc .vmem S1x128 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x256 .f32) (harg13 : arg13.IsWhole) (arg14 : Memref sig .tc .vmem S1024x1024 .bf16) (harg14 : arg14.IsWhole) (arg15 : Memref sig .tc .vmem S1024x256 .bf16) (harg15 : arg15.IsWhole)
  (x0 : Vec F S1024x512 .bf16) (x1 : Vec F S1024x512 .bf16) (x2 : Vec F S1024x1024 .f32) (x3 : Vec F S1024x1024 .f32) (x4 : Vec F S1x6x1024 .f32) (x5 : Vec F S1x1024 .f32) (x6 : Vec F S1x1024 .f32) (x7 : Vec F S1x4x1024 .f32) (x8 : Vec F S1x32x1024 .f32) (x9 : Vec F S1x128 .f32)

/-- The first result's stores. -/
theorem listX_B (xs0 : Vec F S1024x1024 .bf16) (xs1 : Vec F S1024x256 .bf16) (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1).1 = listX (reads arg1 harg1 arg2 harg2 arg4 harg4 arg5 harg5 arg6 harg6 arg7 harg7 x0 x1 x3 x4 x5 x6 (loadsB arg14 harg14 xs0)) := by
  sl_kernel_rfl

/-- The second result's stores. -/
theorem listU_B (xs0 : Vec F S1024x1024 .bf16) (xs1 : Vec F S1024x256 .bf16) (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1).2.1 = listU (reads arg1 harg1 arg2 harg2 arg4 harg4 arg5 harg5 arg6 harg6 arg7 harg7 x0 x1 x3 x4 x5 x6 (loadsB arg14 harg14 xs0)) := by
  sl_kernel_rfl

/-- The first result's stores. -/
theorem listX_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1 = listX (reads arg1 harg1 arg2 harg2 arg4 harg4 arg5 harg5 arg6 harg6 arg7 harg7 x0 x1 x3 x4 x5 x6 (loadsA c arg3 harg3 arg14 x2)) := by
  sl_kernel_rfl

/-- The second result's stores. -/
theorem listU_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1 = listU (reads arg1 harg1 arg2 harg2 arg4 harg4 arg5 harg5 arg6 harg6 arg7 harg7 x0 x1 x3 x4 x5 x6 (loadsA c arg3 harg3 arg14 x2)) := by
  sl_kernel_rfl

/-- The weights' store. -/
theorem listW_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.2.2.1 = kernelRun0_A.sl.HS0_1 c arg3 harg3 x2 := by
  sl_kernel_rfl

end Outproj
-- ==== Proof.OutMath.lean ====
module

public import proofs.«01_k».proof.Proof.OutSpec
public import proofs.«01_k».proof.Proof.OutBody
public import Idealize.ShloMosaic.Lib.Pointwise
public import Idealize.ShloMosaic.PureOps.Ideal

@[expose] public section

/-!
What one grid point of the output projection kernel stores, over the extended reals, in terms of what it reads.
-/

set_option maxRecDepth 16384

noncomputable section

namespace Outproj

open Idealize.ShloMosaic Idealize.SL.Sem Idealize.ShloMosaic.Tactic
open Cert.OutprojIdeal Cert.OutprojIdeal.Gen

/-- The rows to normalize, from what a block reads. -/
def zf (M : FVec Ideal S6x1024 .f32) (y : FVec Ideal S256x1024 .f32) (x : Vec Ideal S256x1024 .f32) (r : Fin 256) (d : Fin 1024) : EReal :=
  Ideal.ofBits .f32 0x3F9837F0#32 * x (ix2 r d) + (1 + M (ix2 2 d)) * y (ix2 r d)

section
variable (M : FVec Ideal S6x1024 .f32) (y : FVec Ideal S256x1024 .f32) (x : Vec Ideal S256x1024 .f32) (g b : Vec Ideal S1x1024 .f32)
  (n : FVec Ideal S256x1024 .f32) (v e : FVec Ideal S256x1 .f32) (r : Fin 256) (d : Fin 1024)

/-- The first block centred and scaled. -/
theorem pay13_apply : k0_pay13 M y x (ix2 r d) = cen (zf M y x r) d * rs (zf M y x r) := by
  unfold rs var cen mean zf
  pointwise [k0_pay13]
/-- A block centred. -/
theorem pay17_apply : k0_pay17 M y x (ix2 r d) = cen (zf M y x r) d := by
  unfold cen mean zf
  pointwise [k0_pay17]
/-- A block centred. -/
theorem pay22_apply : k0_pay22 M y x (ix2 r d) = cen (zf M y x r) d := by
  unfold cen mean zf
  pointwise [k0_pay22]
/-- A block centred. -/
theorem pay28_apply : k0_pay28 M y x (ix2 r d) = cen (zf M y x r) d := by
  unfold cen mean zf
  pointwise [k0_pay28]
/-- The second block's reciprocal deviations. -/
theorem pay18_apply : k0_pay18 M y x (ix2 r 0) = rs (zf M y x r) := by
  unfold rs var cen mean zf
  pointwise [k0_pay18, k0_pay17]
/-- A block's variances. -/
theorem pay23_apply : k0_pay23 M y x (ix2 r 0) = var (zf M y x r) := by
  unfold var cen mean zf
  pointwise [k0_pay23, k0_pay22]
/-- A block's variances. -/
theorem pay29_apply : k0_pay29 M y x (ix2 r 0) = var (zf M y x r) := by
  unfold var cen mean zf
  pointwise [k0_pay29, k0_pay28]
/-- A block of the first result. -/
theorem pay14_apply : k0_pay14 g b n (ix2 r d) = n (ix2 r d) * g (ix2 0 d) + b (ix2 0 d) := by
  pointwise [k0_pay14]
/-- A block of the second result. -/
theorem pay16_apply : k0_pay16 M g b n (ix2 r d) = (n (ix2 r d) * g (ix2 0 d) + b (ix2 0 d)) * (1 + M (ix2 4 d)) + M (ix2 3 d) := by
  pointwise [k0_pay16, k0_pay15, k0_pay14]
/-- A block of the first result. -/
theorem pay19_apply : k0_pay19 g b n v (ix2 r d) = n (ix2 r d) * v (ix2 r 0) * g (ix2 0 d) + b (ix2 0 d) := by
  pointwise [k0_pay19]
/-- A block of the second result. -/
theorem pay21_apply : k0_pay21 M g b n v (ix2 r d) = (n (ix2 r d) * v (ix2 r 0) * g (ix2 0 d) + b (ix2 0 d)) * (1 + M (ix2 4 d)) + M (ix2 3 d) := by
  pointwise [k0_pay21, k0_pay20, k0_pay19]
/-- A block of the first result. -/
theorem pay25_apply : k0_pay25 g b n v k0_pay24 (ix2 r d) = n (ix2 r d) * Ideal.rsqrt (v (ix2 r 0) + Ideal.ofBits .f32 0x3727C5AC#32) * g (ix2 0 d) + b (ix2 0 d) := by
  pointwise [k0_pay25, k0_pay24]
/-- A block of the second result. -/
theorem pay27_apply : k0_pay27 M g b n v k0_pay24 (ix2 r d) = (n (ix2 r d) * Ideal.rsqrt (v (ix2 r 0) + Ideal.ofBits .f32 0x3727C5AC#32) * g (ix2 0 d) + b (ix2 0 d)) * (1 + M (ix2 4 d)) + M (ix2 3 d) := by
  pointwise [k0_pay27, k0_pay26, k0_pay25, k0_pay24]
/-- A block of the first result. -/
theorem pay30_apply : k0_pay30 g b n v (ix2 r d) = n (ix2 r d) * Ideal.rsqrt (v (ix2 r 0) + Ideal.ofBits .f32 0x3727C5AC#32) * g (ix2 0 d) + b (ix2 0 d) := by
  pointwise [k0_pay30]
/-- A block of the second result. -/
theorem pay32_apply : k0_pay32 M g b n v (ix2 r d) = (n (ix2 r d) * Ideal.rsqrt (v (ix2 r 0) + Ideal.ofBits .f32 0x3727C5AC#32) * g (ix2 0 d) + b (ix2 0 d)) * (1 + M (ix2 4 d)) + M (ix2 3 d) := by
  pointwise [k0_pay32, k0_pay31, k0_pay30]
end

section
variable (p q : Vec Ideal S256x512 .bf16) (l h : Vec Ideal S512x1024 .bf16) (r : Fin 256) (d : Fin 1024)

/-- The projection of block 0. -/
theorem proj0_apply : k0_pay8 p l q h (ix2 r d) = (∑ k : Fin 512, p (ix2 r k) * l (ix2 k d)) + ∑ k : Fin 512, q (ix2 r k) * h (ix2 k d) := by
  pointwise [k0_pay8]
/-- The projection of block 1. -/
theorem proj1_apply : k0_pay9 p l q h (ix2 r d) = (∑ k : Fin 512, p (ix2 r k) * l (ix2 k d)) + ∑ k : Fin 512, q (ix2 r k) * h (ix2 k d) := by
  pointwise [k0_pay9]
/-- The projection of block 2. -/
theorem proj2_apply : k0_pay11 (k0_pay10 p l) q h (ix2 r d) = (∑ k : Fin 512, p (ix2 r k) * l (ix2 k d)) + ∑ k : Fin 512, q (ix2 r k) * h (ix2 k d) := by
  pointwise [k0_pay11, k0_pay10]
/-- The projection of block 3. -/
theorem proj3_apply : k0_pay12 p l q h (ix2 r d) = (∑ k : Fin 512, p (ix2 r k) * l (ix2 k d)) + ∑ k : Fin 512, q (ix2 r k) * h (ix2 k d) := by
  pointwise [k0_pay12]
end

/-- The weights a point loads are the argument's, in halves. -/
structure HoldsW (a : Args) (W : Wts Ideal) : Prop where
  /-- the first half's rows -/
  lo : ∀ k d, W.lo (ix2 k d) = a.W ⟨k.val, by omega⟩ d
  /-- the second half's rows -/
  hi : ∀ k d, W.hi (ix2 k d) = a.W ⟨512 + k.val, by omega⟩ d

/-- A row of the point as a position of its sequence. -/
abbrev at_ (q : Fin 2) (r : Fin 1024) : Fin 2048 := ⟨1024 * q.val + r.val, by omega⟩

/-- What a point of a sequence reads. -/
structure Holds (a : Args) (b : Fin 8) (q : Fin 2) (R : Rd Ideal) : Prop where
  /-- the modulation -/
  md : ∀ k d, R.md (ix3 0 k d) = a.M b k d
  /-- the scale -/
  g : ∀ d, R.g (ix2 0 d) = a.G d
  /-- the shift -/
  sh : ∀ d, R.b (ix2 0 d) = a.B d
  /-- block 0 -/
  p0 : ∀ r d, R.p0 (ix2 r d) = a.P b (at_ q ⟨0 + r.val, by omega⟩) d
  /-- block 1 -/
  p1 : ∀ r d, R.p1 (ix2 r d) = a.P b (at_ q ⟨256 + r.val, by omega⟩) d
  /-- block 2 -/
  p2 : ∀ r d, R.p2 (ix2 r d) = a.P b (at_ q ⟨512 + r.val, by omega⟩) d
  /-- block 3 -/
  p3 : ∀ r d, R.p3 (ix2 r d) = a.P b (at_ q ⟨768 + r.val, by omega⟩) d
  /-- block 0 -/
  q0 : ∀ r d, R.q0 (ix2 r d) = a.Q b (at_ q ⟨0 + r.val, by omega⟩) d
  /-- block 1 -/
  q1 : ∀ r d, R.q1 (ix2 r d) = a.Q b (at_ q ⟨256 + r.val, by omega⟩) d
  /-- block 2 -/
  q2 : ∀ r d, R.q2 (ix2 r d) = a.Q b (at_ q ⟨512 + r.val, by omega⟩) d
  /-- block 3 -/
  q3 : ∀ r d, R.q3 (ix2 r d) = a.Q b (at_ q ⟨768 + r.val, by omega⟩) d
  /-- block 0 -/
  x0 : ∀ r d, R.x0 (ix2 r d) = a.X b (at_ q ⟨0 + r.val, by omega⟩) d
  /-- block 1 -/
  x1 : ∀ r d, R.x1 (ix2 r d) = a.X b (at_ q ⟨256 + r.val, by omega⟩) d
  /-- block 2 -/
  x2 : ∀ r d, R.x2 (ix2 r d) = a.X b (at_ q ⟨512 + r.val, by omega⟩) d
  /-- block 3 -/
  x3 : ∀ r d, R.x3 (ix2 r d) = a.X b (at_ q ⟨768 + r.val, by omega⟩) d
  /-- the weights -/
  W : HoldsW a R.W

variable {a : Args} {b : Fin 8} {q : Fin 2} {R : Rd Ideal}

/-- The modulation's rows. -/
theorem m4_apply (h : Holds a b q R) (k : Fin 6) (d : Fin 1024) : m4 R (ix2 k d) = a.M b k d := by
  refine Eq.trans ?_ (h.md k d)
  unfold m4
  pointwise [k0_pay7]

/-- The projection of block 0. -/
theorem y0_apply (h : Holds a b q R) (r : Fin 256) (d : Fin 1024) : y0 R (ix2 r d) = yy a b (at_ q ⟨0 + r.val, by omega⟩) d := by
  rw [yy_split]
  refine (proj0_apply _ _ _ _ r d).trans ?_
  exact congrArg₂ (· + ·) (Finset.sum_congr rfl fun j _ => congrArg₂ (· * ·) (h.p0 r j) (h.W.lo j d))
    (Finset.sum_congr rfl fun j _ => congrArg₂ (· * ·) (h.q0 r j) (h.W.hi j d))

/-- The rows to normalize of block 0. -/
theorem zf0_apply (h : Holds a b q R) (r : Fin 256) : zf (m4 R) (y0 R) R.x0 r = zz a b (at_ q ⟨0 + r.val, by omega⟩) := by
  funext d
  unfold zf zz
  rw [m4_apply h, y0_apply h, h.x0]

/-- Block 0 of the first result. -/
theorem bx0_apply (h : Holds a b q R) (r : Fin 256) (d : Fin 1024) : k0_pay14 R.g R.b (n0 R) (ix2 r d) = x1 a b (at_ q ⟨0 + r.val, by omega⟩) d := by
  rw [pay14_apply, h.g, h.sh]
  unfold n0
  rw [pay13_apply, zf0_apply h]
  rfl

/-- Block 0 of the second result. -/
theorem bu0_apply (h : Holds a b q R) (r : Fin 256) (d : Fin 1024) : k0_pay16 (m4 R) R.g R.b (n0 R) (ix2 r d) = uu a b (at_ q ⟨0 + r.val, by omega⟩) d := by
  rw [pay16_apply, h.g, h.sh, m4_apply h, m4_apply h]
  unfold n0
  rw [pay13_apply, zf0_apply h]
  rfl

/-- The projection of block 1. -/
theorem y1_apply (h : Holds a b q R) (r : Fin 256) (d : Fin 1024) : y1 R (ix2 r d) = yy a b (at_ q ⟨256 + r.val, by omega⟩) d := by
  rw [yy_split]
  refine (proj1_apply _ _ _ _ r d).trans ?_
  exact congrArg₂ (· + ·) (Finset.sum_congr rfl fun j _ => congrArg₂ (· * ·) (h.p1 r j) (h.W.lo j d))
    (Finset.sum_congr rfl fun j _ => congrArg₂ (· * ·) (h.q1 r j) (h.W.hi j d))

/-- The rows to normalize of block 1. -/
theorem zf1_apply (h : Holds a b q R) (r : Fin 256) : zf (m4 R) (y1 R) R.x1 r = zz a b (at_ q ⟨256 + r.val, by omega⟩) := by
  funext d
  unfold zf zz
  rw [m4_apply h, y1_apply h, h.x1]

/-- Block 1 of the first result. -/
theorem bx1_apply (h : Holds a b q R) (r : Fin 256) (d : Fin 1024) : k0_pay19 R.g R.b (z1 R) (r1 R) (ix2 r d) = x1 a b (at_ q ⟨256 + r.val, by omega⟩) d := by
  rw [pay19_apply, h.g, h.sh]
  unfold z1 r1
  rw [pay17_apply, pay18_apply, zf1_apply h]
  rfl

/-- Block 1 of the second result. -/
theorem bu1_apply (h : Holds a b q R) (r : Fin 256) (d : Fin 1024) : k0_pay21 (m4 R) R.g R.b (z1 R) (r1 R) (ix2 r d) = uu a b (at_ q ⟨256 + r.val, by omega⟩) d := by
  rw [pay21_apply, h.g, h.sh, m4_apply h, m4_apply h]
  unfold z1 r1
  rw [pay17_apply, pay18_apply, zf1_apply h]
  rfl

/-- The projection of block 2. -/
theorem y2_apply (h : Holds a b q R) (r : Fin 256) (d : Fin 1024) : y2 R (ix2 r d) = yy a b (at_ q ⟨512 + r.val, by omega⟩) d := by
  rw [yy_split]
  refine (proj2_apply _ _ _ _ r d).trans ?_
  exact congrArg₂ (· + ·) (Finset.sum_congr rfl fun j _ => congrArg₂ (· * ·) (h.p2 r j) (h.W.lo j d))
    (Finset.sum_congr rfl fun j _ => congrArg₂ (· * ·) (h.q2 r j) (h.W.hi j d))

/-- The rows to normalize of block 2. -/
theorem zf2_apply (h : Holds a b q R) (r : Fin 256) : zf (m4 R) (y2 R) R.x2 r = zz a b (at_ q ⟨512 + r.val, by omega⟩) := by
  funext d
  unfold zf zz
  rw [m4_apply h, y2_apply h, h.x2]

/-- Block 2 of the first result. -/
theorem bx2_apply (h : Holds a b q R) (r : Fin 256) (d : Fin 1024) : k0_pay25 R.g R.b (z2 R) (v2 R) k0_pay24 (ix2 r d) = x1 a b (at_ q ⟨512 + r.val, by omega⟩) d := by
  rw [pay25_apply, h.g, h.sh]
  unfold z2 v2
  rw [pay22_apply, pay23_apply, zf2_apply h]
  rfl

/-- Block 2 of the second result. -/
theorem bu2_apply (h : Holds a b q R) (r : Fin 256) (d : Fin 1024) : k0_pay27 (m4 R) R.g R.b (z2 R) (v2 R) k0_pay24 (ix2 r d) = uu a b (at_ q ⟨512 + r.val, by omega⟩) d := by
  rw [pay27_apply, h.g, h.sh, m4_apply h, m4_apply h]
  unfold z2 v2
  rw [pay22_apply, pay23_apply, zf2_apply h]
  rfl

/-- The projection of block 3. -/
theorem y3_apply (h : Holds a b q R) (r : Fin 256) (d : Fin 1024) : y3 R (ix2 r d) = yy a b (at_ q ⟨768 + r.val, by omega⟩) d := by
  rw [yy_split]
  refine (proj3_apply _ _ _ _ r d).trans ?_
  exact congrArg₂ (· + ·) (Finset.sum_congr rfl fun j _ => congrArg₂ (· * ·) (h.p3 r j) (h.W.lo j d))
    (Finset.sum_congr rfl fun j _ => congrArg₂ (· * ·) (h.q3 r j) (h.W.hi j d))

/-- The rows to normalize of block 3. -/
theorem zf3_apply (h : Holds a b q R) (r : Fin 256) : zf (m4 R) (y3 R) R.x3 r = zz a b (at_ q ⟨768 + r.val, by omega⟩) := by
  funext d
  unfold zf zz
  rw [m4_apply h, y3_apply h, h.x3]

/-- Block 3 of the first result. -/
theorem bx3_apply (h : Holds a b q R) (r : Fin 256) (d : Fin 1024) : k0_pay30 R.g R.b (z3 R) (v3 R) (ix2 r d) = x1 a b (at_ q ⟨768 + r.val, by omega⟩) d := by
  rw [pay30_apply, h.g, h.sh]
  unfold z3 v3
  rw [pay28_apply, pay29_apply, zf3_apply h]
  rfl

/-- Block 3 of the second result. -/
theorem bu3_apply (h : Holds a b q R) (r : Fin 256) (d : Fin 1024) : k0_pay32 (m4 R) R.g R.b (z3 R) (v3 R) (ix2 r d) = uu a b (at_ q ⟨768 + r.val, by omega⟩) d := by
  rw [pay32_apply, h.g, h.sh, m4_apply h, m4_apply h]
  unfold z3 v3
  rw [pay28_apply, pay29_apply, zf3_apply h]
  rfl

end Outproj
-- ==== Proof.OutStores.lean ====
module

public import proofs.«01_k».proof.Proof.OutMath
public import Idealize.ShloMosaic.Lib.Pipeline.FrameBody
public import Idealize.ShloMosaic.Lib.Pipeline.ReadBack
public import Idealize.ShloMosaic.Lib.WholeRead
public import Idealize.ShloMosaic.Lib.WritesUnit

@[expose] public section

/-!
What the stores of one grid point of the output projection kernel leave, entry by entry.
-/

set_option maxRecDepth 16384

noncomputable section

namespace Outproj

open Idealize.ShloMosaic Idealize.SL.Sem Idealize.ShloMosaic.Tactic
open Cert.OutprojIdeal Cert.OutprojIdeal.Gen

/-- Under the last store's rectangle lies what it stored. -/
theorem canon_hit {s : Shape} {e : EltTy} {Val : EltTy → Type} [∀ e, Nonempty (Val e)] (r : Rect s) (w : r.shape.Idx → Val e)
    (L : List (View.Piece Val s e)) (y : s.Idx) (x : r.shape.Idx) (h : y = r.emb x) : View.canon (⟨r, w⟩ :: L) y = w x := by
  rw [h]; exact View.canon_cons_emb r w L x

/-- Off it, on some axis, lies what the earlier stores left. -/
theorem canon_miss {s : Shape} {e : EltTy} {Val : EltTy → Type} [∀ e, Nonempty (Val e)] (off size : Fin s.rank → ℕ) (inb : ∀ a, off a + size a ≤ s.size a)
    (w : (Rect.unit off size inb).shape.Idx → Val e)
    (L : List (View.Piece Val s e)) (y : s.Idx) (a : Fin s.rank) (h : (y a).val < off a ∨ off a + size a ≤ (y a).val) :
    View.canon ((⟨Rect.unit off size inb, w⟩ : View.Piece Val s e) :: L) y = View.canon L y := by
  refine View.canon_cons_of_not_mem _ _ ?_
  rw [Rect.mem_set_unit]
  intro hall
  have := hall a
  omega

variable {a : Args} {b : Fin 8} {q : Fin 2} {R : Rd Ideal}

/-- The first result's stores. -/
theorem canon_listX (h : Holds a b q R) (r d : Fin 1024) : View.canon (listX R) (ix2 r d) = x1 a b (at_ q r) d := by
  unfold listX
  by_cases h0 : r.val < 256
  · rw [canon_miss _ _ _ _ _ _ 0 (Or.inl (by show r.val < 768; omega)), canon_miss _ _ _ _ _ _ 0 (Or.inl (by show r.val < 512; omega)), canon_miss _ _ _ _ _ _ 0 (Or.inl (by show r.val < 256; omega)), canon_hit _ _ _ _ (ix2 ⟨r.val - 0, by omega⟩ d) (by idx_ext), bx0_apply h]
    exact congrArg (fun s => x1 a b s d) (Fin.ext (by show 1024 * q.val + (0 + (r.val - 0)) = 1024 * q.val + r.val; omega))
  by_cases h1 : r.val < 512
  · rw [canon_miss _ _ _ _ _ _ 0 (Or.inl (by show r.val < 768; omega)), canon_miss _ _ _ _ _ _ 0 (Or.inl (by show r.val < 512; omega)), canon_hit _ _ _ _ (ix2 ⟨r.val - 256, by omega⟩ d) (by idx_ext), bx1_apply h]
    exact congrArg (fun s => x1 a b s d) (Fin.ext (by show 1024 * q.val + (256 + (r.val - 256)) = 1024 * q.val + r.val; omega))
  by_cases h2 : r.val < 768
  · rw [canon_miss _ _ _ _ _ _ 0 (Or.inl (by show r.val < 768; omega)), canon_hit _ _ _ _ (ix2 ⟨r.val - 512, by omega⟩ d) (by idx_ext), bx2_apply h]
    exact congrArg (fun s => x1 a b s d) (Fin.ext (by show 1024 * q.val + (512 + (r.val - 512)) = 1024 * q.val + r.val; omega))
  rw [canon_hit _ _ _ _ (ix2 ⟨r.val - 768, by omega⟩ d) (by idx_ext), bx3_apply h]
  exact congrArg (fun s => x1 a b s d) (Fin.ext (by show 1024 * q.val + (768 + (r.val - 768)) = 1024 * q.val + r.val; omega))

/-- The second result's stores. -/
theorem canon_listU (h : Holds a b q R) (r d : Fin 1024) : View.canon (listU R) (ix2 r d) = uu a b (at_ q r) d := by
  unfold listU
  by_cases h0 : r.val < 256
  · rw [canon_miss _ _ _ _ _ _ 0 (Or.inl (by show r.val < 768; omega)), canon_miss _ _ _ _ _ _ 0 (Or.inl (by show r.val < 512; omega)), canon_miss _ _ _ _ _ _ 0 (Or.inl (by show r.val < 256; omega)), canon_hit _ _ _ _ (ix2 ⟨r.val - 0, by omega⟩ d) (by idx_ext), bu0_apply h]
    exact congrArg (fun s => uu a b s d) (Fin.ext (by show 1024 * q.val + (0 + (r.val - 0)) = 1024 * q.val + r.val; omega))
  by_cases h1 : r.val < 512
  · rw [canon_miss _ _ _ _ _ _ 0 (Or.inl (by show r.val < 768; omega)), canon_miss _ _ _ _ _ _ 0 (Or.inl (by show r.val < 512; omega)), canon_hit _ _ _ _ (ix2 ⟨r.val - 256, by omega⟩ d) (by idx_ext), bu1_apply h]
    exact congrArg (fun s => uu a b s d) (Fin.ext (by show 1024 * q.val + (256 + (r.val - 256)) = 1024 * q.val + r.val; omega))
  by_cases h2 : r.val < 768
  · rw [canon_miss _ _ _ _ _ _ 0 (Or.inl (by show r.val < 768; omega)), canon_hit _ _ _ _ (ix2 ⟨r.val - 512, by omega⟩ d) (by idx_ext), bu2_apply h]
    exact congrArg (fun s => uu a b s d) (Fin.ext (by show 1024 * q.val + (512 + (r.val - 512)) = 1024 * q.val + r.val; omega))
  rw [canon_hit _ _ _ _ (ix2 ⟨r.val - 768, by omega⟩ d) (by idx_ext), bu3_apply h]
  exact congrArg (fun s => uu a b s d) (Fin.ext (by show 1024 * q.val + (768 + (r.val - 768)) = 1024 * q.val + r.val; omega))

/-- A later point's weights. -/
theorem loadsB_apply (arg14 : Memref sig .tc .vmem S1024x1024 .bf16) (harg14 : arg14.IsWhole) (xs0 : Vec Ideal S1024x1024 .bf16)
    (h : ∀ k d, xs0 (ix2 k d) = a.W k d) : HoldsW a (loadsB arg14 harg14 xs0) := by
  refine ⟨fun k d => ?_, fun k d => ?_⟩ <;>
    exact (harg14.readAt_unread xs0 _ _).trans ((congrArg xs0 (by idx_ext)).trans (h _ d))

/-- The first point's store of the weights. -/
theorem canonW (c : Dev nD) (arg3 : Memref sig .tc .vmem S1024x1024 .f32) (harg3 : arg3.IsWhole) (x2 : Vec Ideal S1024x1024 .f32)
    (h : ∀ k d, x2 (ix2 k d) = a.W k d) (k d : Fin 1024) : View.canon (kernelRun0_A.sl.HS0_1 c arg3 harg3 x2) (ix2 k d) = a.W k d := by
  refine (canon_hit _ _ _ _ (ix2 k d) (by idx_ext)).trans ?_
  refine Eq.trans ?_ ((harg3.readAt_unread x2 (Rect.unit (s := S1024x1024) ![0, 0] S1024x1024.size inb_S1024x1024_S1024x1024_0_0).toLoadRect (ix2 k d)).trans ((congrArg x2 (by idx_ext)).trans (h k d)))
  generalize arg3.view.readAt (Elt Ideal) (Rect.unit (s := S1024x1024) ![0, 0] S1024x1024.size inb_S1024x1024_S1024x1024_0_0).toLoadRect (harg3.unread x2) = X
  pointwise [k0_pay2]

/-- The first point's weights. -/
theorem loadsA_apply (c : Dev nD) (arg3 : Memref sig .tc .vmem S1024x1024 .f32) (harg3 : arg3.IsWhole) (arg14 : Memref sig .tc .vmem S1024x1024 .bf16) (x2 : Vec Ideal S1024x1024 .f32)
    (h : ∀ k d, x2 (ix2 k d) = a.W k d) : HoldsW a (loadsA c arg3 harg3 arg14 x2) := by
  have e := canonW c arg3 harg3 x2 h
  refine ⟨fun k d => ?_, fun k d => ?_⟩ <;>
    exact (congrFun (View.readCov_eq_canon' _ _ _) _).trans ((congrArg _ (by idx_ext)).trans (e _ d))

end Outproj
-- ==== Proof.OutPieces.lean ====
module

public import proofs.«01_k».proof.Proof.OutStores

@[expose] public section

/-!
What a grid point of the output projection kernel leaves in each case, as what its stores leave.
-/

set_option maxRecDepth 16384

noncomputable section

namespace Outproj

open Idealize.ShloMosaic Idealize.SL.Sem Idealize.ShloMosaic.Tactic
open Cert.OutprojIdeal Cert.OutprojIdeal.Gen

variable (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x4x1024 .f32) (harg8 : arg8.IsWhole) (arg9 : Memref sig .tc .vmem S1x32x1024 .f32) (harg9 : arg9.IsWhole) (arg10 : Memref sig .tc .vmem S1x128 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S4x8x256 .f32) (harg13 : arg13.IsWhole) (arg14 : Memref sig .tc .vmem S1024x1024 .bf16) (harg14 : arg14.IsWhole) (arg15 : Memref sig .tc .vmem S1024x256 .bf16) (harg15 : arg15.IsWhole)
  (x0 : Vec Ideal S1024x512 .bf16) (x1 : Vec Ideal S1024x512 .bf16) (x2 : Vec Ideal S1024x1024 .f32) (x3 : Vec Ideal S1024x1024 .f32) (x4 : Vec Ideal S1x6x1024 .f32) (x5 : Vec Ideal S1x1024 .f32) (x6 : Vec Ideal S1x1024 .f32) (x7 : Vec Ideal S1x4x1024 .f32) (x8 : Vec Ideal S1x32x1024 .f32) (x9 : Vec Ideal S1x128 .f32)

/-- The first result. -/
theorem out0_A_10_eq (hc0 : cond0_0 i) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = View.canon (listX (reads arg1 harg1 arg2 harg2 arg4 harg4 arg5 harg5 arg6 harg6 arg7 harg7 x0 x1 x3 x4 x5 x6 (loadsA c arg3 harg3 arg14 x2))) := by
  unfold out0_A_10
  rw [View.read_writes_junk_eq_canon, listX_A]

/-- The second result. -/
theorem out0_A_11_eq (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = View.canon (listU (reads arg1 harg1 arg2 harg2 arg4 harg4 arg5 harg5 arg6 harg6 arg7 harg7 x0 x1 x3 x4 x5 x6 (loadsA c arg3 harg3 arg14 x2))) := by
  unfold out0_A_11
  rw [View.read_writes_junk_eq_canon, listU_A]

/-- The first result. -/
theorem out0_B_10_eq (xs0 : Vec Ideal S1024x1024 .bf16) (xs1 : Vec Ideal S1024x256 .bf16) (hc0 : ¬cond0_0 i) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 = View.canon (listX (reads arg1 harg1 arg2 harg2 arg4 harg4 arg5 harg5 arg6 harg6 arg7 harg7 x0 x1 x3 x4 x5 x6 (loadsB arg14 harg14 xs0))) := by
  unfold out0_B_10
  rw [View.read_writes_junk_eq_canon, listX_B]

/-- The second result. -/
theorem out0_B_11_eq (xs0 : Vec Ideal S1024x1024 .bf16) (xs1 : Vec Ideal S1024x256 .bf16) (hc0 : ¬cond0_0 i) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 = View.canon (listU (reads arg1 harg1 arg2 harg2 arg4 harg4 arg5 harg5 arg6 harg6 arg7 harg7 x0 x1 x3 x4 x5 x6 (loadsB arg14 harg14 xs0))) := by
  unfold out0_B_11
  rw [View.read_writes_junk_eq_canon, listU_B]

/-- The kept weights. -/
theorem sout0_A_0_eq (hc0 : cond0_0 i) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = View.canon (kernelRun0_A.sl.HS0_1 c arg3 harg3 x2) := by
  unfold sout0_A_0
  rw [View.read_writes_junk_eq_canon, listW_A]

end Outproj
-- ==== Proof.OutRefDefs.lean ====
module

public import proofs.«01_k».proof.Proof.OutSpec
public import proofs.«01_k».proof.Proof.Gen.OutprojRefIdeal.Run
public import Idealize.ShloMosaic.Lib.ShapeFacts
public import Idealize.ShloMosaic.Lib.Routing.Ops

@[expose] public section

/-!
The output projection reference's two results, cut into their steps.
-/

set_option maxRecDepth 16384

noncomputable section

namespace Outproj.Ref

open Idealize.ShloMosaic Idealize.SL.Sem
open Cert.OutprojRefIdeal Cert.OutprojRefIdeal.Gen Idealize.ShloMosaic.TcCoe

/-- The rows to normalize. -/
def zR (A0 A1 : FVec Ideal S16384x512 .bf16) (A2 : FVec Ideal S1024x1024 .f32) (A3 : FVec Ideal S16384x1024 .f32) (A4 : FVec Ideal S8x6x1024 .f32) : FVec Ideal S8x2048x1024 .f32 :=
  addf (mulf (broadcastInDim S8x2048x1024 ![] bcast_S_S8x2048x1024 (constant S_ .f32 0x3F9837F0#32)) (shapeCast _ A3 shapeCasts_S16384x1024_S8x2048x1024)) (mulf (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1024 ![0, 2, 0] A4 slices_S8x6x1024_S8x1x1024_0_2_0) shapeCasts_S8x1x1024_S8x1024)))) (shapeCast _ (Host.dotGeneral dot_S16384x1024_S1024x1024_S16384x1024_1_0_0_1_n_n none (extf .f32 (concatenate S16384x1024 1 [⟨S16384x512, A0⟩, ⟨S16384x512, A1⟩] concatenates_S16384x512_S16384x512_S16384x1024_d1) bitsLt_bf16_f32) A2) shapeCasts_S16384x1024_S8x2048x1024))
/-- The rows centred. -/
def cR (Z : FVec Ideal S8x2048x1024 .f32) : FVec Ideal S8x2048x1024 .f32 :=
  subf Z (broadcastInDim S8x2048x1024 ![0, 1, 2] bcast_S8x2048x1_S8x2048x1024_0_1_2 (Host.divf (broadcastInDim S8x2048x1 ![0, 1] bcast_S8x2048_S8x2048x1_0_1 (Host.reduceAdd Z (constant S_ .f32 0x00000000#32) reducesTo_S8x2048x1024_S8x2048_d2 h_S_)) (broadcastInDim S8x2048x1 ![] bcast_S_S8x2048x1 (constant S_ .f32 0x44800000#32))))
/-- The reciprocal deviations. -/
def rR (Z : FVec Ideal S8x2048x1024 .f32) : FVec Ideal S8x2048x1 .f32 :=
  Host.rsqrt (addf (Host.divf (broadcastInDim S8x2048x1 ![0, 1] bcast_S8x2048_S8x2048x1_0_1 (Host.reduceAdd (mulf (cR Z) (cR Z)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))
/-- The normalized rows. -/
def xR (A0 A1 : FVec Ideal S16384x512 .bf16) (A2 : FVec Ideal S1024x1024 .f32) (A3 : FVec Ideal S16384x1024 .f32) (A4 : FVec Ideal S8x6x1024 .f32) (A5 A6 : FVec Ideal S1x1024 .f32) : FVec Ideal S8x2048x1024 .f32 :=
  addf (mulf (mulf (cR (zR A0 A1 A2 A3 A4)) (broadcastInDim S8x2048x1024 ![0, 1, 2] bcast_S8x2048x1_S8x2048x1024_0_1_2 (rR (zR A0 A1 A2 A3 A4)))) (broadcastInDim S8x2048x1024 ![0, 1, 2] bcast_S1x1x1024_S8x2048x1024_0_1_2 (broadcastInDim S1x1x1024 ![1, 2] bcast_S1x1024_S1x1x1024_1_2 A5))) (broadcastInDim S8x2048x1024 ![0, 1, 2] bcast_S1x1x1024_S8x2048x1024_0_1_2 (broadcastInDim S1x1x1024 ![1, 2] bcast_S1x1024_S1x1x1024_1_2 A6))
/-- The first result. -/
def out0 (A0 A1 : FVec Ideal S16384x512 .bf16) (A2 : FVec Ideal S1024x1024 .f32) (A3 : FVec Ideal S16384x1024 .f32) (A4 : FVec Ideal S8x6x1024 .f32) (A5 A6 : FVec Ideal S1x1024 .f32) : FVec Ideal S16384x1024 .f32 :=
  shapeCast _ (xR A0 A1 A2 A3 A4 A5 A6) shapeCasts_S8x2048x1024_S16384x1024
/-- The second result. -/
def out1 (A0 A1 : FVec Ideal S16384x512 .bf16) (A2 : FVec Ideal S1024x1024 .f32) (A3 : FVec Ideal S16384x1024 .f32) (A4 : FVec Ideal S8x6x1024 .f32) (A5 A6 : FVec Ideal S1x1024 .f32) : FVec Ideal S16384x1024 .bf16 :=
  truncf .bf16 (shapeCast _ (addf (mulf (xR A0 A1 A2 A3 A4 A5 A6) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1024 ![0, 4, 0] A4 slices_S8x6x1024_S8x1x1024_0_4_0) shapeCasts_S8x1x1024_S8x1024))))) (broadcastInDim S8x2048x1024 ![0, 1, 2] bcast_S8x1x1024_S8x2048x1024_0_1_2 (broadcastInDim S8x1x1024 ![0, 2] bcast_S8x1024_S8x1x1024_0_2 (shapeCast _ (extractStridedSlice S8x1x1024 ![0, 3, 0] A4 slices_S8x6x1024_S8x1x1024_0_3_0) shapeCasts_S8x1x1024_S8x1024)))) shapeCasts_S8x2048x1024_S16384x1024) bitsLt_bf16_f32

variable (m : (b : Loc nD τ sig) → Buf (Elt Ideal) b) (c : Dev nD)

/-- The first result in steps. -/
theorem res0 : Value.res_main_v51 m c = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
/-- The second result in steps. -/
theorem res1 : Value.res_main_v53 m c = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Outproj.Ref
-- ==== Proof.OutRef.lean ====
module

public import proofs.«01_k».proof.Proof.OutRefDefs
public import Idealize.ShloMosaic.Lib.Pointwise

@[expose] public section

/-!
The output projection reference's results, entry by entry.
-/

set_option maxRecDepth 16384

noncomputable section

namespace Outproj

open Idealize.ShloMosaic Idealize.SL.Sem

/-- The arguments of the call. -/
def argsOf (A0 A1 : FVec Ideal Cert.OutprojRefIdeal.S16384x512 .bf16) (A2 : FVec Ideal Cert.OutprojRefIdeal.S1024x1024 .f32)
    (A3 : FVec Ideal Cert.OutprojRefIdeal.S16384x1024 .f32) (A4 : FVec Ideal Cert.OutprojRefIdeal.S8x6x1024 .f32)
    (A5 A6 : FVec Ideal Cert.OutprojRefIdeal.S1x1024 .f32) : Args where
  P b s k := A0 (ix2 ⟨b.val * 2048 + s.val, by omega⟩ k)
  Q b s k := A1 (ix2 ⟨b.val * 2048 + s.val, by omega⟩ k)
  W k d := A2 (ix2 k d)
  X b s d := A3 (ix2 ⟨b.val * 2048 + s.val, by omega⟩ d)
  M b k d := A4 (ix3 b k d)
  G d := A5 (ix2 0 d)
  B d := A6 (ix2 0 d)

namespace Ref

open Cert.OutprojRefIdeal Cert.OutprojRefIdeal.Gen Idealize.ShloMosaic.TcCoe

variable (A0 A1 : FVec Ideal S16384x512 .bf16) (A2 : FVec Ideal S1024x1024 .f32) (A3 : FVec Ideal S16384x1024 .f32) (A4 : FVec Ideal S8x6x1024 .f32) (A5 A6 : FVec Ideal S1x1024 .f32)

local notation "AA" => argsOf A0 A1 A2 A3 A4 A5 A6

/-- The rows to normalize. -/
theorem zR_apply (b : Fin 8) (s : Fin 2048) (d : Fin 1024) : zR A0 A1 A2 A3 A4 (ix3 b s d) = zz (AA) b s d := by
  unfold zz yy hh argsOf
  pointwise [zR]

/-- The rows centred. -/
theorem cR_apply (Z : FVec Ideal S8x2048x1024 .f32) (b : Fin 8) (s : Fin 2048) (d : Fin 1024) :
    cR Z (ix3 b s d) = cen (fun d => Z (ix3 b s d)) d := by
  unfold cen mean
  pointwise [cR]

/-- The reciprocal deviations. -/
theorem rR_apply (Z : FVec Ideal S8x2048x1024 .f32) (b : Fin 8) (s : Fin 2048) :
    rR Z (ix3 b s 0) = rs (fun d => Z (ix3 b s d)) := by
  unfold rs var
  simp only [← cR_apply]
  unfold rR mean
  generalize cR Z = C
  pointwise []

/-- The normalized rows. -/
theorem xR_apply (b : Fin 8) (s : Fin 2048) (d : Fin 1024) : xR A0 A1 A2 A3 A4 A5 A6 (ix3 b s d) = x1 (AA) b s d := by
  have hz : (fun d => zR A0 A1 A2 A3 A4 (ix3 b s d)) = zz (AA) b s := funext (zR_apply A0 A1 A2 A3 A4 A5 A6 b s)
  unfold x1
  rw [← hz, ← cR_apply, ← rR_apply]
  unfold xR
  generalize cR (zR A0 A1 A2 A3 A4) = C
  generalize rR (zR A0 A1 A2 A3 A4) = D
  pointwise []
  rfl

/-- The first result. -/
theorem out0_apply (b : Fin 8) (s : Fin 2048) (d : Fin 1024) :
    out0 A0 A1 A2 A3 A4 A5 A6 (ix2 ⟨2048 * b.val + s.val, by omega⟩ d) = x1 (AA) b s d := by
  rw [← xR_apply]
  unfold out0
  generalize xR A0 A1 A2 A3 A4 A5 A6 = X
  pointwise []

/-- The second result. -/
theorem out1_apply (b : Fin 8) (s : Fin 2048) (d : Fin 1024) :
    out1 A0 A1 A2 A3 A4 A5 A6 (ix2 ⟨2048 * b.val + s.val, by omega⟩ d) = uu (AA) b s d := by
  unfold uu
  rw [← xR_apply]
  unfold out1
  generalize xR A0 A1 A2 A3 A4 A5 A6 = X
  pointwise []
  rfl

end Ref

end Outproj
-- ==== Proof.OutBlocks.lean ====
module

public import proofs.«01_k».proof.Proof.OutRef
public import proofs.«01_k».proof.Proof.OutMath
public import proofs.«01_k».proof.Proof.Gen.OutprojIdeal.Value
public import Idealize.ShloMosaic.Lib.Pipeline.ValueKit
public import Idealize.ShloMosaic.Lib.Pointwise

@[expose] public section

/-!
The input blocks of a grid point of the output projection kernel as entries of the arguments.
-/

set_option maxRecDepth 16384

noncomputable section

namespace Outproj

open Idealize.ShloMosaic Idealize.SL.Sem
open Cert.OutprojIdeal Cert.OutprojIdeal.Gen Idealize.ShloMosaic.TcCoe

variable (m : (b : Loc nD τ sig) → Buf (Elt Ideal) b) (c : Dev nD)

/-- Which block each window takes at a point. -/
theorem idx : ∀ t : Fin cfg0.N, win0_0.index t = ![t.val, 0] ∧ win0_1.index t = ![t.val, 0]
    ∧ win0_2.index t = ![0, 0] ∧ win0_3.index t = ![t.val, 0] ∧ win0_4.index t = ![t.val / 2, 0, 0] ∧ win0_5.index t = ![0, 0]
    ∧ win0_6.index t = ![0, 0] :=
  (by decide +kernel : ∀ t : Fin grid0.N, _)

/-- There are sixteen points. -/
theorem lt16 (t : Fin cfg0.N) : t.val < 16 := lt_of_lt_of_eq t.isLt N_0

/-- Argument 0. -/
def arg0 : FVec Ideal S16384x512 .bf16 := m ((c.tc : Thread nD τ).loc main_arg0)
/-- Argument 1. -/
def arg1 : FVec Ideal S16384x512 .bf16 := m ((c.tc : Thread nD τ).loc main_arg1)
/-- Argument 2. -/
def arg2 : FVec Ideal S1024x1024 .f32 := m ((c.tc : Thread nD τ).loc main_arg2)
/-- Argument 3. -/
def arg3 : FVec Ideal S16384x1024 .f32 := m ((c.tc : Thread nD τ).loc main_arg3)
/-- Argument 4. -/
def arg4 : FVec Ideal S8x6x1024 .f32 := m ((c.tc : Thread nD τ).loc main_arg4)
/-- Argument 5. -/
def arg5 : FVec Ideal S1x1024 .f32 := m ((c.tc : Thread nD τ).loc main_arg5)
/-- Argument 6. -/
def arg6 : FVec Ideal S1x1024 .f32 := m ((c.tc : Thread nD τ).loc main_arg6)

/-- The arguments as functions of their coordinates. -/
def aa : Args := argsOf (arg0 m c) (arg1 m c) (arg2 m c) (arg3 m c) (arg4 m c) (arg5 m c) (arg6 m c)

/-- The sequence of a point. -/
def sq (t : Fin cfg0.N) : Fin 8 := ⟨t.val / 2, by have := lt16 t; omega⟩
/-- Its place in it. -/
def pl (t : Fin cfg0.N) : Fin 2 := ⟨t.val % 2, by omega⟩

/-- The rows of the first half. -/
theorem blk0 (t : Fin cfg0.N) (r : Fin 1024) (d : Fin 512) : iblk m c 0 t (ix2 r d) = (aa m c).P (sq t) (at_ (pl t) r) d := by
  have h := lt16 t
  have e : V m c main_arg0 = arg0 m c := V_main_arg0 m c
  show _ = arg0 m c (ix2 ⟨t.val / 2 * 2048 + (1024 * (t.val % 2) + r.val), by omega⟩ d)
  rw [← e]
  blk_ext [iblk, idx t]

/-- The rows of the second half. -/
theorem blk1 (t : Fin cfg0.N) (r : Fin 1024) (d : Fin 512) : iblk m c 1 t (ix2 r d) = (aa m c).Q (sq t) (at_ (pl t) r) d := by
  have h := lt16 t
  have e : V m c main_arg1 = arg1 m c := V_main_arg1 m c
  show _ = arg1 m c (ix2 ⟨t.val / 2 * 2048 + (1024 * (t.val % 2) + r.val), by omega⟩ d)
  rw [← e]
  blk_ext [iblk, idx t]

/-- The rows of the residual. -/
theorem blk3 (t : Fin cfg0.N) (r : Fin 1024) (d : Fin 1024) : iblk m c 3 t (ix2 r d) = (aa m c).X (sq t) (at_ (pl t) r) d := by
  have h := lt16 t
  have e : V m c main_arg3 = arg3 m c := V_main_arg3 m c
  show _ = arg3 m c (ix2 ⟨t.val / 2 * 2048 + (1024 * (t.val % 2) + r.val), by omega⟩ d)
  rw [← e]
  blk_ext [iblk, idx t]

/-- The weights. -/
theorem blk2 (t : Fin cfg0.N) (k d : Fin 1024) : iblk m c 2 t (ix2 k d) = (aa m c).W k d := by
  have e : V m c main_arg2 = arg2 m c := V_main_arg2 m c
  show _ = arg2 m c (ix2 k d)
  rw [← e]
  blk_ext [iblk, idx t]

/-- The modulation. -/
theorem blk4 (t : Fin cfg0.N) (k : Fin 6) (d : Fin 1024) : iblk m c 4 t (ix3 0 k d) = (aa m c).M (sq t) k d := by
  have h := lt16 t
  have e : V m c main_arg4 = arg4 m c := V_main_arg4 m c
  show _ = arg4 m c (ix3 ⟨t.val / 2, by omega⟩ k d)
  rw [← e]
  blk_ext [iblk, idx t]

/-- The scale. -/
theorem blk5 (t : Fin cfg0.N) (d : Fin 1024) : iblk m c 5 t (ix2 0 d) = (aa m c).G d := by
  have e : V m c main_arg5 = arg5 m c := V_main_arg5 m c
  show _ = arg5 m c (ix2 0 d)
  rw [← e]
  blk_ext [iblk, idx t]

/-- The shift. -/
theorem blk6 (t : Fin cfg0.N) (d : Fin 1024) : iblk m c 6 t (ix2 0 d) = (aa m c).B d := by
  have e : V m c main_arg6 = arg6 m c := V_main_arg6 m c
  show _ = arg6 m c (ix2 0 d)
  rw [← e]
  blk_ext [iblk, idx t]

end Outproj
-- ==== Proof.OutSweep.lean ====
module

public import proofs.«01_k».proof.Proof.OutPieces
public import proofs.«01_k».proof.Proof.OutBlocks

@[expose] public section

/-!
What every grid point of the output projection kernel leaves, and so what its two results hold.
-/

set_option maxRecDepth 16384

noncomputable section

namespace Outproj

open Idealize.ShloMosaic Idealize.SL.Sem Idealize.ShloMosaic.Tactic
open Cert.OutprojIdeal Cert.OutprojIdeal.Gen Cert.OutprojIdeal.Value Idealize.ShloMosaic.TcCoe

variable (m : (b : Loc nD τ sig) → Buf (Elt Ideal) b) (c : Dev nD)

/-- What a point reads. -/
abbrev rdAt (t : Fin cfg0.N) (W : Wts Ideal) : Rd Ideal := reads (ms0_0 t) (hs0_0 t) (ms0_1 t) (hs0_1 t) (ms0_3 t) (hs0_3 t) (ms0_4 t) (hs0_4 t) (ms0_5 t) (hs0_5 t) (ms0_6 t) (hs0_6 t) (iblk m c 0 t) (iblk m c 1 t) (iblk m c 3 t) (iblk m c 4 t) (iblk m c 5 t) (iblk m c 6 t) W

set_option maxHeartbeats 2000000 in
/-- A point reads its rows and the weights. -/
theorem holds (t : Fin cfg0.N) (W : Wts Ideal) (hW : HoldsW (aa m c) W) : Holds (aa m c) (sq t) (pl t) (rdAt m c t W) := by
  refine ⟨fun k d => ?_, fun d => ?_, fun d => ?_, fun r d => ?_, fun r d => ?_, fun r d => ?_, fun r d => ?_, fun r d => ?_, fun r d => ?_, fun r d => ?_, fun r d => ?_, fun r d => ?_, fun r d => ?_, fun r d => ?_, fun r d => ?_, hW⟩
  · exact ((hs0_4 t).readAt_unread (iblk m c 4 t) _ _).trans ((congrArg (iblk m c 4 t) (by idx_ext)).trans (blk4 m c t k d))
  · exact ((hs0_5 t).readAt_unread (iblk m c 5 t) _ _).trans ((congrArg (iblk m c 5 t) (by idx_ext)).trans (blk5 m c t d))
  · exact ((hs0_6 t).readAt_unread (iblk m c 6 t) _ _).trans ((congrArg (iblk m c 6 t) (by idx_ext)).trans (blk6 m c t d))
  · exact ((hs0_0 t).readAt_unread (iblk m c 0 t) _ _).trans ((congrArg (iblk m c 0 t) (by idx_ext)).trans (blk0 m c t ⟨0 + r.val, by omega⟩ d))
  · exact ((hs0_0 t).readAt_unread (iblk m c 0 t) _ _).trans ((congrArg (iblk m c 0 t) (by idx_ext)).trans (blk0 m c t ⟨256 + r.val, by omega⟩ d))
  · exact ((hs0_0 t).readAt_unread (iblk m c 0 t) _ _).trans ((congrArg (iblk m c 0 t) (by idx_ext)).trans (blk0 m c t ⟨512 + r.val, by omega⟩ d))
  · exact ((hs0_0 t).readAt_unread (iblk m c 0 t) _ _).trans ((congrArg (iblk m c 0 t) (by idx_ext)).trans (blk0 m c t ⟨768 + r.val, by omega⟩ d))
  · exact ((hs0_1 t).readAt_unread (iblk m c 1 t) _ _).trans ((congrArg (iblk m c 1 t) (by idx_ext)).trans (blk1 m c t ⟨0 + r.val, by omega⟩ d))
  · exact ((hs0_1 t).readAt_unread (iblk m c 1 t) _ _).trans ((congrArg (iblk m c 1 t) (by idx_ext)).trans (blk1 m c t ⟨256 + r.val, by omega⟩ d))
  · exact ((hs0_1 t).readAt_unread (iblk m c 1 t) _ _).trans ((congrArg (iblk m c 1 t) (by idx_ext)).trans (blk1 m c t ⟨512 + r.val, by omega⟩ d))
  · exact ((hs0_1 t).readAt_unread (iblk m c 1 t) _ _).trans ((congrArg (iblk m c 1 t) (by idx_ext)).trans (blk1 m c t ⟨768 + r.val, by omega⟩ d))
  · exact ((hs0_3 t).readAt_unread (iblk m c 3 t) _ _).trans ((congrArg (iblk m c 3 t) (by idx_ext)).trans (blk3 m c t ⟨0 + r.val, by omega⟩ d))
  · exact ((hs0_3 t).readAt_unread (iblk m c 3 t) _ _).trans ((congrArg (iblk m c 3 t) (by idx_ext)).trans (blk3 m c t ⟨256 + r.val, by omega⟩ d))
  · exact ((hs0_3 t).readAt_unread (iblk m c 3 t) _ _).trans ((congrArg (iblk m c 3 t) (by idx_ext)).trans (blk3 m c t ⟨512 + r.val, by omega⟩ d))
  · exact ((hs0_3 t).readAt_unread (iblk m c 3 t) _ _).trans ((congrArg (iblk m c 3 t) (by idx_ext)).trans (blk3 m c t ⟨768 + r.val, by omega⟩ d))

/-- What a point leaves: its two results and the kept weights. -/
def Left (t : Fin cfg0.N) (o : Vec Ideal S1024x1024 .f32 × Vec Ideal S1024x1024 .bf16 × Vec Ideal S4x8x256 .f32 × Vec Ideal S1024x1024 .bf16 × Vec Ideal S1024x256 .bf16) : Prop :=
  (∀ r d : Fin 1024, o.1 (ix2 r d) = x1 (aa m c) (sq t) (at_ (pl t) r) d) ∧
  (∀ r d : Fin 1024, o.2.1 (ix2 r d) = uu (aa m c) (sq t) (at_ (pl t) r) d) ∧
  (∀ k d : Fin 1024, o.2.2.2.1 (ix2 k d) = (aa m c).W k d)

set_option maxHeartbeats 1000000 in
/-- The first point. -/
theorem left_A (t : Fin cfg0.N) (h0 : t.val % 16 = 0) : Left m c t (outsAt0 m c t.val t.isLt) := by
  rw [outsAt0_A m c t h0]
  have hH := holds m c t _ (loadsA_apply c (ms0_2 t) (hs0_2 t) scM0_0 (iblk m c 2 t) (blk2 m c t))
  refine ⟨fun r d => ?_, fun r d => ?_, fun k d => ?_⟩
  · dsimp only
    have e := (congrFun (out0_A_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0)) _).trans (canon_listX hH r d)
    exact e
  · dsimp only
    have e := (congrFun (out0_A_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0)) _).trans (canon_listU hH r d)
    exact e
  · dsimp only
    have e := (congrFun (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0)) _).trans (canonW c (ms0_2 t) (hs0_2 t) (iblk m c 2 t) (blk2 m c t) k d)
    exact e

set_option maxHeartbeats 1000000 in
/-- A later point. -/
theorem left_B (t : Fin cfg0.N) (h0 : ¬t.val % 16 = 0)
    (ih : Left m c ⟨t.val - 1, Nat.lt_of_le_of_lt (Nat.sub_le _ _) t.isLt⟩ (outsAt0 m c (t.val - 1) (Nat.lt_of_le_of_lt (Nat.sub_le _ _) t.isLt))) :
    Left m c t (outsAt0 m c t.val t.isLt) := by
  rw [outsAt0_B m c t h0]
  obtain ⟨-, -, hW0⟩ := ih
  generalize outsAt0 m c (t.val - 1) (Nat.lt_of_le_of_lt (Nat.sub_le _ _) t.isLt) = o at hW0 ⊢
  have hH := holds m c t _ (loadsB_apply scM0_0 (Memref.isWhole_whole _) o.2.2.2.1 hW0)
  refine ⟨fun r d => ?_, fun r d => ?_, fun k d => ?_⟩
  · dsimp only
    have e := (congrFun (out0_B_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) o.2.2.2.1 o.2.2.2.2 (fun h => h0 ((hcond0_0 t).mp h))) _).trans (canon_listX hH r d)
    exact e
  · dsimp only
    have e := (congrFun (out0_B_11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) o.2.2.2.1 o.2.2.2.2 (fun h => h0 ((hcond0_0 t).mp h))) _).trans (canon_listU hH r d)
    exact e
  · dsimp only
    exact hW0 k d

/-- Every point. -/
theorem left (n : ℕ) : ∀ hn : n < cfg0.N, Left m c ⟨n, hn⟩ (outsAt0 m c n hn) := by
  induction n with
  | zero => exact fun hn => left_A m c ⟨0, hn⟩ (Nat.zero_mod 16)
  | succ n ih =>
    intro hn
    by_cases h0 : (n + 1) % 16 = 0
    · exact left_A m c ⟨n + 1, hn⟩ h0
    · exact left_B m c ⟨n + 1, hn⟩ h0 (ih (Nat.lt_of_succ_lt hn))

/-- Every entry of the first result. -/
theorem G10_eq (b : Fin 8) (s : Fin 2048) (d : Fin 1024) :
    (show FVec Ideal S16384x1024 .f32 from G10 m c) (ix2 ⟨2048 * b.val + s.val, by omega⟩ d) = x1 (aa m c) b s d := by
  have hp : pt10Of (ix2 ⟨2048 * b.val + s.val, by omega⟩ d : S16384x1024.Idx) = 2 * b.val + s.val / 1024 := by
    show 1 * ((2048 * b.val + s.val) / 1024 - 0) + 1 * (d.val / 1024 - 0) = _
    omega
  have hlt : 2 * b.val + s.val / 1024 < cfg0.N := by have e : cfg0.N = 16 := N_0; omega
  have hl : loc10Of (ix2 ⟨2048 * b.val + s.val, by omega⟩ d : S16384x1024.Idx) = ix2 ⟨s.val % 1024, by omega⟩ d := by
    idx_ext
  show G10 m c (ix2 ⟨2048 * b.val + s.val, by omega⟩ d : S16384x1024.Idx) = _
  unfold G10
  rw [dif_pos (by rw [hp]; exact hlt), hl, fold0_congr m c _ _ _ (by omega) hp, ← outsAt0_sweep m c _ hlt]
  refine ((left m c _ hlt).1 _ _).trans ?_
  congr 1
  · apply Fin.ext; simp only [sq]; omega
  · apply Fin.ext; simp only [pl, at_]; omega

/-- Every entry of the second result. -/
theorem G11_eq (b : Fin 8) (s : Fin 2048) (d : Fin 1024) :
    (show FVec Ideal S16384x1024 .bf16 from G11 m c) (ix2 ⟨2048 * b.val + s.val, by omega⟩ d) = uu (aa m c) b s d := by
  have hp : pt11Of (ix2 ⟨2048 * b.val + s.val, by omega⟩ d : S16384x1024.Idx) = 2 * b.val + s.val / 1024 := by
    show 1 * ((2048 * b.val + s.val) / 1024 - 0) + 1 * (d.val / 1024 - 0) = _
    omega
  have hlt : 2 * b.val + s.val / 1024 < cfg0.N := by have e : cfg0.N = 16 := N_0; omega
  have hl : loc11Of (ix2 ⟨2048 * b.val + s.val, by omega⟩ d : S16384x1024.Idx) = ix2 ⟨s.val % 1024, by omega⟩ d := by
    idx_ext
  show G11 m c (ix2 ⟨2048 * b.val + s.val, by omega⟩ d : S16384x1024.Idx) = _
  unfold G11
  rw [dif_pos (by rw [hp]; exact hlt), hl, fold0_congr m c _ _ _ (by omega) hp, ← outsAt0_sweep m c _ hlt]
  refine ((left m c _ hlt).2.1 _ _).trans ?_
  congr 1
  · apply Fin.ext; simp only [sq]; omega
  · apply Fin.ext; simp only [pl, at_]; omega

end Outproj
-- ==== Proof.OutTie.lean ====
module

public import proofs.«01_k».proof.Proof.OutSweep

@[expose] public section

/-!
The output projection kernel's first two results are the reference's.
-/

set_option maxRecDepth 16384

noncomputable section

namespace Outproj

open Idealize.ShloMosaic Idealize.SL.Sem
open Idealize.ShloMosaic.TcCoe

variable (m : (b : Loc Cert.OutprojIdeal.nD Cert.OutprojIdeal.τ Cert.OutprojIdeal.sig) → Buf (Elt Ideal) b)
  (m' : (b : Loc Cert.OutprojRefIdeal.nD Cert.OutprojRefIdeal.τ Cert.OutprojRefIdeal.sig) → Buf (Elt Ideal) b)
  (c : Dev Cert.OutprojIdeal.nD)

/-- The two programs are given the same arguments. -/
def Agree : Prop :=
  m' ((c.tc : Thread Cert.OutprojRefIdeal.nD Cert.OutprojRefIdeal.τ).loc Cert.OutprojRefIdeal.main_arg0) = arg0 m c
  ∧ m' ((c.tc : Thread Cert.OutprojRefIdeal.nD Cert.OutprojRefIdeal.τ).loc Cert.OutprojRefIdeal.main_arg1) = arg1 m c
  ∧ m' ((c.tc : Thread Cert.OutprojRefIdeal.nD Cert.OutprojRefIdeal.τ).loc Cert.OutprojRefIdeal.main_arg2) = arg2 m c
  ∧ m' ((c.tc : Thread Cert.OutprojRefIdeal.nD Cert.OutprojRefIdeal.τ).loc Cert.OutprojRefIdeal.main_arg3) = arg3 m c
  ∧ m' ((c.tc : Thread Cert.OutprojRefIdeal.nD Cert.OutprojRefIdeal.τ).loc Cert.OutprojRefIdeal.main_arg4) = arg4 m c
  ∧ m' ((c.tc : Thread Cert.OutprojRefIdeal.nD Cert.OutprojRefIdeal.τ).loc Cert.OutprojRefIdeal.main_arg5) = arg5 m c
  ∧ m' ((c.tc : Thread Cert.OutprojRefIdeal.nD Cert.OutprojRefIdeal.τ).loc Cert.OutprojRefIdeal.main_arg6) = arg6 m c

variable (hag : Agree m m' c)
include hag

/-- The first result. -/
theorem tie0 : Cert.OutprojRefIdeal.Value.res_main_v51 m' c = Cert.OutprojIdeal.Value.G10 m c := by
  obtain ⟨h0, h1, h2, h3, h4, h5, h6⟩ := hag
  rw [Ref.res0, h0, h1, h2, h3, h4, h5, h6]
  funext i
  idx_vars i
  obtain ⟨b, s, rfl⟩ : ∃ (b : Fin 8) (s : Fin 2048), i0 = ⟨2048 * b.val + s.val, by omega⟩ :=
    ⟨⟨i0.val / 2048, by omega⟩, ⟨i0.val % 2048, by omega⟩, by ext; simp only; omega⟩
  exact (Ref.out0_apply (arg0 m c) (arg1 m c) (arg2 m c) (arg3 m c) (arg4 m c) (arg5 m c) (arg6 m c) b s i1).trans (G10_eq m c b s i1).symm

/-- The second result. -/
theorem tie1 : Cert.OutprojRefIdeal.Value.res_main_v53 m' c = Cert.OutprojIdeal.Value.G11 m c := by
  obtain ⟨h0, h1, h2, h3, h4, h5, h6⟩ := hag
  rw [Ref.res1, h0, h1, h2, h3, h4, h5, h6]
  funext i
  idx_vars i
  obtain ⟨b, s, rfl⟩ : ∃ (b : Fin 8) (s : Fin 2048), i0 = ⟨2048 * b.val + s.val, by omega⟩ :=
    ⟨⟨i0.val / 2048, by omega⟩, ⟨i0.val % 2048, by omega⟩, by ext; simp only; omega⟩
  exact (Ref.out1_apply (arg0 m c) (arg1 m c) (arg2 m c) (arg3 m c) (arg4 m c) (arg5 m c) (arg6 m c) b s i1).trans (G11_eq m c b s i1).symm

end Outproj
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.Inproj.Frame
public import proofs.«01_k».proof.Proof.Gen.InprojIdeal.Value
public import proofs.«01_k».proof.Proof.Gen.InprojRefIdeal.Run
public import proofs.«01_k».proof.Proof.Gen.Outproj.Frame
public import proofs.«01_k».proof.Proof.Gen.OutprojIdeal.Value
public import proofs.«01_k».proof.Proof.Gen.OutprojRefIdeal.Run
public import proofs.«01_k».proof.Proof.Tie
public import proofs.«01_k».proof.Proof.InTie
public import proofs.«01_k».proof.Proof.OutTie
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference ends with its arguments unchanged and every counter zero. -/
theorem ref_quiescent : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same on real arguments. -/
theorem ref_quiescent_pre : quiescent_ReferenceIdeal_pre_finite (hPre_finite := Cert.Pre_finite.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On real arguments the kernel's result is the reference's. -/
theorem values : algebraic_KernelIdeal_ReferenceIdeal_pre_finite (hPre_finite := Cert.Pre_finite.Gen.facts) :=
  fun m ρ m' ρ' hpre hag => ⟨fun c => Cert.KernelIdeal.Value.G6 m c, Cert.KernelIdeal.Value.run m ρ,
    (θ_run Cert.ReferenceIdeal.defs _ _).mono (fun _ h c => ⟨(h c).1.trans (MLstm.tie m m' hpre c (hag c)), (h c).2⟩)
      (Cert.ReferenceIdeal.Value.run (F := Ideal) m' ρ')⟩

/-- The projection's reference ends with its arguments unchanged and every counter zero. -/
theorem inproj_ref_quiescent : quiescent_InprojRefIdeal := fun m ρ _ =>
  (θ_run Cert.InprojRefIdeal.defs _ _).mono (fun r h => ⟨fun c => (h c).2.2.2, sem_eq_zero_of_no_sems (by decide) r.2⟩)
    (Cert.InprojRefIdeal.Value.run (F := Ideal) m ρ)

/-- The projection kernel's three results are its reference's. -/
theorem inproj_values : algebraic_InprojIdeal_InprojRefIdeal :=
  fun m ρ m' ρ' _ hag => ⟨fun c => Cert.InprojIdeal.Value.G8 m c, fun c => Cert.InprojIdeal.Value.G9 m c, fun c => Cert.InprojIdeal.Value.G10 m c,
    Cert.InprojIdeal.Value.run m ρ,
    (θ_run Cert.InprojRefIdeal.defs _ _).mono (fun _ h c => ⟨(h c).1.trans (Inproj.tie0 m m' c (hag c)), (h c).2.1.trans (Inproj.tie1 m m' c (hag c)),
        (h c).2.2.1.trans (Inproj.tie2 m m' c (hag c)), (h c).2.2.2⟩)
      (Cert.InprojRefIdeal.Value.run (F := Ideal) m' ρ')⟩

/-- The output projection's reference ends with its arguments unchanged and every counter zero. -/
theorem outproj_ref_quiescent : quiescent_OutprojRefIdeal := fun m ρ _ =>
  (θ_run Cert.OutprojRefIdeal.defs _ _).mono (fun r h => ⟨fun c => (h c).2.2, sem_eq_zero_of_no_sems (by decide) r.2⟩)
    (Cert.OutprojRefIdeal.Value.run (F := Ideal) m ρ)

/-- The output projection kernel's first two results are its reference's. -/
theorem outproj_values : algebraic_OutprojIdeal_OutprojRefIdeal :=
  fun m ρ m' ρ' _ hag =>
    have ha : ∀ c, Outproj.Agree m m' c := fun c =>
      have h := hag c
      ⟨h.1, h.2.1, h.2.2.1, h.2.2.2.1, h.2.2.2.2.1, h.2.2.2.2.2.1, h.2.2.2.2.2.2.1⟩
    ⟨fun c => Cert.OutprojIdeal.Value.G10 m c, fun c => Cert.OutprojIdeal.Value.G11 m c,
      (θ_run Cert.OutprojIdeal.defs _ _).mono (fun _ h c => ⟨(h c).1, (h c).2.1, (h c).2.2.2⟩) (Cert.OutprojIdeal.Value.run (F := Ideal) m ρ),
      (θ_run Cert.OutprojRefIdeal.defs _ _).mono (fun _ h c => ⟨(h c).1.trans (Outproj.tie0 m m' c (ha c)), (h c).2.1.trans (Outproj.tie1 m m' c (ha c)), (h c).2.2⟩)
        (Cert.OutprojRefIdeal.Value.run (F := Ideal) m' ρ')⟩

/-- Everything claimed. -/
theorem claim : Cert.Claim := ⟨Cert.Kernel.Gen.facts, Cert.KernelIdeal.Gen.facts, Cert.ReferenceIdeal.Gen.facts,
  Cert.Inproj.Gen.facts, Cert.InprojIdeal.Gen.facts, Cert.InprojRefIdeal.Gen.facts, Cert.Outproj.Gen.facts, Cert.OutprojIdeal.Gen.facts,
  Cert.OutprojRefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ, ref_quiescent, ref_quiescent_pre,
  fun m ρ _ => Cert.Inproj.Gen.frame m ρ, fun m ρ _ => Cert.InprojIdeal.Gen.frame m ρ, inproj_ref_quiescent,
  fun m ρ _ => Cert.Outproj.Gen.frame m ρ, fun m ρ _ => Cert.OutprojIdeal.Gen.frame m ρ, outproj_ref_quiescent,
  (trivial : preserves_Kernel_KernelIdeal), values, (trivial : preserves_Inproj_InprojIdeal), inproj_values,
  (trivial : preserves_Outproj_OutprojIdeal), outproj_values⟩

end Cert.Proof

end
